-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelProjB (m : (ℓ : Loc Cert.KernelProjB.nD Cert.KernelProjB.τ Cert.KernelProjB.sig) → Buf (Elt Bits) ℓ) : Prop :=
  True

def Pre_KernelProjBIdeal (m : (ℓ : Loc Cert.KernelProjBIdeal.nD Cert.KernelProjBIdeal.τ Cert.KernelProjBIdeal.sig) → Buf (Elt Ideal) ℓ) : Prop :=
  True

def Pre_ReferenceProjBIdeal (m : (ℓ : Loc Cert.ReferenceProjBIdeal.nD Cert.ReferenceProjBIdeal.τ Cert.ReferenceProjBIdeal.sig) → Buf (Elt Ideal) ℓ) : Prop :=
  True

def Pre_KernelProjU (m : (ℓ : Loc Cert.KernelProjU.nD Cert.KernelProjU.τ Cert.KernelProjU.sig) → Buf (Elt Bits) ℓ) : Prop :=
  True

def Pre_KernelProjUIdeal (m : (ℓ : Loc Cert.KernelProjUIdeal.nD Cert.KernelProjUIdeal.τ Cert.KernelProjUIdeal.sig) → Buf (Elt Ideal) ℓ) : Prop :=
  True

def Pre_ReferenceProjUIdeal (m : (ℓ : Loc Cert.ReferenceProjUIdeal.nD Cert.ReferenceProjUIdeal.τ Cert.ReferenceProjUIdeal.sig) → Buf (Elt Ideal) ℓ) : Prop :=
  True

def Pre_KernelProjV (m : (ℓ : Loc Cert.KernelProjV.nD Cert.KernelProjV.τ Cert.KernelProjV.sig) → Buf (Elt Bits) ℓ) : Prop :=
  True

def Pre_KernelProjVIdeal (m : (ℓ : Loc Cert.KernelProjVIdeal.nD Cert.KernelProjVIdeal.τ Cert.KernelProjVIdeal.sig) → Buf (Elt Ideal) ℓ) : Prop :=
  True

def Pre_ReferenceProjVIdeal (m : (ℓ : Loc Cert.ReferenceProjVIdeal.nD Cert.ReferenceProjVIdeal.τ Cert.ReferenceProjVIdeal.sig) → Buf (Elt Ideal) ℓ) : Prop :=
  True

def Pre_KernelProjKV (m : (ℓ : Loc Cert.KernelProjKV.nD Cert.KernelProjKV.τ Cert.KernelProjKV.sig) → Buf (Elt Bits) ℓ) : Prop :=
  True

def Pre_KernelProjKVIdeal (m : (ℓ : Loc Cert.KernelProjKVIdeal.nD Cert.KernelProjKVIdeal.τ Cert.KernelProjKVIdeal.sig) → Buf (Elt Ideal) ℓ) : Prop :=
  True

def Pre_ReferenceProjKVIdeal (m : (ℓ : Loc Cert.ReferenceProjKVIdeal.nD Cert.ReferenceProjKVIdeal.τ Cert.ReferenceProjKVIdeal.sig) → Buf (Elt Ideal) ℓ) : Prop :=
  True

def Pre_KernelProjQ (m : (ℓ : Loc Cert.KernelProjQ.nD Cert.KernelProjQ.τ Cert.KernelProjQ.sig) → Buf (Elt Bits) ℓ) : Prop :=
  True

def Pre_KernelProjQIdeal (m : (ℓ : Loc Cert.KernelProjQIdeal.nD Cert.KernelProjQIdeal.τ Cert.KernelProjQIdeal.sig) → Buf (Elt Ideal) ℓ) : Prop :=
  True

def Pre_ReferenceProjQIdeal (m : (ℓ : Loc Cert.ReferenceProjQIdeal.nD Cert.ReferenceProjQIdeal.τ Cert.ReferenceProjQIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelProjB [hKernelProjB : Cert.KernelProjB.Facts] : Prop :=
  ∀ (m : (ℓ : Loc Cert.KernelProjB.nD Cert.KernelProjB.τ Cert.KernelProjB.sig) → Buf (Elt Bits) ℓ) (g : Dev Cert.KernelProjB.nD → PrngReg), Pre_KernelProjB m →
    θ_run (Cert.KernelProjB.defs (F := Bits)) (onTc (τ := Cert.KernelProjB.τ) (Cert.KernelProjB.main (F := Bits))) ⟨m, fun _ => 0, g⟩ (fun r => (∀ c : Dev Cert.KernelProjB.nD,
      r.2.mem ((c.tc : Thread Cert.KernelProjB.nD Cert.KernelProjB.τ).loc Cert.KernelProjB.main_arg0) = m ((c.tc : Thread Cert.KernelProjB.nD Cert.KernelProjB.τ).loc Cert.KernelProjB.main_arg0)
      ∧ r.2.mem ((c.tc : Thread Cert.KernelProjB.nD Cert.KernelProjB.τ).loc Cert.KernelProjB.main_arg1) = m ((c.tc : Thread Cert.KernelProjB.nD Cert.KernelProjB.τ).loc Cert.KernelProjB.main_arg1))
      ∧ r.2.sem = fun _ => 0)

def quiescent_KernelProjBIdeal [hKernelProjBIdeal : Cert.KernelProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg), Pre_KernelProjBIdeal m →
    θ_run (Cert.KernelProjBIdeal.defs (F := Ideal)) (onTc (τ := Cert.KernelProjBIdeal.τ) (Cert.KernelProjBIdeal.main (F := Ideal))) ⟨m, fun _ => 0, g⟩ (fun r => (∀ c : Dev Cert.KernelProjBIdeal.nD,
      r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
      ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1))
      ∧ r.2.sem = fun _ => 0)

def quiescent_ReferenceProjBIdeal [hReferenceProjBIdeal : Cert.ReferenceProjBIdeal.Facts] : Prop :=
  ∀ (m : (ℓ : Loc Cert.ReferenceProjBIdeal.nD Cert.ReferenceProjBIdeal.τ Cert.ReferenceProjBIdeal.sig) → Buf (Elt Ideal) ℓ) (g : Dev Cert.ReferenceProjBIdeal.nD → PrngReg), Pre_ReferenceProjBIdeal m →
    θ_run (Cert.ReferenceProjBIdeal.defs (F := Ideal)) (onTc (τ := Cert.ReferenceProjBIdeal.τ) (Cert.ReferenceProjBIdeal.main (F := Ideal))) ⟨m, fun _ => 0, g⟩ (fun r => (∀ c : Dev Cert.ReferenceProjBIdeal.nD,
      r.2.mem ((c.tc : Thread Cert.ReferenceProjBIdeal.nD Cert.ReferenceProjBIdeal.τ).loc Cert.ReferenceProjBIdeal.main_arg0) = m ((c.tc : Thread Cert.ReferenceProjBIdeal.nD Cert.ReferenceProjBIdeal.τ).loc Cert.ReferenceProjBIdeal.main_arg0)
      ∧ r.2.mem ((c.tc : Thread Cert.ReferenceProjBIdeal.nD Cert.ReferenceProjBIdeal.τ).loc Cert.ReferenceProjBIdeal.main_arg1) = m ((c.tc : Thread Cert.ReferenceProjBIdeal.nD Cert.ReferenceProjBIdeal.τ).loc Cert.ReferenceProjBIdeal.main_arg1))
      ∧ r.2.sem = fun _ => 0)

def quiescent_KernelProjU [hKernelProjU : Cert.KernelProjU.Facts] : Prop :=
  ∀ (m : (ℓ : Loc Cert.KernelProjU.nD Cert.KernelProjU.τ Cert.KernelProjU.sig) → Buf (Elt Bits) ℓ) (g : Dev Cert.KernelProjU.nD → PrngReg), Pre_KernelProjU m →
    θ_run (Cert.KernelProjU.defs (F := Bits)) (onTc (τ := Cert.KernelProjU.τ) (Cert.KernelProjU.main (F := Bits))) ⟨m, fun _ => 0, g⟩ (fun r => (∀ c : Dev Cert.KernelProjU.nD,
      r.2.mem ((c.tc : Thread Cert.KernelProjU.nD Cert.KernelProjU.τ).loc Cert.KernelProjU.main_arg0) = m ((c.tc : Thread Cert.KernelProjU.nD Cert.KernelProjU.τ).loc Cert.KernelProjU.main_arg0)
      ∧ r.2.mem ((c.tc : Thread Cert.KernelProjU.nD Cert.KernelProjU.τ).loc Cert.KernelProjU.main_arg1) = m ((c.tc : Thread Cert.KernelProjU.nD Cert.KernelProjU.τ).loc Cert.KernelProjU.main_arg1))
      ∧ r.2.sem = fun _ => 0)

def quiescent_KernelProjUIdeal [hKernelProjUIdeal : Cert.KernelProjUIdeal.Facts] : Prop :=
  ∀ (m : (ℓ : Loc Cert.KernelProjUIdeal.nD Cert.KernelProjUIdeal.τ Cert.KernelProjUIdeal.sig) → Buf (Elt Ideal) ℓ) (g : Dev Cert.KernelProjUIdeal.nD → PrngReg), Pre_KernelProjUIdeal m →
    θ_run (Cert.KernelProjUIdeal.defs (F := Ideal)) (onTc (τ := Cert.KernelProjUIdeal.τ) (Cert.KernelProjUIdeal.main (F := Ideal))) ⟨m, fun _ => 0, g⟩ (fun r => (∀ c : Dev Cert.KernelProjUIdeal.nD,
      r.2.mem ((c.tc : Thread Cert.KernelProjUIdeal.nD Cert.KernelProjUIdeal.τ).loc Cert.KernelProjUIdeal.main_arg0) = m ((c.tc : Thread Cert.KernelProjUIdeal.nD Cert.KernelProjUIdeal.τ).loc Cert.KernelProjUIdeal.main_arg0)
      ∧ r.2.mem ((c.tc : Thread Cert.KernelProjUIdeal.nD Cert.KernelProjUIdeal.τ).loc Cert.KernelProjUIdeal.main_arg1) = m ((c.tc : Thread Cert.KernelProjUIdeal.nD Cert.KernelProjUIdeal.τ).loc Cert.KernelProjUIdeal.main_arg1))
      ∧ r.2.sem = fun _ => 0)

def quiescent_ReferenceProjUIdeal [hReferenceProjUIdeal : Cert.ReferenceProjUIdeal.Facts] : Prop :=
  ∀ (m : (ℓ : Loc Cert.ReferenceProjUIdeal.nD Cert.ReferenceProjUIdeal.τ Cert.ReferenceProjUIdeal.sig) → Buf (Elt Ideal) ℓ) (g : Dev Cert.ReferenceProjUIdeal.nD → PrngReg), Pre_ReferenceProjUIdeal m →
    θ_run (Cert.ReferenceProjUIdeal.defs (F := Ideal)) (onTc (τ := Cert.ReferenceProjUIdeal.τ) (Cert.ReferenceProjUIdeal.main (F := Ideal))) ⟨m, fun _ => 0, g⟩ (fun r => (∀ c : Dev Cert.ReferenceProjUIdeal.nD,
      r.2.mem ((c.tc : Thread Cert.ReferenceProjUIdeal.nD Cert.ReferenceProjUIdeal.τ).loc Cert.ReferenceProjUIdeal.main_arg0) = m ((c.tc : Thread Cert.ReferenceProjUIdeal.nD Cert.ReferenceProjUIdeal.τ).loc Cert.ReferenceProjUIdeal.main_arg0)
      ∧ r.2.mem ((c.tc : Thread Cert.ReferenceProjUIdeal.nD Cert.ReferenceProjUIdeal.τ).loc Cert.ReferenceProjUIdeal.main_arg1) = m ((c.tc : Thread Cert.ReferenceProjUIdeal.nD Cert.ReferenceProjUIdeal.τ).loc Cert.ReferenceProjUIdeal.main_arg1))
      ∧ r.2.sem = fun _ => 0)

def quiescent_KernelProjV [hKernelProjV : Cert.KernelProjV.Facts] : Prop :=
  ∀ (m : (ℓ : Loc Cert.KernelProjV.nD Cert.KernelProjV.τ Cert.KernelProjV.sig) → Buf (Elt Bits) ℓ) (g : Dev Cert.KernelProjV.nD → PrngReg), Pre_KernelProjV m →
    θ_run (Cert.KernelProjV.defs (F := Bits)) (onTc (τ := Cert.KernelProjV.τ) (Cert.KernelProjV.main (F := Bits))) ⟨m, fun _ => 0, g⟩ (fun r => (∀ c : Dev Cert.KernelProjV.nD,
      r.2.mem ((c.tc : Thread Cert.KernelProjV.nD Cert.KernelProjV.τ).loc Cert.KernelProjV.main_arg0) = m ((c.tc : Thread Cert.KernelProjV.nD Cert.KernelProjV.τ).loc Cert.KernelProjV.main_arg0)
      ∧ r.2.mem ((c.tc : Thread Cert.KernelProjV.nD Cert.KernelProjV.τ).loc Cert.KernelProjV.main_arg1) = m ((c.tc : Thread Cert.KernelProjV.nD Cert.KernelProjV.τ).loc Cert.KernelProjV.main_arg1)
      ∧ r.2.mem ((c.tc : Thread Cert.KernelProjV.nD Cert.KernelProjV.τ).loc Cert.KernelProjV.main_arg2) = m ((c.tc : Thread Cert.KernelProjV.nD Cert.KernelProjV.τ).loc Cert.KernelProjV.main_arg2))
      ∧ r.2.sem = fun _ => 0)

def quiescent_KernelProjVIdeal [hKernelProjVIdeal : Cert.KernelProjVIdeal.Facts] : Prop :=
  ∀ (m : (ℓ : Loc Cert.KernelProjVIdeal.nD Cert.KernelProjVIdeal.τ Cert.KernelProjVIdeal.sig) → Buf (Elt Ideal) ℓ) (g : Dev Cert.KernelProjVIdeal.nD → PrngReg), Pre_KernelProjVIdeal m →
    θ_run (Cert.KernelProjVIdeal.defs (F := Ideal)) (onTc (τ := Cert.KernelProjVIdeal.τ) (Cert.KernelProjVIdeal.main (F := Ideal))) ⟨m, fun _ => 0, g⟩ (fun r => (∀ c : Dev Cert.KernelProjVIdeal.nD,
      r.2.mem ((c.tc : Thread Cert.KernelProjVIdeal.nD Cert.KernelProjVIdeal.τ).loc Cert.KernelProjVIdeal.main_arg0) = m ((c.tc : Thread Cert.KernelProjVIdeal.nD Cert.KernelProjVIdeal.τ).loc Cert.KernelProjVIdeal.main_arg0)
      ∧ r.2.mem ((c.tc : Thread Cert.KernelProjVIdeal.nD Cert.KernelProjVIdeal.τ).loc Cert.KernelProjVIdeal.main_arg1) = m ((c.tc : Thread Cert.KernelProjVIdeal.nD Cert.KernelProjVIdeal.τ).loc Cert.KernelProjVIdeal.main_arg1)
      ∧ r.2.mem ((c.tc : Thread Cert.KernelProjVIdeal.nD Cert.KernelProjVIdeal.τ).loc Cert.KernelProjVIdeal.main_arg2) = m ((c.tc : Thread Cert.KernelProjVIdeal.nD Cert.KernelProjVIdeal.τ).loc Cert.KernelProjVIdeal.main_arg2))
      ∧ r.2.sem = fun _ => 0)

def quiescent_ReferenceProjVIdeal [hReferenceProjVIdeal : Cert.ReferenceProjVIdeal.Facts] : Prop :=
  ∀ (m : (ℓ : Loc Cert.ReferenceProjVIdeal.nD Cert.ReferenceProjVIdeal.τ Cert.ReferenceProjVIdeal.sig) → Buf (Elt Ideal) ℓ) (g : Dev Cert.ReferenceProjVIdeal.nD → PrngReg), Pre_ReferenceProjVIdeal m →
    θ_run (Cert.ReferenceProjVIdeal.defs (F := Ideal)) (onTc (τ := Cert.ReferenceProjVIdeal.τ) (Cert.ReferenceProjVIdeal.main (F := Ideal))) ⟨m, fun _ => 0, g⟩ (fun r => (∀ c : Dev Cert.ReferenceProjVIdeal.nD,
      r.2.mem ((c.tc : Thread Cert.ReferenceProjVIdeal.nD Cert.ReferenceProjVIdeal.τ).loc Cert.ReferenceProjVIdeal.main_arg0) = m ((c.tc : Thread Cert.ReferenceProjVIdeal.nD Cert.ReferenceProjVIdeal.τ).loc Cert.ReferenceProjVIdeal.main_arg0)
      ∧ r.2.mem ((c.tc : Thread Cert.ReferenceProjVIdeal.nD Cert.ReferenceProjVIdeal.τ).loc Cert.ReferenceProjVIdeal.main_arg1) = m ((c.tc : Thread Cert.ReferenceProjVIdeal.nD Cert.ReferenceProjVIdeal.τ).loc Cert.ReferenceProjVIdeal.main_arg1)
      ∧ r.2.mem ((c.tc : Thread Cert.ReferenceProjVIdeal.nD Cert.ReferenceProjVIdeal.τ).loc Cert.ReferenceProjVIdeal.main_arg2) = m ((c.tc : Thread Cert.ReferenceProjVIdeal.nD Cert.ReferenceProjVIdeal.τ).loc Cert.ReferenceProjVIdeal.main_arg2))
      ∧ r.2.sem = fun _ => 0)

def quiescent_KernelProjKV [hKernelProjKV : Cert.KernelProjKV.Facts] : Prop :=
  ∀ (m : (ℓ : Loc Cert.KernelProjKV.nD Cert.KernelProjKV.τ Cert.KernelProjKV.sig) → Buf (Elt Bits) ℓ) (g : Dev Cert.KernelProjKV.nD → PrngReg), Pre_KernelProjKV m →
    θ_run (Cert.KernelProjKV.defs (F := Bits)) (onTc (τ := Cert.KernelProjKV.τ) (Cert.KernelProjKV.main (F := Bits))) ⟨m, fun _ => 0, g⟩ (fun r => (∀ c : Dev Cert.KernelProjKV.nD,
      r.2.mem ((c.tc : Thread Cert.KernelProjKV.nD Cert.KernelProjKV.τ).loc Cert.KernelProjKV.main_arg0) = m ((c.tc : Thread Cert.KernelProjKV.nD Cert.KernelProjKV.τ).loc Cert.KernelProjKV.main_arg0)
      ∧ r.2.mem ((c.tc : Thread Cert.KernelProjKV.nD Cert.KernelProjKV.τ).loc Cert.KernelProjKV.main_arg1) = m ((c.tc : Thread Cert.KernelProjKV.nD Cert.KernelProjKV.τ).loc Cert.KernelProjKV.main_arg1)
      ∧ r.2.mem ((c.tc : Thread Cert.KernelProjKV.nD Cert.KernelProjKV.τ).loc Cert.KernelProjKV.main_arg2) = m ((c.tc : Thread Cert.KernelProjKV.nD Cert.KernelProjKV.τ).loc Cert.KernelProjKV.main_arg2)
      ∧ r.2.mem ((c.tc : Thread Cert.KernelProjKV.nD Cert.KernelProjKV.τ).loc Cert.KernelProjKV.main_arg3) = m ((c.tc : Thread Cert.KernelProjKV.nD Cert.KernelProjKV.τ).loc Cert.KernelProjKV.main_arg3)
      ∧ r.2.mem ((c.tc : Thread Cert.KernelProjKV.nD Cert.KernelProjKV.τ).loc Cert.KernelProjKV.main_arg4) = m ((c.tc : Thread Cert.KernelProjKV.nD Cert.KernelProjKV.τ).loc Cert.KernelProjKV.main_arg4))
      ∧ r.2.sem = fun _ => 0)

def quiescent_KernelProjKVIdeal [hKernelProjKVIdeal : Cert.KernelProjKVIdeal.Facts] : Prop :=
  ∀ (m : (ℓ : Loc Cert.KernelProjKVIdeal.nD Cert.KernelProjKVIdeal.τ Cert.KernelProjKVIdeal.sig) → Buf (Elt Ideal) ℓ) (g : Dev Cert.KernelProjKVIdeal.nD → PrngReg), Pre_KernelProjKVIdeal m →
    θ_run (Cert.KernelProjKVIdeal.defs (F := Ideal)) (onTc (τ := Cert.KernelProjKVIdeal.τ) (Cert.KernelProjKVIdeal.main (F := Ideal))) ⟨m, fun _ => 0, g⟩ (fun r => (∀ c : Dev Cert.KernelProjKVIdeal.nD,
      r.2.mem ((c.tc : Thread Cert.KernelProjKVIdeal.nD Cert.KernelProjKVIdeal.τ).loc Cert.KernelProjKVIdeal.main_arg0) = m ((c.tc : Thread Cert.KernelProjKVIdeal.nD Cert.KernelProjKVIdeal.τ).loc Cert.KernelProjKVIdeal.main_arg0)
      ∧ r.2.mem ((c.tc : Thread Cert.KernelProjKVIdeal.nD Cert.KernelProjKVIdeal.τ).loc Cert.KernelProjKVIdeal.main_arg1) = m ((c.tc : Thread Cert.KernelProjKVIdeal.nD Cert.KernelProjKVIdeal.τ).loc Cert.KernelProjKVIdeal.main_arg1)
      ∧ r.2.mem ((c.tc : Thread Cert.KernelProjKVIdeal.nD Cert.KernelProjKVIdeal.τ).loc Cert.KernelProjKVIdeal.main_arg2) = m ((c.tc : Thread Cert.KernelProjKVIdeal.nD Cert.KernelProjKVIdeal.τ).loc Cert.KernelProjKVIdeal.main_arg2)
      ∧ r.2.mem ((c.tc : Thread Cert.KernelProjKVIdeal.nD Cert.KernelProjKVIdeal.τ).loc Cert.KernelProjKVIdeal.main_arg3) = m ((c.tc : Thread Cert.KernelProjKVIdeal.nD Cert.KernelProjKVIdeal.τ).loc Cert.KernelProjKVIdeal.main_arg3)
      ∧ r.2.mem ((c.tc : Thread Cert.KernelProjKVIdeal.nD Cert.KernelProjKVIdeal.τ).loc Cert.KernelProjKVIdeal.main_arg4) = m ((c.tc : Thread Cert.KernelProjKVIdeal.nD Cert.KernelProjKVIdeal.τ).loc Cert.KernelProjKVIdeal.main_arg4))
      ∧ r.2.sem = fun _ => 0)

def quiescent_ReferenceProjKVIdeal [hReferenceProjKVIdeal : Cert.ReferenceProjKVIdeal.Facts] : Prop :=
  ∀ (m : (ℓ : Loc Cert.ReferenceProjKVIdeal.nD Cert.ReferenceProjKVIdeal.τ Cert.ReferenceProjKVIdeal.sig) → Buf (Elt Ideal) ℓ) (g : Dev Cert.ReferenceProjKVIdeal.nD → PrngReg), Pre_ReferenceProjKVIdeal m →
    θ_run (Cert.ReferenceProjKVIdeal.defs (F := Ideal)) (onTc (τ := Cert.ReferenceProjKVIdeal.τ) (Cert.ReferenceProjKVIdeal.main (F := Ideal))) ⟨m, fun _ => 0, g⟩ (fun r => (∀ c : Dev Cert.ReferenceProjKVIdeal.nD,
      r.2.mem ((c.tc : Thread Cert.ReferenceProjKVIdeal.nD Cert.ReferenceProjKVIdeal.τ).loc Cert.ReferenceProjKVIdeal.main_arg0) = m ((c.tc : Thread Cert.ReferenceProjKVIdeal.nD Cert.ReferenceProjKVIdeal.τ).loc Cert.ReferenceProjKVIdeal.main_arg0)
      ∧ r.2.mem ((c.tc : Thread Cert.ReferenceProjKVIdeal.nD Cert.ReferenceProjKVIdeal.τ).loc Cert.ReferenceProjKVIdeal.main_arg1) = m ((c.tc : Thread Cert.ReferenceProjKVIdeal.nD Cert.ReferenceProjKVIdeal.τ).loc Cert.ReferenceProjKVIdeal.main_arg1)
      ∧ r.2.mem ((c.tc : Thread Cert.ReferenceProjKVIdeal.nD Cert.ReferenceProjKVIdeal.τ).loc Cert.ReferenceProjKVIdeal.main_arg2) = m ((c.tc : Thread Cert.ReferenceProjKVIdeal.nD Cert.ReferenceProjKVIdeal.τ).loc Cert.ReferenceProjKVIdeal.main_arg2)
      ∧ r.2.mem ((c.tc : Thread Cert.ReferenceProjKVIdeal.nD Cert.ReferenceProjKVIdeal.τ).loc Cert.ReferenceProjKVIdeal.main_arg3) = m ((c.tc : Thread Cert.ReferenceProjKVIdeal.nD Cert.ReferenceProjKVIdeal.τ).loc Cert.ReferenceProjKVIdeal.main_arg3)
      ∧ r.2.mem ((c.tc : Thread Cert.ReferenceProjKVIdeal.nD Cert.ReferenceProjKVIdeal.τ).loc Cert.ReferenceProjKVIdeal.main_arg4) = m ((c.tc : Thread Cert.ReferenceProjKVIdeal.nD Cert.ReferenceProjKVIdeal.τ).loc Cert.ReferenceProjKVIdeal.main_arg4))
      ∧ r.2.sem = fun _ => 0)

def quiescent_KernelProjQ [hKernelProjQ : Cert.KernelProjQ.Facts] : Prop :=
  ∀ (m : (ℓ : Loc Cert.KernelProjQ.nD Cert.KernelProjQ.τ Cert.KernelProjQ.sig) → Buf (Elt Bits) ℓ) (g : Dev Cert.KernelProjQ.nD → PrngReg), Pre_KernelProjQ m →
    θ_run (Cert.KernelProjQ.defs (F := Bits)) (onTc (τ := Cert.KernelProjQ.τ) (Cert.KernelProjQ.main (F := Bits))) ⟨m, fun _ => 0, g⟩ (fun r => (∀ c : Dev Cert.KernelProjQ.nD,
      r.2.mem ((c.tc : Thread Cert.KernelProjQ.nD Cert.KernelProjQ.τ).loc Cert.KernelProjQ.main_arg0) = m ((c.tc : Thread Cert.KernelProjQ.nD Cert.KernelProjQ.τ).loc Cert.KernelProjQ.main_arg0)
      ∧ r.2.mem ((c.tc : Thread Cert.KernelProjQ.nD Cert.KernelProjQ.τ).loc Cert.KernelProjQ.main_arg1) = m ((c.tc : Thread Cert.KernelProjQ.nD Cert.KernelProjQ.τ).loc Cert.KernelProjQ.main_arg1)
      ∧ r.2.mem ((c.tc : Thread Cert.KernelProjQ.nD Cert.KernelProjQ.τ).loc Cert.KernelProjQ.main_arg2) = m ((c.tc : Thread Cert.KernelProjQ.nD Cert.KernelProjQ.τ).loc Cert.KernelProjQ.main_arg2)
      ∧ r.2.mem ((c.tc : Thread Cert.KernelProjQ.nD Cert.KernelProjQ.τ).loc Cert.KernelProjQ.main_arg3) = m ((c.tc : Thread Cert.KernelProjQ.nD Cert.KernelProjQ.τ).loc Cert.KernelProjQ.main_arg3)
      ∧ r.2.mem ((c.tc : Thread Cert.KernelProjQ.nD Cert.KernelProjQ.τ).loc Cert.KernelProjQ.main_arg4) = m ((c.tc : Thread Cert.KernelProjQ.nD Cert.KernelProjQ.τ).loc Cert.KernelProjQ.main_arg4))
      ∧ r.2.sem = fun _ => 0)

def quiescent_KernelProjQIdeal [hKernelProjQIdeal : Cert.KernelProjQIdeal.Facts] : Prop :=
  ∀ (m : (ℓ : Loc Cert.KernelProjQIdeal.nD Cert.KernelProjQIdeal.τ Cert.KernelProjQIdeal.sig) → Buf (Elt Ideal) ℓ) (g : Dev Cert.KernelProjQIdeal.nD → PrngReg), Pre_KernelProjQIdeal m →
    θ_run (Cert.KernelProjQIdeal.defs (F := Ideal)) (onTc (τ := Cert.KernelProjQIdeal.τ) (Cert.KernelProjQIdeal.main (F := Ideal))) ⟨m, fun _ => 0, g⟩ (fun r => (∀ c : Dev Cert.KernelProjQIdeal.nD,
      r.2.mem ((c.tc : Thread Cert.KernelProjQIdeal.nD Cert.KernelProjQIdeal.τ).loc Cert.KernelProjQIdeal.main_arg0) = m ((c.tc : Thread Cert.KernelProjQIdeal.nD Cert.KernelProjQIdeal.τ).loc Cert.KernelProjQIdeal.main_arg0)
      ∧ r.2.mem ((c.tc : Thread Cert.KernelProjQIdeal.nD Cert.KernelProjQIdeal.τ).loc Cert.KernelProjQIdeal.main_arg1) = m ((c.tc : Thread Cert.KernelProjQIdeal.nD Cert.KernelProjQIdeal.τ).loc Cert.KernelProjQIdeal.main_arg1)
      ∧ r.2.mem ((c.tc : Thread Cert.KernelProjQIdeal.nD Cert.KernelProjQIdeal.τ).loc Cert.KernelProjQIdeal.main_arg2) = m ((c.tc : Thread Cert.KernelProjQIdeal.nD Cert.KernelProjQIdeal.τ).loc Cert.KernelProjQIdeal.main_arg2)
      ∧ r.2.mem ((c.tc : Thread Cert.KernelProjQIdeal.nD Cert.KernelProjQIdeal.τ).loc Cert.KernelProjQIdeal.main_arg3) = m ((c.tc : Thread Cert.KernelProjQIdeal.nD Cert.KernelProjQIdeal.τ).loc Cert.KernelProjQIdeal.main_arg3)
      ∧ r.2.mem ((c.tc : Thread Cert.KernelProjQIdeal.nD Cert.KernelProjQIdeal.τ).loc Cert.KernelProjQIdeal.main_arg4) = m ((c.tc : Thread Cert.KernelProjQIdeal.nD Cert.KernelProjQIdeal.τ).loc Cert.KernelProjQIdeal.main_arg4))
      ∧ r.2.sem = fun _ => 0)

def quiescent_ReferenceProjQIdeal [hReferenceProjQIdeal : Cert.ReferenceProjQIdeal.Facts] : Prop :=
  ∀ (m : (ℓ : Loc Cert.ReferenceProjQIdeal.nD Cert.ReferenceProjQIdeal.τ Cert.ReferenceProjQIdeal.sig) → Buf (Elt Ideal) ℓ) (g : Dev Cert.ReferenceProjQIdeal.nD → PrngReg), Pre_ReferenceProjQIdeal m →
    θ_run (Cert.ReferenceProjQIdeal.defs (F := Ideal)) (onTc (τ := Cert.ReferenceProjQIdeal.τ) (Cert.ReferenceProjQIdeal.main (F := Ideal))) ⟨m, fun _ => 0, g⟩ (fun r => (∀ c : Dev Cert.ReferenceProjQIdeal.nD,
      r.2.mem ((c.tc : Thread Cert.ReferenceProjQIdeal.nD Cert.ReferenceProjQIdeal.τ).loc Cert.ReferenceProjQIdeal.main_arg0) = m ((c.tc : Thread Cert.ReferenceProjQIdeal.nD Cert.ReferenceProjQIdeal.τ).loc Cert.ReferenceProjQIdeal.main_arg0)
      ∧ r.2.mem ((c.tc : Thread Cert.ReferenceProjQIdeal.nD Cert.ReferenceProjQIdeal.τ).loc Cert.ReferenceProjQIdeal.main_arg1) = m ((c.tc : Thread Cert.ReferenceProjQIdeal.nD Cert.ReferenceProjQIdeal.τ).loc Cert.ReferenceProjQIdeal.main_arg1)
      ∧ r.2.mem ((c.tc : Thread Cert.ReferenceProjQIdeal.nD Cert.ReferenceProjQIdeal.τ).loc Cert.ReferenceProjQIdeal.main_arg2) = m ((c.tc : Thread Cert.ReferenceProjQIdeal.nD Cert.ReferenceProjQIdeal.τ).loc Cert.ReferenceProjQIdeal.main_arg2)
      ∧ r.2.mem ((c.tc : Thread Cert.ReferenceProjQIdeal.nD Cert.ReferenceProjQIdeal.τ).loc Cert.ReferenceProjQIdeal.main_arg3) = m ((c.tc : Thread Cert.ReferenceProjQIdeal.nD Cert.ReferenceProjQIdeal.τ).loc Cert.ReferenceProjQIdeal.main_arg3)
      ∧ r.2.mem ((c.tc : Thread Cert.ReferenceProjQIdeal.nD Cert.ReferenceProjQIdeal.τ).loc Cert.ReferenceProjQIdeal.main_arg4) = m ((c.tc : Thread Cert.ReferenceProjQIdeal.nD Cert.ReferenceProjQIdeal.τ).loc Cert.ReferenceProjQIdeal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v25) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v24) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelProjB_KernelProjBIdeal : Prop :=
  IdealRules.named_const.Statement Cert.KernelProjBIdeal.κ "query_scale" .f32 0x3E0293EE#32 (((Real.sqrt 128)⁻¹ * (Real.log 2)⁻¹ : ℝ) : EReal)

def algebraic_KernelProjBIdeal_ReferenceProjBIdeal [hKernelProjBIdeal : Cert.KernelProjBIdeal.Facts] [hReferenceProjBIdeal : Cert.ReferenceProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg)
    (m' : (ℓ : Loc Cert.ReferenceProjBIdeal.nD Cert.ReferenceProjBIdeal.τ Cert.ReferenceProjBIdeal.sig) → Buf (Elt Ideal) ℓ) (g' : Dev Cert.ReferenceProjBIdeal.nD → PrngReg), Pre_KernelProjBIdeal m →
    (∀ c : Dev Cert.KernelProjBIdeal.nD,
      m' ((c.tc : Thread Cert.ReferenceProjBIdeal.nD Cert.ReferenceProjBIdeal.τ).loc Cert.ReferenceProjBIdeal.main_arg0) = m ((c.tc : Thread Cert.KernelProjBIdeal.nD Cert.KernelProjBIdeal.τ).loc Cert.KernelProjBIdeal.main_arg0)
      ∧ m' ((c.tc : Thread Cert.ReferenceProjBIdeal.nD Cert.ReferenceProjBIdeal.τ).loc Cert.ReferenceProjBIdeal.main_arg1) = m ((c.tc : Thread Cert.KernelProjBIdeal.nD Cert.KernelProjBIdeal.τ).loc Cert.KernelProjBIdeal.main_arg1)) →
    ∃ (v0 : (c : Dev Cert.KernelProjBIdeal.nD) → Buf (Elt Ideal) ((c.tc : Thread Cert.KernelProjBIdeal.nD Cert.KernelProjBIdeal.τ).loc Cert.KernelProjBIdeal.main_v0)),
      θ_run (Cert.KernelProjBIdeal.defs (F := Ideal)) (onTc (τ := Cert.KernelProjBIdeal.τ) (Cert.KernelProjBIdeal.main (F := Ideal))) ⟨m, fun _ => 0, g⟩ (fun r => ∀ c : Dev Cert.KernelProjBIdeal.nD,
          r.2.mem ((c.tc : Thread Cert.KernelProjBIdeal.nD Cert.KernelProjBIdeal.τ).loc Cert.KernelProjBIdeal.main_v0) = v0 c
          ∧ r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
          ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1))
      ∧ θ_run (Cert.ReferenceProjBIdeal.defs (F := Ideal)) (onTc (τ := Cert.ReferenceProjBIdeal.τ) (Cert.ReferenceProjBIdeal.main (F := Ideal))) ⟨m', fun _ => 0, g'⟩ (fun r => ∀ c : Dev Cert.ReferenceProjBIdeal.nD,
          r.2.mem ((c.tc : Thread Cert.ReferenceProjBIdeal.nD Cert.ReferenceProjBIdeal.τ).loc Cert.ReferenceProjBIdeal.main_v15) = v0 c
          ∧ r.2.mem ((c.tc : Thread Cert.ReferenceProjBIdeal.nD Cert.ReferenceProjBIdeal.τ).loc Cert.ReferenceProjBIdeal.main_arg0) = m' ((c.tc : Thread Cert.ReferenceProjBIdeal.nD Cert.ReferenceProjBIdeal.τ).loc Cert.ReferenceProjBIdeal.main_arg0)
          ∧ r.2.mem ((c.tc : Thread Cert.ReferenceProjBIdeal.nD Cert.ReferenceProjBIdeal.τ).loc Cert.ReferenceProjBIdeal.main_arg1) = m' ((c.tc : Thread Cert.ReferenceProjBIdeal.nD Cert.ReferenceProjBIdeal.τ).loc Cert.ReferenceProjBIdeal.main_arg1))

def preserves_KernelProjU_KernelProjUIdeal : Prop :=
  True

def algebraic_KernelProjUIdeal_ReferenceProjUIdeal [hKernelProjUIdeal : Cert.KernelProjUIdeal.Facts] [hReferenceProjUIdeal : Cert.ReferenceProjUIdeal.Facts] : Prop :=
  ∀ (m : (ℓ : Loc Cert.KernelProjUIdeal.nD Cert.KernelProjUIdeal.τ Cert.KernelProjUIdeal.sig) → Buf (Elt Ideal) ℓ) (g : Dev Cert.KernelProjUIdeal.nD → PrngReg)
    (m' : (ℓ : Loc Cert.ReferenceProjUIdeal.nD Cert.ReferenceProjUIdeal.τ Cert.ReferenceProjUIdeal.sig) → Buf (Elt Ideal) ℓ) (g' : Dev Cert.ReferenceProjUIdeal.nD → PrngReg), Pre_KernelProjUIdeal m →
    (∀ c : Dev Cert.KernelProjUIdeal.nD,
      m' ((c.tc : Thread Cert.ReferenceProjUIdeal.nD Cert.ReferenceProjUIdeal.τ).loc Cert.ReferenceProjUIdeal.main_arg0) = m ((c.tc : Thread Cert.KernelProjUIdeal.nD Cert.KernelProjUIdeal.τ).loc Cert.KernelProjUIdeal.main_arg0)
      ∧ m' ((c.tc : Thread Cert.ReferenceProjUIdeal.nD Cert.ReferenceProjUIdeal.τ).loc Cert.ReferenceProjUIdeal.main_arg1) = m ((c.tc : Thread Cert.KernelProjUIdeal.nD Cert.KernelProjUIdeal.τ).loc Cert.KernelProjUIdeal.main_arg1)) →
    ∃ (v0 : (c : Dev Cert.KernelProjUIdeal.nD) → Buf (Elt Ideal) ((c.tc : Thread Cert.KernelProjUIdeal.nD Cert.KernelProjUIdeal.τ).loc Cert.KernelProjUIdeal.main_v0)),
      θ_run (Cert.KernelProjUIdeal.defs (F := Ideal)) (onTc (τ := Cert.KernelProjUIdeal.τ) (Cert.KernelProjUIdeal.main (F := Ideal))) ⟨m, fun _ => 0, g⟩ (fun r => ∀ c : Dev Cert.KernelProjUIdeal.nD,
          r.2.mem ((c.tc : Thread Cert.KernelProjUIdeal.nD Cert.KernelProjUIdeal.τ).loc Cert.KernelProjUIdeal.main_v0) = v0 c
          ∧ r.2.mem ((c.tc : Thread Cert.KernelProjUIdeal.nD Cert.KernelProjUIdeal.τ).loc Cert.KernelProjUIdeal.main_arg0) = m ((c.tc : Thread Cert.KernelProjUIdeal.nD Cert.KernelProjUIdeal.τ).loc Cert.KernelProjUIdeal.main_arg0)
          ∧ r.2.mem ((c.tc : Thread Cert.KernelProjUIdeal.nD Cert.KernelProjUIdeal.τ).loc Cert.KernelProjUIdeal.main_arg1) = m ((c.tc : Thread Cert.KernelProjUIdeal.nD Cert.KernelProjUIdeal.τ).loc Cert.KernelProjUIdeal.main_arg1))
      ∧ θ_run (Cert.ReferenceProjUIdeal.defs (F := Ideal)) (onTc (τ := Cert.ReferenceProjUIdeal.τ) (Cert.ReferenceProjUIdeal.main (F := Ideal))) ⟨m', fun _ => 0, g'⟩ (fun r => ∀ c : Dev Cert.ReferenceProjUIdeal.nD,
          r.2.mem ((c.tc : Thread Cert.ReferenceProjUIdeal.nD Cert.ReferenceProjUIdeal.τ).loc Cert.ReferenceProjUIdeal.main_v18) = v0 c
          ∧ r.2.mem ((c.tc : Thread Cert.ReferenceProjUIdeal.nD Cert.ReferenceProjUIdeal.τ).loc Cert.ReferenceProjUIdeal.main_arg0) = m' ((c.tc : Thread Cert.ReferenceProjUIdeal.nD Cert.ReferenceProjUIdeal.τ).loc Cert.ReferenceProjUIdeal.main_arg0)
          ∧ r.2.mem ((c.tc : Thread Cert.ReferenceProjUIdeal.nD Cert.ReferenceProjUIdeal.τ).loc Cert.ReferenceProjUIdeal.main_arg1) = m' ((c.tc : Thread Cert.ReferenceProjUIdeal.nD Cert.ReferenceProjUIdeal.τ).loc Cert.ReferenceProjUIdeal.main_arg1))

def preserves_KernelProjV_KernelProjVIdeal : Prop :=
  True

def algebraic_KernelProjVIdeal_ReferenceProjVIdeal [hKernelProjVIdeal : Cert.KernelProjVIdeal.Facts] [hReferenceProjVIdeal : Cert.ReferenceProjVIdeal.Facts] : Prop :=
  ∀ (m : (ℓ : Loc Cert.KernelProjVIdeal.nD Cert.KernelProjVIdeal.τ Cert.KernelProjVIdeal.sig) → Buf (Elt Ideal) ℓ) (g : Dev Cert.KernelProjVIdeal.nD → PrngReg)
    (m' : (ℓ : Loc Cert.ReferenceProjVIdeal.nD Cert.ReferenceProjVIdeal.τ Cert.ReferenceProjVIdeal.sig) → Buf (Elt Ideal) ℓ) (g' : Dev Cert.ReferenceProjVIdeal.nD → PrngReg), Pre_KernelProjVIdeal m →
    (∀ c : Dev Cert.KernelProjVIdeal.nD,
      m' ((c.tc : Thread Cert.ReferenceProjVIdeal.nD Cert.ReferenceProjVIdeal.τ).loc Cert.ReferenceProjVIdeal.main_arg0) = m ((c.tc : Thread Cert.KernelProjVIdeal.nD Cert.KernelProjVIdeal.τ).loc Cert.KernelProjVIdeal.main_arg0)
      ∧ m' ((c.tc : Thread Cert.ReferenceProjVIdeal.nD Cert.ReferenceProjVIdeal.τ).loc Cert.ReferenceProjVIdeal.main_arg1) = m ((c.tc : Thread Cert.KernelProjVIdeal.nD Cert.KernelProjVIdeal.τ).loc Cert.KernelProjVIdeal.main_arg1)
      ∧ m' ((c.tc : Thread Cert.ReferenceProjVIdeal.nD Cert.ReferenceProjVIdeal.τ).loc Cert.ReferenceProjVIdeal.main_arg2) = m ((c.tc : Thread Cert.KernelProjVIdeal.nD Cert.KernelProjVIdeal.τ).loc Cert.KernelProjVIdeal.main_arg2)) →
    ∃ (v0 : (c : Dev Cert.KernelProjVIdeal.nD) → Buf (Elt Ideal) ((c.tc : Thread Cert.KernelProjVIdeal.nD Cert.KernelProjVIdeal.τ).loc Cert.KernelProjVIdeal.main_v1)),
      θ_run (Cert.KernelProjVIdeal.defs (F := Ideal)) (onTc (τ := Cert.KernelProjVIdeal.τ) (Cert.KernelProjVIdeal.main (F := Ideal))) ⟨m, fun _ => 0, g⟩ (fun r => ∀ c : Dev Cert.KernelProjVIdeal.nD,
          r.2.mem ((c.tc : Thread Cert.KernelProjVIdeal.nD Cert.KernelProjVIdeal.τ).loc Cert.KernelProjVIdeal.main_v1) = v0 c
          ∧ r.2.mem ((c.tc : Thread Cert.KernelProjVIdeal.nD Cert.KernelProjVIdeal.τ).loc Cert.KernelProjVIdeal.main_arg0) = m ((c.tc : Thread Cert.KernelProjVIdeal.nD Cert.KernelProjVIdeal.τ).loc Cert.KernelProjVIdeal.main_arg0)
          ∧ r.2.mem ((c.tc : Thread Cert.KernelProjVIdeal.nD Cert.KernelProjVIdeal.τ).loc Cert.KernelProjVIdeal.main_arg1) = m ((c.tc : Thread Cert.KernelProjVIdeal.nD Cert.KernelProjVIdeal.τ).loc Cert.KernelProjVIdeal.main_arg1)
          ∧ r.2.mem ((c.tc : Thread Cert.KernelProjVIdeal.nD Cert.KernelProjVIdeal.τ).loc Cert.KernelProjVIdeal.main_arg2) = m ((c.tc : Thread Cert.KernelProjVIdeal.nD Cert.KernelProjVIdeal.τ).loc Cert.KernelProjVIdeal.main_arg2))
      ∧ θ_run (Cert.ReferenceProjVIdeal.defs (F := Ideal)) (onTc (τ := Cert.ReferenceProjVIdeal.τ) (Cert.ReferenceProjVIdeal.main (F := Ideal))) ⟨m', fun _ => 0, g'⟩ (fun r => ∀ c : Dev Cert.ReferenceProjVIdeal.nD,
          r.2.mem ((c.tc : Thread Cert.ReferenceProjVIdeal.nD Cert.ReferenceProjVIdeal.τ).loc Cert.ReferenceProjVIdeal.main_v37) = v0 c
          ∧ r.2.mem ((c.tc : Thread Cert.ReferenceProjVIdeal.nD Cert.ReferenceProjVIdeal.τ).loc Cert.ReferenceProjVIdeal.main_arg0) = m' ((c.tc : Thread Cert.ReferenceProjVIdeal.nD Cert.ReferenceProjVIdeal.τ).loc Cert.ReferenceProjVIdeal.main_arg0)
          ∧ r.2.mem ((c.tc : Thread Cert.ReferenceProjVIdeal.nD Cert.ReferenceProjVIdeal.τ).loc Cert.ReferenceProjVIdeal.main_arg1) = m' ((c.tc : Thread Cert.ReferenceProjVIdeal.nD Cert.ReferenceProjVIdeal.τ).loc Cert.ReferenceProjVIdeal.main_arg1)
          ∧ r.2.mem ((c.tc : Thread Cert.ReferenceProjVIdeal.nD Cert.ReferenceProjVIdeal.τ).loc Cert.ReferenceProjVIdeal.main_arg2) = m' ((c.tc : Thread Cert.ReferenceProjVIdeal.nD Cert.ReferenceProjVIdeal.τ).loc Cert.ReferenceProjVIdeal.main_arg2))

def preserves_KernelProjKV_KernelProjKVIdeal : Prop :=
  True

def algebraic_KernelProjKVIdeal_ReferenceProjKVIdeal [hKernelProjKVIdeal : Cert.KernelProjKVIdeal.Facts] [hReferenceProjKVIdeal : Cert.ReferenceProjKVIdeal.Facts] : Prop :=
  ∀ (m : (ℓ : Loc Cert.KernelProjKVIdeal.nD Cert.KernelProjKVIdeal.τ Cert.KernelProjKVIdeal.sig) → Buf (Elt Ideal) ℓ) (g : Dev Cert.KernelProjKVIdeal.nD → PrngReg)
    (m' : (ℓ : Loc Cert.ReferenceProjKVIdeal.nD Cert.ReferenceProjKVIdeal.τ Cert.ReferenceProjKVIdeal.sig) → Buf (Elt Ideal) ℓ) (g' : Dev Cert.ReferenceProjKVIdeal.nD → PrngReg), Pre_KernelProjKVIdeal m →
    (∀ c : Dev Cert.KernelProjKVIdeal.nD,
      m' ((c.tc : Thread Cert.ReferenceProjKVIdeal.nD Cert.ReferenceProjKVIdeal.τ).loc Cert.ReferenceProjKVIdeal.main_arg0) = m ((c.tc : Thread Cert.KernelProjKVIdeal.nD Cert.KernelProjKVIdeal.τ).loc Cert.KernelProjKVIdeal.main_arg0)
      ∧ m' ((c.tc : Thread Cert.ReferenceProjKVIdeal.nD Cert.ReferenceProjKVIdeal.τ).loc Cert.ReferenceProjKVIdeal.main_arg1) = m ((c.tc : Thread Cert.KernelProjKVIdeal.nD Cert.KernelProjKVIdeal.τ).loc Cert.KernelProjKVIdeal.main_arg1)
      ∧ m' ((c.tc : Thread Cert.ReferenceProjKVIdeal.nD Cert.ReferenceProjKVIdeal.τ).loc Cert.ReferenceProjKVIdeal.main_arg2) = m ((c.tc : Thread Cert.KernelProjKVIdeal.nD Cert.KernelProjKVIdeal.τ).loc Cert.KernelProjKVIdeal.main_arg2)
      ∧ m' ((c.tc : Thread Cert.ReferenceProjKVIdeal.nD Cert.ReferenceProjKVIdeal.τ).loc Cert.ReferenceProjKVIdeal.main_arg3) = m ((c.tc : Thread Cert.KernelProjKVIdeal.nD Cert.KernelProjKVIdeal.τ).loc Cert.KernelProjKVIdeal.main_arg3)
      ∧ m' ((c.tc : Thread Cert.ReferenceProjKVIdeal.nD Cert.ReferenceProjKVIdeal.τ).loc Cert.ReferenceProjKVIdeal.main_arg4) = m ((c.tc : Thread Cert.KernelProjKVIdeal.nD Cert.KernelProjKVIdeal.τ).loc Cert.KernelProjKVIdeal.main_arg4)) →
    ∃ (v0 : (c : Dev Cert.KernelProjKVIdeal.nD) → Buf (Elt Ideal) ((c.tc : Thread Cert.KernelProjKVIdeal.nD Cert.KernelProjKVIdeal.τ).loc Cert.KernelProjKVIdeal.main_v14)),
      θ_run (Cert.KernelProjKVIdeal.defs (F := Ideal)) (onTc (τ := Cert.KernelProjKVIdeal.τ) (Cert.KernelProjKVIdeal.main (F := Ideal))) ⟨m, fun _ => 0, g⟩ (fun r => ∀ c : Dev Cert.KernelProjKVIdeal.nD,
          r.2.mem ((c.tc : Thread Cert.KernelProjKVIdeal.nD Cert.KernelProjKVIdeal.τ).loc Cert.KernelProjKVIdeal.main_v14) = v0 c
          ∧ r.2.mem ((c.tc : Thread Cert.KernelProjKVIdeal.nD Cert.KernelProjKVIdeal.τ).loc Cert.KernelProjKVIdeal.main_arg0) = m ((c.tc : Thread Cert.KernelProjKVIdeal.nD Cert.KernelProjKVIdeal.τ).loc Cert.KernelProjKVIdeal.main_arg0)
          ∧ r.2.mem ((c.tc : Thread Cert.KernelProjKVIdeal.nD Cert.KernelProjKVIdeal.τ).loc Cert.KernelProjKVIdeal.main_arg1) = m ((c.tc : Thread Cert.KernelProjKVIdeal.nD Cert.KernelProjKVIdeal.τ).loc Cert.KernelProjKVIdeal.main_arg1)
          ∧ r.2.mem ((c.tc : Thread Cert.KernelProjKVIdeal.nD Cert.KernelProjKVIdeal.τ).loc Cert.KernelProjKVIdeal.main_arg2) = m ((c.tc : Thread Cert.KernelProjKVIdeal.nD Cert.KernelProjKVIdeal.τ).loc Cert.KernelProjKVIdeal.main_arg2)
          ∧ r.2.mem ((c.tc : Thread Cert.KernelProjKVIdeal.nD Cert.KernelProjKVIdeal.τ).loc Cert.KernelProjKVIdeal.main_arg3) = m ((c.tc : Thread Cert.KernelProjKVIdeal.nD Cert.KernelProjKVIdeal.τ).loc Cert.KernelProjKVIdeal.main_arg3)
          ∧ r.2.mem ((c.tc : Thread Cert.KernelProjKVIdeal.nD Cert.KernelProjKVIdeal.τ).loc Cert.KernelProjKVIdeal.main_arg4) = m ((c.tc : Thread Cert.KernelProjKVIdeal.nD Cert.KernelProjKVIdeal.τ).loc Cert.KernelProjKVIdeal.main_arg4))
      ∧ θ_run (Cert.ReferenceProjKVIdeal.defs (F := Ideal)) (onTc (τ := Cert.ReferenceProjKVIdeal.τ) (Cert.ReferenceProjKVIdeal.main (F := Ideal))) ⟨m', fun _ => 0, g'⟩ (fun r => ∀ c : Dev Cert.ReferenceProjKVIdeal.nD,
          r.2.mem ((c.tc : Thread Cert.ReferenceProjKVIdeal.nD Cert.ReferenceProjKVIdeal.τ).loc Cert.ReferenceProjKVIdeal.main_v46) = v0 c
          ∧ r.2.mem ((c.tc : Thread Cert.ReferenceProjKVIdeal.nD Cert.ReferenceProjKVIdeal.τ).loc Cert.ReferenceProjKVIdeal.main_arg0) = m' ((c.tc : Thread Cert.ReferenceProjKVIdeal.nD Cert.ReferenceProjKVIdeal.τ).loc Cert.ReferenceProjKVIdeal.main_arg0)
          ∧ r.2.mem ((c.tc : Thread Cert.ReferenceProjKVIdeal.nD Cert.ReferenceProjKVIdeal.τ).loc Cert.ReferenceProjKVIdeal.main_arg1) = m' ((c.tc : Thread Cert.ReferenceProjKVIdeal.nD Cert.ReferenceProjKVIdeal.τ).loc Cert.ReferenceProjKVIdeal.main_arg1)
          ∧ r.2.mem ((c.tc : Thread Cert.ReferenceProjKVIdeal.nD Cert.ReferenceProjKVIdeal.τ).loc Cert.ReferenceProjKVIdeal.main_arg2) = m' ((c.tc : Thread Cert.ReferenceProjKVIdeal.nD Cert.ReferenceProjKVIdeal.τ).loc Cert.ReferenceProjKVIdeal.main_arg2)
          ∧ r.2.mem ((c.tc : Thread Cert.ReferenceProjKVIdeal.nD Cert.ReferenceProjKVIdeal.τ).loc Cert.ReferenceProjKVIdeal.main_arg3) = m' ((c.tc : Thread Cert.ReferenceProjKVIdeal.nD Cert.ReferenceProjKVIdeal.τ).loc Cert.ReferenceProjKVIdeal.main_arg3)
          ∧ r.2.mem ((c.tc : Thread Cert.ReferenceProjKVIdeal.nD Cert.ReferenceProjKVIdeal.τ).loc Cert.ReferenceProjKVIdeal.main_arg4) = m' ((c.tc : Thread Cert.ReferenceProjKVIdeal.nD Cert.ReferenceProjKVIdeal.τ).loc Cert.ReferenceProjKVIdeal.main_arg4))

def preserves_KernelProjQ_KernelProjQIdeal : Prop :=
  IdealRules.named_const.Statement Cert.KernelProjQIdeal.κ "query_scale" .f32 0x3E0293EE#32 (((Real.sqrt 128)⁻¹ * (Real.log 2)⁻¹ : ℝ) : EReal)

def algebraic_KernelProjQIdeal_ReferenceProjQIdeal [hKernelProjQIdeal : Cert.KernelProjQIdeal.Facts] [hReferenceProjQIdeal : Cert.ReferenceProjQIdeal.Facts] : Prop :=
  ∀ (m : (ℓ : Loc Cert.KernelProjQIdeal.nD Cert.KernelProjQIdeal.τ Cert.KernelProjQIdeal.sig) → Buf (Elt Ideal) ℓ) (g : Dev Cert.KernelProjQIdeal.nD → PrngReg)
    (m' : (ℓ : Loc Cert.ReferenceProjQIdeal.nD Cert.ReferenceProjQIdeal.τ Cert.ReferenceProjQIdeal.sig) → Buf (Elt Ideal) ℓ) (g' : Dev Cert.ReferenceProjQIdeal.nD → PrngReg), Pre_KernelProjQIdeal m →
    (∀ c : Dev Cert.KernelProjQIdeal.nD,
      m' ((c.tc : Thread Cert.ReferenceProjQIdeal.nD Cert.ReferenceProjQIdeal.τ).loc Cert.ReferenceProjQIdeal.main_arg0) = m ((c.tc : Thread Cert.KernelProjQIdeal.nD Cert.KernelProjQIdeal.τ).loc Cert.KernelProjQIdeal.main_arg0)
      ∧ m' ((c.tc : Thread Cert.ReferenceProjQIdeal.nD Cert.ReferenceProjQIdeal.τ).loc Cert.ReferenceProjQIdeal.main_arg1) = m ((c.tc : Thread Cert.KernelProjQIdeal.nD Cert.KernelProjQIdeal.τ).loc Cert.KernelProjQIdeal.main_arg1)
      ∧ m' ((c.tc : Thread Cert.ReferenceProjQIdeal.nD Cert.ReferenceProjQIdeal.τ).loc Cert.ReferenceProjQIdeal.main_arg2) = m ((c.tc : Thread Cert.KernelProjQIdeal.nD Cert.KernelProjQIdeal.τ).loc Cert.KernelProjQIdeal.main_arg2)
      ∧ m' ((c.tc : Thread Cert.ReferenceProjQIdeal.nD Cert.ReferenceProjQIdeal.τ).loc Cert.ReferenceProjQIdeal.main_arg3) = m ((c.tc : Thread Cert.KernelProjQIdeal.nD Cert.KernelProjQIdeal.τ).loc Cert.KernelProjQIdeal.main_arg3)
      ∧ m' ((c.tc : Thread Cert.ReferenceProjQIdeal.nD Cert.ReferenceProjQIdeal.τ).loc Cert.ReferenceProjQIdeal.main_arg4) = m ((c.tc : Thread Cert.KernelProjQIdeal.nD Cert.KernelProjQIdeal.τ).loc Cert.KernelProjQIdeal.main_arg4)) →
    ∃ (v0 : (c : Dev Cert.KernelProjQIdeal.nD) → Buf (Elt Ideal) ((c.tc : Thread Cert.KernelProjQIdeal.nD Cert.KernelProjQIdeal.τ).loc Cert.KernelProjQIdeal.main_v14)),
      θ_run (Cert.KernelProjQIdeal.defs (F := Ideal)) (onTc (τ := Cert.KernelProjQIdeal.τ) (Cert.KernelProjQIdeal.main (F := Ideal))) ⟨m, fun _ => 0, g⟩ (fun r => ∀ c : Dev Cert.KernelProjQIdeal.nD,
          r.2.mem ((c.tc : Thread Cert.KernelProjQIdeal.nD Cert.KernelProjQIdeal.τ).loc Cert.KernelProjQIdeal.main_v14) = v0 c
          ∧ r.2.mem ((c.tc : Thread Cert.KernelProjQIdeal.nD Cert.KernelProjQIdeal.τ).loc Cert.KernelProjQIdeal.main_arg0) = m ((c.tc : Thread Cert.KernelProjQIdeal.nD Cert.KernelProjQIdeal.τ).loc Cert.KernelProjQIdeal.main_arg0)
          ∧ r.2.mem ((c.tc : Thread Cert.KernelProjQIdeal.nD Cert.KernelProjQIdeal.τ).loc Cert.KernelProjQIdeal.main_arg1) = m ((c.tc : Thread Cert.KernelProjQIdeal.nD Cert.KernelProjQIdeal.τ).loc Cert.KernelProjQIdeal.main_arg1)
          ∧ r.2.mem ((c.tc : Thread Cert.KernelProjQIdeal.nD Cert.KernelProjQIdeal.τ).loc Cert.KernelProjQIdeal.main_arg2) = m ((c.tc : Thread Cert.KernelProjQIdeal.nD Cert.KernelProjQIdeal.τ).loc Cert.KernelProjQIdeal.main_arg2)
          ∧ r.2.mem ((c.tc : Thread Cert.KernelProjQIdeal.nD Cert.KernelProjQIdeal.τ).loc Cert.KernelProjQIdeal.main_arg3) = m ((c.tc : Thread Cert.KernelProjQIdeal.nD Cert.KernelProjQIdeal.τ).loc Cert.KernelProjQIdeal.main_arg3)
          ∧ r.2.mem ((c.tc : Thread Cert.KernelProjQIdeal.nD Cert.KernelProjQIdeal.τ).loc Cert.KernelProjQIdeal.main_arg4) = m ((c.tc : Thread Cert.KernelProjQIdeal.nD Cert.KernelProjQIdeal.τ).loc Cert.KernelProjQIdeal.main_arg4))
      ∧ θ_run (Cert.ReferenceProjQIdeal.defs (F := Ideal)) (onTc (τ := Cert.ReferenceProjQIdeal.τ) (Cert.ReferenceProjQIdeal.main (F := Ideal))) ⟨m', fun _ => 0, g'⟩ (fun r => ∀ c : Dev Cert.ReferenceProjQIdeal.nD,
          r.2.mem ((c.tc : Thread Cert.ReferenceProjQIdeal.nD Cert.ReferenceProjQIdeal.τ).loc Cert.ReferenceProjQIdeal.main_v49) = v0 c
          ∧ r.2.mem ((c.tc : Thread Cert.ReferenceProjQIdeal.nD Cert.ReferenceProjQIdeal.τ).loc Cert.ReferenceProjQIdeal.main_arg0) = m' ((c.tc : Thread Cert.ReferenceProjQIdeal.nD Cert.ReferenceProjQIdeal.τ).loc Cert.ReferenceProjQIdeal.main_arg0)
          ∧ r.2.mem ((c.tc : Thread Cert.ReferenceProjQIdeal.nD Cert.ReferenceProjQIdeal.τ).loc Cert.ReferenceProjQIdeal.main_arg1) = m' ((c.tc : Thread Cert.ReferenceProjQIdeal.nD Cert.ReferenceProjQIdeal.τ).loc Cert.ReferenceProjQIdeal.main_arg1)
          ∧ r.2.mem ((c.tc : Thread Cert.ReferenceProjQIdeal.nD Cert.ReferenceProjQIdeal.τ).loc Cert.ReferenceProjQIdeal.main_arg2) = m' ((c.tc : Thread Cert.ReferenceProjQIdeal.nD Cert.ReferenceProjQIdeal.τ).loc Cert.ReferenceProjQIdeal.main_arg2)
          ∧ r.2.mem ((c.tc : Thread Cert.ReferenceProjQIdeal.nD Cert.ReferenceProjQIdeal.τ).loc Cert.ReferenceProjQIdeal.main_arg3) = m' ((c.tc : Thread Cert.ReferenceProjQIdeal.nD Cert.ReferenceProjQIdeal.τ).loc Cert.ReferenceProjQIdeal.main_arg3)
          ∧ r.2.mem ((c.tc : Thread Cert.ReferenceProjQIdeal.nD Cert.ReferenceProjQIdeal.τ).loc Cert.ReferenceProjQIdeal.main_arg4) = m' ((c.tc : Thread Cert.ReferenceProjQIdeal.nD Cert.ReferenceProjQIdeal.τ).loc Cert.ReferenceProjQIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelProjB : Cert.KernelProjB.Facts) (hKernelProjBIdeal : Cert.KernelProjBIdeal.Facts) (hReferenceProjBIdeal : Cert.ReferenceProjBIdeal.Facts) (hKernelProjU : Cert.KernelProjU.Facts) (hKernelProjUIdeal : Cert.KernelProjUIdeal.Facts) (hReferenceProjUIdeal : Cert.ReferenceProjUIdeal.Facts) (hKernelProjV : Cert.KernelProjV.Facts) (hKernelProjVIdeal : Cert.KernelProjVIdeal.Facts) (hReferenceProjVIdeal : Cert.ReferenceProjVIdeal.Facts) (hKernelProjKV : Cert.KernelProjKV.Facts) (hKernelProjKVIdeal : Cert.KernelProjKVIdeal.Facts) (hReferenceProjKVIdeal : Cert.ReferenceProjKVIdeal.Facts) (hKernelProjQ : Cert.KernelProjQ.Facts) (hKernelProjQIdeal : Cert.KernelProjQIdeal.Facts) (hReferenceProjQIdeal : Cert.ReferenceProjQIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelProjB (hKernelProjB := hKernelProjB)
    ∧ quiescent_KernelProjBIdeal (hKernelProjBIdeal := hKernelProjBIdeal)
    ∧ quiescent_ReferenceProjBIdeal (hReferenceProjBIdeal := hReferenceProjBIdeal)
    ∧ quiescent_KernelProjU (hKernelProjU := hKernelProjU)
    ∧ quiescent_KernelProjUIdeal (hKernelProjUIdeal := hKernelProjUIdeal)
    ∧ quiescent_ReferenceProjUIdeal (hReferenceProjUIdeal := hReferenceProjUIdeal)
    ∧ quiescent_KernelProjV (hKernelProjV := hKernelProjV)
    ∧ quiescent_KernelProjVIdeal (hKernelProjVIdeal := hKernelProjVIdeal)
    ∧ quiescent_ReferenceProjVIdeal (hReferenceProjVIdeal := hReferenceProjVIdeal)
    ∧ quiescent_KernelProjKV (hKernelProjKV := hKernelProjKV)
    ∧ quiescent_KernelProjKVIdeal (hKernelProjKVIdeal := hKernelProjKVIdeal)
    ∧ quiescent_ReferenceProjKVIdeal (hReferenceProjKVIdeal := hReferenceProjKVIdeal)
    ∧ quiescent_KernelProjQ (hKernelProjQ := hKernelProjQ)
    ∧ quiescent_KernelProjQIdeal (hKernelProjQIdeal := hKernelProjQIdeal)
    ∧ quiescent_ReferenceProjQIdeal (hReferenceProjQIdeal := hReferenceProjQIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelProjB_KernelProjBIdeal
    ∧ algebraic_KernelProjBIdeal_ReferenceProjBIdeal (hKernelProjBIdeal := hKernelProjBIdeal) (hReferenceProjBIdeal := hReferenceProjBIdeal)
    ∧ preserves_KernelProjU_KernelProjUIdeal
    ∧ algebraic_KernelProjUIdeal_ReferenceProjUIdeal (hKernelProjUIdeal := hKernelProjUIdeal) (hReferenceProjUIdeal := hReferenceProjUIdeal)
    ∧ preserves_KernelProjV_KernelProjVIdeal
    ∧ algebraic_KernelProjVIdeal_ReferenceProjVIdeal (hKernelProjVIdeal := hKernelProjVIdeal) (hReferenceProjVIdeal := hReferenceProjVIdeal)
    ∧ preserves_KernelProjKV_KernelProjKVIdeal
    ∧ algebraic_KernelProjKVIdeal_ReferenceProjKVIdeal (hKernelProjKVIdeal := hKernelProjKVIdeal) (hReferenceProjKVIdeal := hReferenceProjKVIdeal)
    ∧ preserves_KernelProjQ_KernelProjQIdeal
    ∧ algebraic_KernelProjQIdeal_ReferenceProjQIdeal (hKernelProjQIdeal := hKernelProjQIdeal) (hReferenceProjQIdeal := hReferenceProjQIdeal)
-- ==== Pre_finite_qk.lean ====
abbrev S16640x2048 : Shape := ⟨2, ![16640, 2048]⟩
abbrev S16640x1024 : Shape := ⟨2, ![16640, 1024]⟩
abbrev S_ : Shape := ⟨0, ![]⟩
abbrev S16640x512 : Shape := ⟨2, ![16640, 512]⟩

class Facts : Prop where
  bitsLt_bf16_f32 : FTy.bits .bf16 < FTy.bits .f32
  bcast_S_S16640x2048 : S_.BroadcastsInDim S16640x2048 (![] : Fin 0 → Fin S16640x2048.rank)
  slices_S16640x1024_S16640x512_0_0 : S16640x1024.Slices ![0, 0] S16640x512
  bcast_S_S16640x512 : S_.BroadcastsInDim S16640x512 (![] : Fin 0 → Fin S16640x512.rank)

variable [Facts]

def fn {F : FTy → Type} [FloatOps F] (main_arg0 : FVec F S16640x2048 .bf16) (main_arg1 : FVec F S16640x1024 .bf16) : IVec S16640x2048 1 × IVec S16640x512 1 :=
  let main_v0 : FVec F S16640x2048 .f32 := (extf .f32 · bitsLt_bf16_f32) main_arg0
  let main_v1 : FVec F S16640x2048 .f32 := Host.absf main_v0
  let main_cst : FVec F S_ .f32 := constant S_ .f32 0x7F800000#32
  let main_v2 : FVec F S16640x2048 .f32 := broadcastInDim S16640x2048 ![] bcast_S_S16640x2048 main_cst
  let main_v3 : IVec S16640x2048 1 := cmpf .olt main_v1 main_v2
  let main_v4 : FVec F S16640x512 .bf16 := (extractStridedSlice S16640x512 ![0, 0] · slices_S16640x1024_S16640x512_0_0) main_arg1
  let main_v5 : FVec F S16640x512 .f32 := (extf .f32 · bitsLt_bf16_f32) main_v4
  let main_v6 : FVec F S16640x512 .f32 := Host.absf main_v5
  let main_cst_0 : FVec F S_ .f32 := constant S_ .f32 0x7F800000#32
  let main_v7 : FVec F S16640x512 .f32 := broadcastInDim S16640x512 ![] bcast_S_S16640x512 main_cst_0
  let main_v8 : IVec S16640x512 1 := cmpf .olt main_v6 main_v7
  (main_v3, main_v8)
-- ==== Kernel.lean ====
abbrev S16640x2048 : Shape := ⟨2, ![16640, 2048]⟩
abbrev S16640x1024 : Shape := ⟨2, ![16640, 1024]⟩
abbrev S16640x512 : Shape := ⟨2, ![16640, 512]⟩
abbrev S512x16640 : Shape := ⟨2, ![512, 16640]⟩
abbrev S256x512 : Shape := ⟨2, ![256, 512]⟩
abbrev S128x16640 : Shape := ⟨2, ![128, 16640]⟩
abbrev S16640x128 : Shape := ⟨2, ![16640, 128]⟩
abbrev S1024x128 : Shape := ⟨2, ![1024, 128]⟩
abbrev S256x128 : Shape := ⟨2, ![256, 128]⟩
abbrev S128x3328 : Shape := ⟨2, ![128, 3328]⟩
abbrev S3328x128 : Shape := ⟨2, ![3328, 128]⟩
abbrev S1024x3328 : Shape := ⟨2, ![1024, 3328]⟩
abbrev S1024 : Shape := ⟨1, ![1024]⟩
abbrev S1024x1 : Shape := ⟨2, ![1024, 1]⟩
abbrev S128x256 : Shape := ⟨2, ![128, 256]⟩
abbrev S1024x256 : Shape := ⟨2, ![1024, 256]⟩

abbrev nBuf : Space → Nat
  | .hbm => 5
  | .vmem => 12
  | .smem => 0
  | _ => 0

abbrev bufTy : (tb : Table) → Fin (tcTables nBuf tb) → BufTy
  | .hbm, ⟨0, _⟩ => ⟨S16640x2048, .bf16⟩
  | .hbm, ⟨1, _⟩ => ⟨S16640x1024, .bf16⟩
  | .hbm, ⟨2, _⟩ => ⟨S16640x512, .bf16⟩
  | .hbm, ⟨3, _⟩ => ⟨S512x16640, .bf16⟩
  | .hbm, ⟨4, _⟩ => ⟨S16640x2048, .bf16⟩
  | .local _ .vmem, ⟨0, _⟩ => ⟨S256x512, .bf16⟩
  | .local _ .vmem, ⟨1, _⟩ => ⟨S256x512, .bf16⟩
  | .local _ .vmem, ⟨2, _⟩ => ⟨S128x16640, .bf16⟩
  | .local _ .vmem, ⟨3, _⟩ => ⟨S128x16640, .bf16⟩
  | .local _ .vmem, ⟨4, _⟩ => ⟨S16640x128, .bf16⟩
  | .local _ .vmem, ⟨5, _⟩ => ⟨S16640x128, .bf16⟩
  | .local _ .vmem, ⟨6, _⟩ => ⟨S256x512, .bf16⟩
  | .local _ .vmem, ⟨7, _⟩ => ⟨S256x512, .bf16⟩
  | .local _ .vmem, ⟨8, _⟩ => ⟨S1024x128, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 65], ![false, false]⟩

def k0_cond1 (i : grid0.Coords) : BitVec 1 :=
  let arg1 : BitVec 32 := BitVec.ofNat 32 (i 1).val
  let c256_i32 : BitVec 32 := 256#32
  let v28 : BitVec 32 := Scalar.muli arg1 c256_i32
  let c16384_i32 : BitVec 32 := 16384#32
  let v29 : BitVec 1 := Scalar.cmpi .sge v28 c16384_i32
  let v_true : BitVec 1 := 1#1
  let v30 : BitVec 1 := Scalar.xori v29 v_true
  let v31 : BitVec 32 := Scalar.extui v30
  let c0_i32 : BitVec 32 := 0#32
  let v32 : BitVec 1 := Scalar.cmpi .ne v31 c0_i32
  v32

def k0_mult1 : BitVec 32 :=
  let c0_i32_32 : BitVec 32 := 0#32
  let c3328_i32 : BitVec 32 := 3328#32
  let v53 : BitVec 32 := Scalar.muli c0_i32_32 c3328_i32
  v53
def k0_off1 (c0_i32_32 : BitVec 32) : Fin 2 → Nat :=
  let c0_33 : Index := 0#32
  let c3328_i32 : BitVec 32 := 3328#32
  let v53 : BitVec 32 := Scalar.muli c0_i32_32 c3328_i32
  let v54 : BitVec 32 := v53
  let v55 : Index := Scalar.indexCast v54
  ![0, v55.toNat]
def k0_off2 (c0_i32_32 : BitVec 32) : Fin 2 → Nat :=
  let c3328_i32 : BitVec 32 := 3328#32
  let v53 : BitVec 32 := Scalar.muli c0_i32_32 c3328_i32
  let v54 : BitVec 32 := v53
  let v58 : Index := Scalar.indexCast v54
  let c0_34 : Index := 0#32
  ![v58.toNat, 0]
def k0_mult2 : BitVec 32 :=
  let c1_i32 : BitVec 32 := 1#32
  let c3328_i32_52 : BitVec 32 := 3328#32
  let v140 : BitVec 32 := Scalar.muli c1_i32 c3328_i32_52
  v140
def k0_mult3 : BitVec 32 :=
  let c2_i32 : BitVec 32 := 2#32
  let c3328_i32_72 : BitVec 32 := 3328#32
  let v227 : BitVec 32 := Scalar.muli c2_i32 c3328_i32_72
  v227
def k0_mult4 : BitVec 32 :=
  let c3_i32 : BitVec 32 := 3#32
  let c3328_i32_92 : BitVec 32 := 3328#32
  let v314 : BitVec 32 := Scalar.muli c3_i32 c3328_i32_92
  v314
def k0_mult5 : BitVec 32 :=
  let c4_i32 : BitVec 32 := 4#32
  let c3328_i32_112 : BitVec 32 := 3328#32
  let v401 : BitVec 32 := Scalar.muli c4_i32 c3328_i32_112
  v401
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16640x2048 : Shape := ⟨2, ![16640, 2048]⟩
abbrev S16640x1024 : Shape := ⟨2, ![16640, 1024]⟩
abbrev S_ : Shape := ⟨0, ![]⟩
abbrev S16640x16x128 : Shape := ⟨3, ![16640, 16, 128]⟩
abbrev S16640x512 : Shape := ⟨2, ![16640, 512]⟩
abbrev S16640x4x128 : Shape := ⟨3, ![16640, 4, 128]⟩
abbrev S16384x16x128 : Shape := ⟨3, ![16384, 16, 128]⟩
abbrev S16384x4x4x128 : Shape := ⟨4, ![16384, 4, 4, 128]⟩
abbrev S4x16640x16384x4 : Shape := ⟨4, ![4, 16640, 16384, 4]⟩
abbrev S4x4x16384x16640 : Shape := ⟨4, ![4, 4, 16384, 16640]⟩
abbrev S4x4x16384 : Shape := ⟨3, ![4, 4, 16384]⟩
abbrev S4x4x16384x1 : Shape := ⟨4, ![4, 4, 16384, 1]⟩
abbrev S4x128x4x16384 : Shape := ⟨4, ![4, 128, 4, 16384]⟩
abbrev S16384x2048 : Shape := ⟨2, ![16384, 2048]⟩
abbrev S256x16x128 : Shape := ⟨3, ![256, 16, 128]⟩
abbrev S256x4x128 : Shape := ⟨3, ![256, 4, 128]⟩
abbrev S256x4x4x128 : Shape := ⟨4, ![256, 4, 4, 128]⟩
abbrev S4x256x256x4 : Shape := ⟨4, ![4, 256, 256, 4]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x128x4x256 : Shape := ⟨4, ![4, 128, 4, 256]⟩
abbrev S256x2048 : Shape := ⟨2, ![256, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x1024, .bf16⟩
  | .hbm, ⟨2, _⟩ => ⟨S16640x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16640x2048, .f32⟩
  | .hbm, ⟨9, _⟩ => ⟨S16640x2048, .f32⟩
  | .hbm, ⟨10, _⟩ => ⟨S16640x1024, .f32⟩
  | .hbm, ⟨11, _⟩ => ⟨S16640x16x128, .f32⟩
  | .hbm, ⟨12, _⟩ => ⟨S16640x512, .f32⟩
  | .hbm, ⟨13, _⟩ => ⟨S16640x4x128, .f32⟩
  | .hbm, ⟨14, _⟩ => ⟨S16640x512, .f32⟩
  | .hbm, ⟨15, _⟩ => ⟨S16640x4x128, .f32⟩
  | .hbm, ⟨16, _⟩ => ⟨S16384x16x128, .f32⟩
  | .hbm, ⟨17, _⟩ => ⟨S16384x4x4x128, .f32⟩
  | .hbm, ⟨18, _⟩ => ⟨S4x16640x16384x4, .f32⟩
  | .hbm, ⟨19, _⟩ => ⟨S4x4x16384x16640, .f32⟩
  | .hbm, ⟨20, _⟩ => ⟨S_, .f32⟩
  | .hbm, ⟨21, _⟩ => ⟨S_, .f32⟩
  | .hbm, ⟨22, _⟩ => ⟨S4x4x16384x16640, .f32⟩
  | .hbm, ⟨23, _⟩ => ⟨S4x4x16384x16640, .f32⟩
  | .hbm, ⟨24, _⟩ => ⟨S_, .f32⟩
  | .hbm, ⟨25, _⟩ => ⟨S4x4x16384, .f32⟩
  | .hbm, ⟨26, _⟩ => ⟨S_, .f32⟩
  | .hbm, ⟨27, _⟩ => ⟨S4x4x16384, .f32⟩
  | .hbm, ⟨28, _⟩ => ⟨S4x4x16384, .f32⟩
  | .hbm, ⟨29, _⟩ => ⟨S4x4x16384x1, .f32⟩
  | .hbm, ⟨30, _⟩ => ⟨S4x4x16384x16640, .f32⟩
  | .hbm, ⟨31, _⟩ => ⟨S4x4x16384x16640, .f32⟩
  | .hbm, ⟨32, _⟩ => ⟨S4x4x16384x16640, .f32⟩
  | .hbm, ⟨33, _⟩ => ⟨S_, .f32⟩
  | .hbm, ⟨34, _⟩ => ⟨S4x4x16384, .f32⟩
  | .hbm, ⟨35, _⟩ => ⟨S4x4x16384x1, .f32⟩
  | .hbm, ⟨36, _⟩ => ⟨S4x4x16384x16640, .f32⟩
  | .hbm, ⟨37, _⟩ => ⟨S4x4x16384x16640, .f32⟩
  | .hbm, ⟨38, _⟩ => ⟨S4x128x4x16384, .f32⟩
  | .hbm, ⟨39, _⟩ => ⟨S16384x4x4x128, .f32⟩
  | .hbm, ⟨40, _⟩ => ⟨S16384x2048, .f32⟩
  | .hbm, ⟨41, _⟩ => ⟨S256x16x128, .f32⟩
  | .hbm, ⟨42, _⟩ => ⟨S256x4x128, .f32⟩
  | .hbm, ⟨43, _⟩ => ⟨S256x4x128, .f32⟩
  | .hbm, ⟨44, _⟩ => ⟨S256x4x4x128, .f32⟩
  | .hbm, ⟨45, _⟩ => ⟨S4x256x256x4, .f32⟩
  | .hbm, ⟨46, _⟩ => ⟨S4x4x256x256, .f32⟩
  | .hbm, ⟨47, _⟩ => ⟨S_, .f32⟩
  | .hbm, ⟨48, _⟩ => ⟨S_, .f32⟩
  | .hbm, ⟨49, _⟩ => ⟨S4x4x256x256, .f32⟩
  | .hbm, ⟨50, _⟩ => ⟨S4x4x256x256, .f32⟩
  | .hbm, ⟨51, _⟩ => ⟨S_, .f32⟩
  | .hbm, ⟨52, _⟩ => ⟨S4x4x256, .f32⟩
  | .hbm, ⟨53, _⟩ => ⟨S_, .f32⟩
  | .hbm, ⟨54, _⟩ => ⟨S4x4x256, .f32⟩
  | .hbm, ⟨55, _⟩ => ⟨S4x4x256, .f32⟩
  | .hbm, ⟨56, _⟩ => ⟨S4x4x256x1, .f32⟩
  | .hbm, ⟨57, _⟩ => ⟨S4x4x256x256, .f32⟩
  | .hbm, ⟨58, _⟩ => ⟨S4x4x256x256, .f32⟩
  | .hbm, ⟨59, _⟩ => ⟨S4x4x256x256, .f32⟩
  | .hbm, ⟨60, _⟩ => ⟨S_, .f32⟩
  | .hbm, ⟨61, _⟩ => ⟨S4x4x256, .f32⟩
  | .hbm, ⟨62, _⟩ => ⟨S4x4x256x1, .f32⟩
  | .hbm, ⟨63, _⟩ => ⟨S4x4x256x256, .f32⟩
  | .hbm, ⟨64, _⟩ => ⟨S4x4x256x256, .f32⟩
  | .hbm, ⟨65, _⟩ => ⟨S4x128x4x256, .f32⟩
  | .hbm, ⟨66, _⟩ => ⟨S256x4x4x128, .f32⟩
  | .hbm, ⟨67, _⟩ => ⟨S256x2048, .f32⟩
  | .hbm, ⟨68, _⟩ => ⟨S16640x2048, .f32⟩
  | .hbm, ⟨69, _⟩ => ⟨S16640x2048, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== KernelUp.lean ====
abbrev S16640x4096 : Shape := ⟨2, ![16640, 4096]⟩
abbrev S4x2x4096x12288 : Shape := ⟨4, ![4, 2, 4096, 12288]⟩
abbrev S16640x6144 : Shape := ⟨2, ![16640, 6144]⟩
abbrev S2080x4096 : Shape := ⟨2, ![2080, 4096]⟩
abbrev S1x1x4096x256 : Shape := ⟨4, ![1, 1, 4096, 256]⟩
abbrev S2080x256 : Shape := ⟨2, ![2080, 256]⟩
abbrev S4096x256 : Shape := ⟨2, ![4096, 256]⟩

abbrev nBuf : Space → Nat
  | .hbm => 3
  | .vmem => 8
  | .smem => 0
  | _ => 0

abbrev bufTy : (tb : Table) → Fin (tcTables nBuf tb) → BufTy
  | .hbm, ⟨0, _⟩ => ⟨S16640x4096, .bf16⟩
  | .hbm, ⟨1, _⟩ => ⟨S4x2x4096x12288, .f32⟩
  | .hbm, ⟨2, _⟩ => ⟨S16640x6144, .bf16⟩
  | .local _ .vmem, ⟨0, _⟩ => ⟨S2080x4096, .bf16⟩
  | .local _ .vmem, ⟨1, _⟩ => ⟨S2080x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S2080x256, .bf16⟩
  | .local _ .vmem, ⟨7, _⟩ => ⟨S2080x256, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2080x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S16640x4096 : Shape := ⟨2, ![16640, 4096]⟩
abbrev S4x2x4096x12288 : Shape := ⟨4, ![4, 2, 4096, 12288]⟩
abbrev S1x1x4096x12288 : Shape := ⟨4, ![1, 1, 4096, 12288]⟩
abbrev S4096x12288 : Shape := ⟨2, ![4096, 12288]⟩
abbrev S16640x12288 : Shape := ⟨2, ![16640, 12288]⟩
abbrev S16640x6144 : Shape := ⟨2, ![16640, 6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x2x4096x12288, .f32⟩
  | .hbm, ⟨2, _⟩ => ⟨S16640x4096, .f32⟩
  | .hbm, ⟨3, _⟩ => ⟨S1x1x4096x12288, .f32⟩
  | .hbm, ⟨4, _⟩ => ⟨S4096x12288, .f32⟩
  | .hbm, ⟨5, _⟩ => ⟨S16640x12288, .f32⟩
  | .hbm, ⟨6, _⟩ => ⟨S16640x6144, .f32⟩
  | .hbm, ⟨7, _⟩ => ⟨S16640x6144, .f32⟩
  | .hbm, ⟨8, _⟩ => ⟨S16640x6144, .f32⟩
  | .hbm, ⟨9, _⟩ => ⟨S16640x6144, .f32⟩
  | .hbm, ⟨10, _⟩ => ⟨S_, .f32⟩
  | .hbm, ⟨11, _⟩ => ⟨S16640x6144, .f32⟩
  | .hbm, ⟨12, _⟩ => ⟨S16640x6144, .f32⟩
  | .hbm, ⟨13, _⟩ => ⟨S_, .f32⟩
  | .hbm, ⟨14, _⟩ => ⟨S16640x6144, .f32⟩
  | .hbm, ⟨15, _⟩ => ⟨S16640x6144, .f32⟩
  | .hbm, ⟨16, _⟩ => ⟨S16640x6144, .f32⟩
  | .hbm, ⟨17, _⟩ => ⟨S16640x6144, .f32⟩
  | .hbm, ⟨18, _⟩ => ⟨S16640x6144, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== KernelDown.lean ====
abbrev S16640x6144 : Shape := ⟨2, ![16640, 6144]⟩
abbrev S4x2x6144x4096 : Shape := ⟨4, ![4, 2, 6144, 4096]⟩
abbrev S16640x4096 : Shape := ⟨2, ![16640, 4096]⟩
abbrev S4x9x8x4096 : Shape := ⟨4, ![4, 9, 8, 4096]⟩
abbrev S1040x6144 : Shape := ⟨2, ![1040, 6144]⟩
abbrev S1x1x6144x512 : Shape := ⟨4, ![1, 1, 6144, 512]⟩
abbrev S1040x512 : Shape := ⟨2, ![1040, 512]⟩
abbrev S1x1x8x512 : Shape := ⟨4, ![1, 1, 8, 512]⟩
abbrev S6144x512 : Shape := ⟨2, ![6144, 512]⟩
abbrev S1040x1 : Shape := ⟨2, ![1040, 1]⟩
abbrev S1x1x1x512 : Shape := ⟨4, ![1, 1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16640x6144, .bf16⟩
  | .hbm, ⟨1, _⟩ => ⟨S4x2x6144x4096, .bf16⟩
  | .hbm, ⟨2, _⟩ => ⟨S16640x4096, .f32⟩
  | .hbm, ⟨3, _⟩ => ⟨S4x9x8x4096, .f32⟩
  | .hbm, ⟨4, _⟩ => ⟨S16640x4096, .f32⟩
  | .local _ .vmem, ⟨0, _⟩ => ⟨S1040x6144, .bf16⟩
  | .local _ .vmem, ⟨1, _⟩ => ⟨S1040x6144, .bf16⟩
  | .local _ .vmem, ⟨2, _⟩ => ⟨S1x1x6144x512, .bf16⟩
  | .local _ .vmem, ⟨3, _⟩ => ⟨S1x1x6144x512, .bf16⟩
  | .local _ .vmem, ⟨4, _⟩ => ⟨S1040x512, .f32⟩
  | .local _ .vmem, ⟨5, _⟩ => ⟨S1040x512, .f32⟩
  | .local _ .vmem, ⟨6, _⟩ => ⟨S1x1x8x512, .f32⟩
  | .local _ .vmem, ⟨7, _⟩ => ⟨S1x1x8x512, .f32⟩
  | .local _ .vmem, ⟨8, _⟩ => ⟨S1040x512, .f32⟩
  | .local _ .vmem, ⟨9, _⟩ => ⟨S1040x512, .f32⟩
  | _, _ => ⟨S16640x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownIdeal.lean ====
abbrev S16640x6144 : Shape := ⟨2, ![16640, 6144]⟩
abbrev S4x2x6144x4096 : Shape := ⟨4, ![4, 2, 6144, 4096]⟩
abbrev S16640x4096 : Shape := ⟨2, ![16640, 4096]⟩
abbrev S4x9x8x4096 : Shape := ⟨4, ![4, 9, 8, 4096]⟩
abbrev S1x1x6144x4096 : Shape := ⟨4, ![1, 1, 6144, 4096]⟩
abbrev S6144x4096 : Shape := ⟨2, ![6144, 4096]⟩
abbrev S1x1x1x4096 : Shape := ⟨4, ![1, 1, 1, 4096]⟩
abbrev S4096 : Shape := ⟨1, ![4096]⟩
abbrev S16384x4096 : Shape := ⟨2, ![16384, 4096]⟩
abbrev S_ : Shape := ⟨0, ![]⟩
abbrev S1x4096 : Shape := ⟨2, ![1, 4096]⟩
abbrev S256x4096 : Shape := ⟨2, ![256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16640x6144, .bf16⟩
  | .hbm, ⟨1, _⟩ => ⟨S4x2x6144x4096, .bf16⟩
  | .hbm, ⟨2, _⟩ => ⟨S16640x4096, .f32⟩
  | .hbm, ⟨3, _⟩ => ⟨S4x9x8x4096, .f32⟩
  | .hbm, ⟨4, _⟩ => ⟨S16640x6144, .f32⟩
  | .hbm, ⟨5, _⟩ => ⟨S1x1x6144x4096, .bf16⟩
  | .hbm, ⟨6, _⟩ => ⟨S6144x4096, .bf16⟩
  | .hbm, ⟨7, _⟩ => ⟨S6144x4096, .f32⟩
  | .hbm, ⟨8, _⟩ => ⟨S16640x4096, .f32⟩
  | .hbm, ⟨9, _⟩ => ⟨S1x1x1x4096, .f32⟩
  | .hbm, ⟨10, _⟩ => ⟨S4096, .f32⟩
  | .hbm, ⟨11, _⟩ => ⟨S1x1x1x4096, .f32⟩
  | .hbm, ⟨12, _⟩ => ⟨S4096, .f32⟩
  | .hbm, ⟨13, _⟩ => ⟨S16384x4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S256x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S256x4096, .f32⟩
  | .hbm, ⟨27, _⟩ => ⟨S1x4096, .f32⟩
  | .hbm, ⟨28, _⟩ => ⟨S256x4096, .f32⟩
  | .hbm, ⟨29, _⟩ => ⟨S256x4096, .f32⟩
  | .hbm, ⟨30, _⟩ => ⟨S256x4096, .f32⟩
  | .hbm, ⟨31, _⟩ => ⟨S16640x4096, .f32⟩
  | _, _ => ⟨S16640x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== KernelOut.lean ====
abbrev S16640x2048 : Shape := ⟨2, ![16640, 2048]⟩
abbrev S16640x1024 : Shape := ⟨2, ![16640, 1024]⟩
abbrev S4x4096x4096 : Shape := ⟨3, ![4, 4096, 4096]⟩
abbrev S16640x4096 : Shape := ⟨2, ![16640, 4096]⟩
abbrev S4x9x8x4096 : Shape := ⟨4, ![4, 9, 8, 4096]⟩
abbrev S1664x2048 : Shape := ⟨2, ![1664, 2048]⟩
abbrev S1664x1024 : Shape := ⟨2, ![1664, 1024]⟩
abbrev S1x2048x512 : Shape := ⟨3, ![1, 2048, 512]⟩
abbrev S1x1024x512 : Shape := ⟨3, ![1, 1024, 512]⟩
abbrev S1664x512 : Shape := ⟨2, ![1664, 512]⟩
abbrev S1x1x8x512 : Shape := ⟨4, ![1, 1, 8, 512]⟩
abbrev S2048x512 : Shape := ⟨2, ![2048, 512]⟩
abbrev S1024x512 : Shape := ⟨2, ![1024, 512]⟩
abbrev S1664x1 : Shape := ⟨2, ![1664, 1]⟩
abbrev S1x1x1x512 : Shape := ⟨4, ![1, 1, 1, 512]⟩
abbrev S1x512 : Shape := ⟨2, ![1, 512]⟩

abbrev nBuf : Space → Nat
  | .hbm => 7
  | .vmem => 18
  | .smem => 0
  | _ => 0

abbrev bufTy : (tb : Table) → Fin (tcTables nBuf tb) → BufTy
  | .hbm, ⟨0, _⟩ => ⟨S16640x2048, .bf16⟩
  | .hbm, ⟨1, _⟩ => ⟨S16640x1024, .bf16⟩
  | .hbm, ⟨2, _⟩ => ⟨S16640x1024, .bf16⟩
  | .hbm, ⟨3, _⟩ => ⟨S4x4096x4096, .bf16⟩
  | .hbm, ⟨4, _⟩ => ⟨S16640x4096, .f32⟩
  | .hbm, ⟨5, _⟩ => ⟨S4x9x8x4096, .f32⟩
  | .hbm, ⟨6, _⟩ => ⟨S16640x4096, .f32⟩
  | .local _ .vmem, ⟨0, _⟩ => ⟨S1664x2048, .bf16⟩
  | .local _ .vmem, ⟨1, _⟩ => ⟨S1664x2048, .bf16⟩
  | .local _ .vmem, ⟨2, _⟩ => ⟨S1664x1024, .bf16⟩
  | .local _ .vmem, ⟨3, _⟩ => ⟨S1664x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1664x512, .f32⟩
  | .local _ .vmem, ⟨13, _⟩ => ⟨S1664x512, .f32⟩
  | .local _ .vmem, ⟨14, _⟩ => ⟨S1x1x8x512, .f32⟩
  | .local _ .vmem, ⟨15, _⟩ => ⟨S1x1x8x512, .f32⟩
  | .local _ .vmem, ⟨16, _⟩ => ⟨S1664x512, .f32⟩
  | .local _ .vmem, ⟨17, _⟩ => ⟨S1664x512, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  ![c0_i32.toNat, c5_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1664x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1664x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceOutIdeal.lean ====
abbrev S16640x2048 : Shape := ⟨2, ![16640, 2048]⟩
abbrev S16640x1024 : Shape := ⟨2, ![16640, 1024]⟩
abbrev S4x4096x4096 : Shape := ⟨3, ![4, 4096, 4096]⟩
abbrev S16640x4096 : Shape := ⟨2, ![16640, 4096]⟩
abbrev S4x9x8x4096 : Shape := ⟨4, ![4, 9, 8, 4096]⟩
abbrev S1x4096x4096 : Shape := ⟨3, ![1, 4096, 4096]⟩
abbrev S4096x4096 : Shape := ⟨2, ![4096, 4096]⟩
abbrev S1x1x1x4096 : Shape := ⟨4, ![1, 1, 1, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x1024, .bf16⟩
  | .hbm, ⟨2, _⟩ => ⟨S16640x1024, .bf16⟩
  | .hbm, ⟨3, _⟩ => ⟨S4x4096x4096, .bf16⟩
  | .hbm, ⟨4, _⟩ => ⟨S16640x4096, .f32⟩
  | .hbm, ⟨5, _⟩ => ⟨S4x9x8x4096, .f32⟩
  | .hbm, ⟨6, _⟩ => ⟨S16640x2048, .f32⟩
  | .hbm, ⟨7, _⟩ => ⟨S16640x1024, .f32⟩
  | .hbm, ⟨8, _⟩ => ⟨S16640x1024, .f32⟩
  | .hbm, ⟨9, _⟩ => ⟨S16640x4096, .f32⟩
  | .hbm, ⟨10, _⟩ => ⟨S1x4096x4096, .bf16⟩
  | .hbm, ⟨11, _⟩ => ⟨S4096x4096, .bf16⟩
  | .hbm, ⟨12, _⟩ => ⟨S4096x4096, .f32⟩
  | .hbm, ⟨13, _⟩ => ⟨S16640x4096, .f32⟩
  | .hbm, ⟨14, _⟩ => ⟨S1x1x1x4096, .f32⟩
  | .hbm, ⟨15, _⟩ => ⟨S4096, .f32⟩
  | .hbm, ⟨16, _⟩ => ⟨S1x1x1x4096, .f32⟩
  | .hbm, ⟨17, _⟩ => ⟨S4096, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S256x4096, .f32⟩
  | .hbm, ⟨25, _⟩ => ⟨S256x4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S256x4096, .f32⟩
  | .hbm, ⟨30, _⟩ => ⟨S16640x4096, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelNorm.lean ====
abbrev S16640x4096 : Shape := ⟨2, ![16640, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32_2 : BitVec 32 := 16#32
  let v3 : BitVec 32 := Scalar.muli arg4 c16_i32_2
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32_2 : BitVec 32 := 16#32
  let v3 : BitVec 32 := Scalar.muli arg4 c16_i32_2
  let v4 : BitVec 32 := v3
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16640x4096 : Shape := ⟨2, ![16640, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelProjB.lean ====
abbrev S16640x4096 : Shape := ⟨2, ![16640, 4096]⟩
abbrev S4x4096x8192 : Shape := ⟨3, ![4, 4096, 8192]⟩
abbrev S16640x3072 : Shape := ⟨2, ![16640, 3072]⟩
abbrev S1040x4096 : Shape := ⟨2, ![1040, 4096]⟩
abbrev S1x4096x1024 : Shape := ⟨3, ![1, 4096, 1024]⟩
abbrev S1040x1024 : Shape := ⟨2, ![1040, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S16640x3072, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1040x1024, .bf16⟩
  | .local _ .vmem, ⟨5, _⟩ => ⟨S1040x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelProjBIdeal.lean ====
variable {F : FTy → Type} [FloatOps F] [Named F]
def κ : String → Option EReal := fun
  | "query_scale" => some (((Real.sqrt 128)⁻¹ * (Real.log 2)⁻¹ : ℝ) : EReal)
  | _ => none
-- ==== ReferenceProjBIdeal.lean ====
abbrev S16640x4096 : Shape := ⟨2, ![16640, 4096]⟩
abbrev S4x4096x8192 : Shape := ⟨3, ![4, 4096, 8192]⟩
abbrev S1x4096x8192 : Shape := ⟨3, ![1, 4096, 8192]⟩
abbrev S4096x8192 : Shape := ⟨2, ![4096, 8192]⟩
abbrev S4096x3072 : Shape := ⟨2, ![4096, 3072]⟩
abbrev S16640x3072 : Shape := ⟨2, ![16640, 3072]⟩
abbrev S16640x1024 : Shape := ⟨2, ![16640, 1024]⟩
abbrev S_ : Shape := ⟨0, ![]⟩
abbrev S16640x2048 : Shape := ⟨2, ![16640, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S16640x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S4096x3072, .f32⟩
  | .hbm, ⟨7, _⟩ => ⟨S16640x3072, .f32⟩
  | .hbm, ⟨8, _⟩ => ⟨S16640x1024, .f32⟩
  | .hbm, ⟨9, _⟩ => ⟨S_, .f32⟩
  | .hbm, ⟨10, _⟩ => ⟨S_, .f32⟩
  | .hbm, ⟨11, _⟩ => ⟨S16640x1024, .f32⟩
  | .hbm, ⟨12, _⟩ => ⟨S16640x1024, .f32⟩
  | .hbm, ⟨13, _⟩ => ⟨S_, .f32⟩
  | .hbm, ⟨14, _⟩ => ⟨S_, .f32⟩
  | .hbm, ⟨15, _⟩ => ⟨S16640x1024, .f32⟩
  | .hbm, ⟨16, _⟩ => ⟨S16640x1024, .f32⟩
  | .hbm, ⟨17, _⟩ => ⟨S16640x2048, .f32⟩
  | .hbm, ⟨18, _⟩ => ⟨S16640x3072, .f32⟩
  | .hbm, ⟨19, _⟩ => ⟨S16640x3072, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelProjU.lean ====
abbrev S16640x4096 : Shape := ⟨2, ![16640, 4096]⟩
abbrev S4x4096x8192 : Shape := ⟨3, ![4, 4096, 8192]⟩
abbrev S16640x1024 : Shape := ⟨2, ![16640, 1024]⟩
abbrev S1040x4096 : Shape := ⟨2, ![1040, 4096]⟩
abbrev S1x4096x1024 : Shape := ⟨3, ![1, 4096, 1024]⟩
abbrev S1040x1024 : Shape := ⟨2, ![1040, 1024]⟩
abbrev S1x4096x256 : Shape := ⟨3, ![1, 4096, 256]⟩
abbrev S4096x256 : Shape := ⟨2, ![4096, 256]⟩
abbrev S1040x256 : Shape := ⟨2, ![1040, 256]⟩

abbrev nBuf : Space → Nat
  | .hbm => 3
  | .vmem => 5
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S16640x1024, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x1024, .bf16⟩
  | .local _ .vmem, ⟨3, _⟩ => ⟨S1040x1024, .f32⟩
  | .local _ .vmem, ⟨4, _⟩ => ⟨S1040x1024, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjUIdeal.lean ====
abbrev S16640x4096 : Shape := ⟨2, ![16640, 4096]⟩
abbrev S4x4096x8192 : Shape := ⟨3, ![4, 4096, 8192]⟩
abbrev S1x4096x8192 : Shape := ⟨3, ![1, 4096, 8192]⟩
abbrev S4096x8192 : Shape := ⟨2, ![4096, 8192]⟩
abbrev S4096x1024 : Shape := ⟨2, ![4096, 1024]⟩
abbrev S16640x1024 : Shape := ⟨2, ![16640, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S16640x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S4096x1024, .f32⟩
  | .hbm, ⟨7, _⟩ => ⟨S16640x1024, .f32⟩
  | .hbm, ⟨8, _⟩ => ⟨S16640x1024, .f32⟩
  | .hbm, ⟨9, _⟩ => ⟨S16640x1024, .f32⟩
  | .hbm, ⟨10, _⟩ => ⟨S_, .f32⟩
  | .hbm, ⟨11, _⟩ => ⟨S16640x1024, .f32⟩
  | .hbm, ⟨12, _⟩ => ⟨S16640x1024, .f32⟩
  | .hbm, ⟨13, _⟩ => ⟨S16640x1024, .f32⟩
  | .hbm, ⟨14, _⟩ => ⟨S_, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S_, .f32⟩
  | .hbm, ⟨19, _⟩ => ⟨S16640x1024, .f32⟩
  | .hbm, ⟨20, _⟩ => ⟨S16640x1024, .f32⟩
  | .hbm, ⟨21, _⟩ => ⟨S_, .f32⟩
  | .hbm, ⟨22, _⟩ => ⟨S16640x1024, .f32⟩
  | .hbm, ⟨23, _⟩ => ⟨S16640x1024, .f32⟩
  | .hbm, ⟨24, _⟩ => ⟨S16640x1024, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelProjV.lean ====
abbrev S16640x4096 : Shape := ⟨2, ![16640, 4096]⟩
abbrev S4x4096x8192 : Shape := ⟨3, ![4, 4096, 8192]⟩
abbrev S4x1024 : Shape := ⟨2, ![4, 1024]⟩
abbrev S4x1x1024 : Shape := ⟨3, ![4, 1, 1024]⟩
abbrev S16640x1024 : Shape := ⟨2, ![16640, 1024]⟩
abbrev S1040x4096 : Shape := ⟨2, ![1040, 4096]⟩
abbrev S1x4096x1024 : Shape := ⟨3, ![1, 4096, 1024]⟩
abbrev S1x1x1024 : Shape := ⟨3, ![1, 1, 1024]⟩
abbrev S1040x1024 : Shape := ⟨2, ![1040, 1024]⟩
abbrev S1x4096x256 : Shape := ⟨3, ![1, 4096, 256]⟩
abbrev S4096x256 : Shape := ⟨2, ![4096, 256]⟩
abbrev S1040x256 : Shape := ⟨2, ![1040, 256]⟩
abbrev S1x1x256 : Shape := ⟨3, ![1, 1, 256]⟩
abbrev S1x256 : Shape := ⟨2, ![1, 256]⟩
abbrev S1040x128 : Shape := ⟨2, ![1040, 128]⟩
abbrev S1x128 : Shape := ⟨2, ![1, 128]⟩
abbrev S1040 : Shape := ⟨1, ![1040]⟩
abbrev S1040x1 : Shape := ⟨2, ![1040, 1]⟩

abbrev nBuf : Space → Nat
  | .hbm => 5
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S4x1024, .f32⟩
  | .hbm, ⟨3, _⟩ => ⟨S4x1x1024, .f32⟩
  | .hbm, ⟨4, _⟩ => ⟨S16640x1024, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x1024, .bf16⟩
  | .local _ .vmem, ⟨3, _⟩ => ⟨S1x1x1024, .f32⟩
  | .local _ .vmem, ⟨4, _⟩ => ⟨S1040x1024, .bf16⟩
  | .local _ .vmem, ⟨5, _⟩ => ⟨S1040x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1040x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjVIdeal.lean ====
abbrev S16640x4096 : Shape := ⟨2, ![16640, 4096]⟩
abbrev S4x4096x8192 : Shape := ⟨3, ![4, 4096, 8192]⟩
abbrev S4x1024 : Shape := ⟨2, ![4, 1024]⟩
abbrev S1x4096x8192 : Shape := ⟨3, ![1, 4096, 8192]⟩
abbrev S4096x8192 : Shape := ⟨2, ![4096, 8192]⟩
abbrev S4096x1024 : Shape := ⟨2, ![4096, 1024]⟩
abbrev S16640x1024 : Shape := ⟨2, ![16640, 1024]⟩
abbrev S_ : Shape := ⟨0, ![]⟩
abbrev S16640x8x128 : Shape := ⟨3, ![16640, 8, 128]⟩
abbrev S1x1024 : Shape := ⟨2, ![1, 1024]⟩
abbrev S1024 : Shape := ⟨1, ![1024]⟩
abbrev S8x128 : Shape := ⟨2, ![8, 128]⟩
abbrev S16640x8 : Shape := ⟨2, ![16640, 8]⟩
abbrev S16640x8x1 : Shape := ⟨3, ![16640, 8, 1]⟩
abbrev S1x8x128 : Shape := ⟨3, ![1, 8, 128]⟩

abbrev nBuf : Space → Nat
  | .hbm => 48
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S4x1024, .f32⟩
  | .hbm, ⟨3, _⟩ => ⟨S16640x4096, .f32⟩
  | .hbm, ⟨4, _⟩ => ⟨S1x4096x8192, .bf16⟩
  | .hbm, ⟨5, _⟩ => ⟨S4096x8192, .bf16⟩
  | .hbm, ⟨6, _⟩ => ⟨S4096x8192, .f32⟩
  | .hbm, ⟨7, _⟩ => ⟨S4096x1024, .f32⟩
  | .hbm, ⟨8, _⟩ => ⟨S16640x1024, .f32⟩
  | .hbm, ⟨9, _⟩ => ⟨S16640x1024, .f32⟩
  | .hbm, ⟨10, _⟩ => ⟨S16640x1024, .f32⟩
  | .hbm, ⟨11, _⟩ => ⟨S_, .f32⟩
  | .hbm, ⟨12, _⟩ => ⟨S16640x1024, .f32⟩
  | .hbm, ⟨13, _⟩ => ⟨S16640x1024, .f32⟩
  | .hbm, ⟨14, _⟩ => ⟨S16640x1024, .f32⟩
  | .hbm, ⟨15, _⟩ => ⟨S_, .f32⟩
  | .hbm, ⟨16, _⟩ => ⟨S16640x1024, .f32⟩
  | .hbm, ⟨17, _⟩ => ⟨S16640x1024, .f32⟩
  | .hbm, ⟨18, _⟩ => ⟨S16640x1024, .f32⟩
  | .hbm, ⟨19, _⟩ => ⟨S_, .f32⟩
  | .hbm, ⟨20, _⟩ => ⟨S16640x1024, .f32⟩
  | .hbm, ⟨21, _⟩ => ⟨S16640x1024, .f32⟩
  | .hbm, ⟨22, _⟩ => ⟨S_, .f32⟩
  | .hbm, ⟨23, _⟩ => ⟨S16640x1024, .f32⟩
  | .hbm, ⟨24, _⟩ => ⟨S16640x1024, .f32⟩
  | .hbm, ⟨25, _⟩ => ⟨S16640x1024, .f32⟩
  | .hbm, ⟨26, _⟩ => ⟨S16640x8x128, .f32⟩
  | .hbm, ⟨27, _⟩ => ⟨S1x1024, .f32⟩
  | .hbm, ⟨28, _⟩ => ⟨S1024, .f32⟩
  | .hbm, ⟨29, _⟩ => ⟨S8x128, .f32⟩
  | .hbm, ⟨30, _⟩ => ⟨S16640x8x128, .f32⟩
  | .hbm, ⟨31, _⟩ => ⟨S_, .f32⟩
  | .hbm, ⟨32, _⟩ => ⟨S16640x8, .f32⟩
  | .hbm, ⟨33, _⟩ => ⟨S16640x8x1, .f32⟩
  | .hbm, ⟨34, _⟩ => ⟨S_, .f32⟩
  | .hbm, ⟨35, _⟩ => ⟨S16640x8x1, .f32⟩
  | .hbm, ⟨36, _⟩ => ⟨S16640x8x1, .f32⟩
  | .hbm, ⟨37, _⟩ => ⟨S_, .f32⟩
  | .hbm, ⟨38, _⟩ => ⟨S16640x8x1, .f32⟩
  | .hbm, ⟨39, _⟩ => ⟨S16640x8x1, .f32⟩
  | .hbm, ⟨40, _⟩ => ⟨S16640x8x1, .f32⟩
  | .hbm, ⟨41, _⟩ => ⟨S16640x8x128, .f32⟩
  | .hbm, ⟨42, _⟩ => ⟨S16640x8x128, .f32⟩
  | .hbm, ⟨43, _⟩ => ⟨S1x8x128, .f32⟩
  | .hbm, ⟨44, _⟩ => ⟨S16640x8x128, .f32⟩
  | .hbm, ⟨45, _⟩ => ⟨S16640x8x128, .f32⟩
  | .hbm, ⟨46, _⟩ => ⟨S16640x1024, .f32⟩
  | .hbm, ⟨47, _⟩ => ⟨S16640x1024, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== KernelProjKV.lean ====
abbrev S16640x4096 : Shape := ⟨2, ![16640, 4096]⟩
abbrev S4x4096x8192 : Shape := ⟨3, ![4, 4096, 8192]⟩
abbrev S4x2x128 : Shape := ⟨3, ![4, 2, 128]⟩
abbrev S16384x128 : Shape := ⟨2, ![16384, 128]⟩
abbrev S128 : Shape := ⟨1, ![128]⟩
abbrev S_ : Shape := ⟨0, ![]⟩
abbrev S256x128 : Shape := ⟨2, ![256, 128]⟩
abbrev S16640x128 : Shape := ⟨2, ![16640, 128]⟩
abbrev S1x128 : Shape := ⟨2, ![1, 128]⟩
abbrev S4x2x1x128 : Shape := ⟨4, ![4, 2, 1, 128]⟩
abbrev S16640x1024 : Shape := ⟨2, ![16640, 1024]⟩
abbrev S1040x4096 : Shape := ⟨2, ![1040, 4096]⟩
abbrev S1x4096x1024 : Shape := ⟨3, ![1, 4096, 1024]⟩
abbrev S1x1x1x128 : Shape := ⟨4, ![1, 1, 1, 128]⟩
abbrev S1040x128 : Shape := ⟨2, ![1040, 128]⟩
abbrev S1040x1024 : Shape := ⟨2, ![1040, 1024]⟩
abbrev S1x4096x256 : Shape := ⟨3, ![1, 4096, 256]⟩
abbrev S4096x256 : Shape := ⟨2, ![4096, 256]⟩
abbrev S1040x256 : Shape := ⟨2, ![1040, 256]⟩
abbrev S1040 : Shape := ⟨1, ![1040]⟩
abbrev S1040x1 : Shape := ⟨2, ![1040, 1]⟩

abbrev nBuf : Space → Nat
  | .hbm => 48
  | .vmem => 10
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S4x2x128, .f32⟩
  | .hbm, ⟨3, _⟩ => ⟨S16384x128, .f32⟩
  | .hbm, ⟨4, _⟩ => ⟨S16384x128, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S_, .i1⟩
  | .hbm, ⟨22, _⟩ => ⟨S128, .i1⟩
  | .hbm, ⟨23, _⟩ => ⟨S128, .i1⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S256x128, .f32⟩
  | .hbm, ⟨39, _⟩ => ⟨S16640x128, .f32⟩
  | .hbm, ⟨40, _⟩ => ⟨S1x128, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S256x128, .f32⟩
  | .hbm, ⟨45, _⟩ => ⟨S16640x128, .f32⟩
  | .hbm, ⟨46, _⟩ => ⟨S4x2x1x128, .f32⟩
  | .hbm, ⟨47, _⟩ => ⟨S16640x1024, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x1024, .bf16⟩
  | .local _ .vmem, ⟨3, _⟩ => ⟨S1x1x1x128, .f32⟩
  | .local _ .vmem, ⟨4, _⟩ => ⟨S1040x128, .f32⟩
  | .local _ .vmem, ⟨5, _⟩ => ⟨S1040x128, .f32⟩
  | .local _ .vmem, ⟨6, _⟩ => ⟨S1040x128, .f32⟩
  | .local _ .vmem, ⟨7, _⟩ => ⟨S1040x128, .f32⟩
  | .local _ .vmem, ⟨8, _⟩ => ⟨S1040x1024, .bf16⟩
  | .local _ .vmem, ⟨9, _⟩ => ⟨S1040x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1040x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1040x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceProjKVIdeal.lean ====
abbrev S16640x4096 : Shape := ⟨2, ![16640, 4096]⟩
abbrev S4x4096x8192 : Shape := ⟨3, ![4, 4096, 8192]⟩
abbrev S4x2x128 : Shape := ⟨3, ![4, 2, 128]⟩
abbrev S16384x128 : Shape := ⟨2, ![16384, 128]⟩
abbrev S1x4096x8192 : Shape := ⟨3, ![1, 4096, 8192]⟩
abbrev S4096x8192 : Shape := ⟨2, ![4096, 8192]⟩
abbrev S4096x1024 : Shape := ⟨2, ![4096, 1024]⟩
abbrev S16640x1024 : Shape := ⟨2, ![16640, 1024]⟩
abbrev S16640x512 : Shape := ⟨2, ![16640, 512]⟩
abbrev S16640x4x128 : Shape := ⟨3, ![16640, 4, 128]⟩
abbrev S1x1x128 : Shape := ⟨3, ![1, 1, 128]⟩
abbrev S128 : Shape := ⟨1, ![128]⟩
abbrev S_ : Shape := ⟨0, ![]⟩
abbrev S16640x4 : Shape := ⟨2, ![16640, 4]⟩
abbrev S16640x4x1 : Shape := ⟨3, ![16640, 4, 1]⟩
abbrev S16384x4x128 : Shape := ⟨3, ![16384, 4, 128]⟩
abbrev S16384x4x2x2x32 : Shape := ⟨5, ![16384, 4, 2, 2, 32]⟩
abbrev S16384x4x2x1x32 : Shape := ⟨5, ![16384, 4, 2, 1, 32]⟩
abbrev S16384x4x2x32 : Shape := ⟨4, ![16384, 4, 2, 32]⟩
abbrev S16384x1x128 : Shape := ⟨3, ![16384, 1, 128]⟩
abbrev S256x4x128 : Shape := ⟨3, ![256, 4, 128]⟩

abbrev nBuf : Space → Nat
  | .hbm => 55
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S4x2x128, .f32⟩
  | .hbm, ⟨3, _⟩ => ⟨S16384x128, .f32⟩
  | .hbm, ⟨4, _⟩ => ⟨S16384x128, .f32⟩
  | .hbm, ⟨5, _⟩ => ⟨S16640x4096, .f32⟩
  | .hbm, ⟨6, _⟩ => ⟨S1x4096x8192, .bf16⟩
  | .hbm, ⟨7, _⟩ => ⟨S4096x8192, .bf16⟩
  | .hbm, ⟨8, _⟩ => ⟨S4096x8192, .f32⟩
  | .hbm, ⟨9, _⟩ => ⟨S4096x1024, .f32⟩
  | .hbm, ⟨10, _⟩ => ⟨S16640x1024, .f32⟩
  | .hbm, ⟨11, _⟩ => ⟨S16640x512, .f32⟩
  | .hbm, ⟨12, _⟩ => ⟨S16640x4x128, .f32⟩
  | .hbm, ⟨13, _⟩ => ⟨S1x1x128, .f32⟩
  | .hbm, ⟨14, _⟩ => ⟨S128, .f32⟩
  | .hbm, ⟨15, _⟩ => ⟨S16640x4x128, .f32⟩
  | .hbm, ⟨16, _⟩ => ⟨S_, .f32⟩
  | .hbm, ⟨17, _⟩ => ⟨S16640x4, .f32⟩
  | .hbm, ⟨18, _⟩ => ⟨S16640x4x1, .f32⟩
  | .hbm, ⟨19, _⟩ => ⟨S_, .f32⟩
  | .hbm, ⟨20, _⟩ => ⟨S16640x4x1, .f32⟩
  | .hbm, ⟨21, _⟩ => ⟨S16640x4x1, .f32⟩
  | .hbm, ⟨22, _⟩ => ⟨S_, .f32⟩
  | .hbm, ⟨23, _⟩ => ⟨S16640x4x1, .f32⟩
  | .hbm, ⟨24, _⟩ => ⟨S16640x4x1, .f32⟩
  | .hbm, ⟨25, _⟩ => ⟨S16640x4x1, .f32⟩
  | .hbm, ⟨26, _⟩ => ⟨S16640x4x128, .f32⟩
  | .hbm, ⟨27, _⟩ => ⟨S16640x4x128, .f32⟩
  | .hbm, ⟨28, _⟩ => ⟨S1x1x128, .f32⟩
  | .hbm, ⟨29, _⟩ => ⟨S16640x4x128, .f32⟩
  | .hbm, ⟨30, _⟩ => ⟨S16640x4x128, .f32⟩
  | .hbm, ⟨31, _⟩ => ⟨S16384x4x128, .f32⟩
  | .hbm, ⟨32, _⟩ => ⟨S16384x4x2x2x32, .f32⟩
  | .hbm, ⟨33, _⟩ => ⟨S16384x4x2x1x32, .f32⟩
  | .hbm, ⟨34, _⟩ => ⟨S16384x4x2x32, .f32⟩
  | .hbm, ⟨35, _⟩ => ⟨S16384x4x2x32, .f32⟩
  | .hbm, ⟨36, _⟩ => ⟨S16384x4x2x1x32, .f32⟩
  | .hbm, ⟨37, _⟩ => ⟨S16384x4x2x32, .f32⟩
  | .hbm, ⟨38, _⟩ => ⟨S16384x4x2x1x32, .f32⟩
  | .hbm, ⟨39, _⟩ => ⟨S16384x4x2x1x32, .f32⟩
  | .hbm, ⟨40, _⟩ => ⟨S16384x4x2x2x32, .f32⟩
  | .hbm, ⟨41, _⟩ => ⟨S16384x4x128, .f32⟩
  | .hbm, ⟨42, _⟩ => ⟨S16384x1x128, .f32⟩
  | .hbm, ⟨43, _⟩ => ⟨S16384x4x128, .f32⟩
  | .hbm, ⟨44, _⟩ => ⟨S16384x4x128, .f32⟩
  | .hbm, ⟨45, _⟩ => ⟨S16384x1x128, .f32⟩
  | .hbm, ⟨46, _⟩ => ⟨S16384x4x128, .f32⟩
  | .hbm, ⟨47, _⟩ => ⟨S16384x4x128, .f32⟩
  | .hbm, ⟨48, _⟩ => ⟨S16384x4x128, .f32⟩
  | .hbm, ⟨49, _⟩ => ⟨S256x4x128, .f32⟩
  | .hbm, ⟨50, _⟩ => ⟨S16640x4x128, .f32⟩
  | .hbm, ⟨51, _⟩ => ⟨S16640x512, .f32⟩
  | .hbm, ⟨52, _⟩ => ⟨S16640x512, .f32⟩
  | .hbm, ⟨53, _⟩ => ⟨S16640x1024, .f32⟩
  | .hbm, ⟨54, _⟩ => ⟨S16640x1024, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== KernelProjQ.lean ====
abbrev S16640x4096 : Shape := ⟨2, ![16640, 4096]⟩
abbrev S4x4096x8192 : Shape := ⟨3, ![4, 4096, 8192]⟩
abbrev S4x2x128 : Shape := ⟨3, ![4, 2, 128]⟩
abbrev S16384x128 : Shape := ⟨2, ![16384, 128]⟩
abbrev S128 : Shape := ⟨1, ![128]⟩
abbrev S_ : Shape := ⟨0, ![]⟩
abbrev S256x128 : Shape := ⟨2, ![256, 128]⟩
abbrev S16640x128 : Shape := ⟨2, ![16640, 128]⟩
abbrev S1x128 : Shape := ⟨2, ![1, 128]⟩
abbrev S4x2x1x128 : Shape := ⟨4, ![4, 2, 1, 128]⟩
abbrev S16640x2048 : Shape := ⟨2, ![16640, 2048]⟩
abbrev S1040x4096 : Shape := ⟨2, ![1040, 4096]⟩
abbrev S1x4096x1024 : Shape := ⟨3, ![1, 4096, 1024]⟩
abbrev S1x1x1x128 : Shape := ⟨4, ![1, 1, 1, 128]⟩
abbrev S1040x128 : Shape := ⟨2, ![1040, 128]⟩
abbrev S1040x1024 : Shape := ⟨2, ![1040, 1024]⟩
abbrev S1x4096x256 : Shape := ⟨3, ![1, 4096, 256]⟩
abbrev S4096x256 : Shape := ⟨2, ![4096, 256]⟩
abbrev S1040x256 : Shape := ⟨2, ![1040, 256]⟩
abbrev S1040 : Shape := ⟨1, ![1040]⟩
abbrev S1040x1 : Shape := ⟨2, ![1040, 1]⟩

abbrev nBuf : Space → Nat
  | .hbm => 48
  | .vmem => 11
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S4x2x128, .f32⟩
  | .hbm, ⟨3, _⟩ => ⟨S16384x128, .f32⟩
  | .hbm, ⟨4, _⟩ => ⟨S16384x128, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S_, .i1⟩
  | .hbm, ⟨22, _⟩ => ⟨S128, .i1⟩
  | .hbm, ⟨23, _⟩ => ⟨S128, .i1⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S256x128, .f32⟩
  | .hbm, ⟨39, _⟩ => ⟨S16640x128, .f32⟩
  | .hbm, ⟨40, _⟩ => ⟨S1x128, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S256x128, .f32⟩
  | .hbm, ⟨45, _⟩ => ⟨S16640x128, .f32⟩
  | .hbm, ⟨46, _⟩ => ⟨S4x2x1x128, .f32⟩
  | .hbm, ⟨47, _⟩ => ⟨S16640x2048, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1x1x128, .f32⟩
  | .local _ .vmem, ⟨5, _⟩ => ⟨S1040x128, .f32⟩
  | .local _ .vmem, ⟨6, _⟩ => ⟨S1040x128, .f32⟩
  | .local _ .vmem, ⟨7, _⟩ => ⟨S1040x128, .f32⟩
  | .local _ .vmem, ⟨8, _⟩ => ⟨S1040x128, .f32⟩
  | .local _ .vmem, ⟨9, _⟩ => ⟨S1040x1024, .bf16⟩
  | .local _ .vmem, ⟨10, _⟩ => ⟨S1040x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1040x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1040x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelProjQIdeal.lean ====
variable {F : FTy → Type} [FloatOps F] [Named F]
def κ : String → Option EReal := fun
  | "query_scale" => some (((Real.sqrt 128)⁻¹ * (Real.log 2)⁻¹ : ℝ) : EReal)
  | _ => none
-- ==== ReferenceProjQIdeal.lean ====
abbrev S16640x4096 : Shape := ⟨2, ![16640, 4096]⟩
abbrev S4x4096x8192 : Shape := ⟨3, ![4, 4096, 8192]⟩
abbrev S4x2x128 : Shape := ⟨3, ![4, 2, 128]⟩
abbrev S16384x128 : Shape := ⟨2, ![16384, 128]⟩
abbrev S1x4096x8192 : Shape := ⟨3, ![1, 4096, 8192]⟩
abbrev S4096x8192 : Shape := ⟨2, ![4096, 8192]⟩
abbrev S4096x2048 : Shape := ⟨2, ![4096, 2048]⟩
abbrev S16640x2048 : Shape := ⟨2, ![16640, 2048]⟩
abbrev S16640x16x128 : Shape := ⟨3, ![16640, 16, 128]⟩
abbrev S1x1x128 : Shape := ⟨3, ![1, 1, 128]⟩
abbrev S128 : Shape := ⟨1, ![128]⟩
abbrev S_ : Shape := ⟨0, ![]⟩
abbrev S16640x16 : Shape := ⟨2, ![16640, 16]⟩
abbrev S16640x16x1 : Shape := ⟨3, ![16640, 16, 1]⟩
abbrev S16384x16x128 : Shape := ⟨3, ![16384, 16, 128]⟩
abbrev S16384x16x2x2x32 : Shape := ⟨5, ![16384, 16, 2, 2, 32]⟩
abbrev S16384x16x2x1x32 : Shape := ⟨5, ![16384, 16, 2, 1, 32]⟩
abbrev S16384x16x2x32 : Shape := ⟨4, ![16384, 16, 2, 32]⟩
abbrev S16384x1x128 : Shape := ⟨3, ![16384, 1, 128]⟩
abbrev S256x16x128 : Shape := ⟨3, ![256, 16, 128]⟩

abbrev nBuf : Space → Nat
  | .hbm => 60
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x4096x8192, .bf16⟩
  | .hbm, ⟨2, _⟩ => ⟨S4x2x128, .f32⟩
  | .hbm, ⟨3, _⟩ => ⟨S16384x128, .f32⟩
  | .hbm, ⟨4, _⟩ => ⟨S16384x128, .f32⟩
  | .hbm, ⟨5, _⟩ => ⟨S16640x4096, .f32⟩
  | .hbm, ⟨6, _⟩ => ⟨S1x4096x8192, .bf16⟩
  | .hbm, ⟨7, _⟩ => ⟨S4096x8192, .bf16⟩
  | .hbm, ⟨8, _⟩ => ⟨S4096x8192, .f32⟩
  | .hbm, ⟨9, _⟩ => ⟨S4096x2048, .f32⟩
  | .hbm, ⟨10, _⟩ => ⟨S16640x2048, .f32⟩
  | .hbm, ⟨11, _⟩ => ⟨S16640x16x128, .f32⟩
  | .hbm, ⟨12, _⟩ => ⟨S1x1x128, .f32⟩
  | .hbm, ⟨13, _⟩ => ⟨S128, .f32⟩
  | .hbm, ⟨14, _⟩ => ⟨S16640x16x128, .f32⟩
  | .hbm, ⟨15, _⟩ => ⟨S_, .f32⟩
  | .hbm, ⟨16, _⟩ => ⟨S16640x16, .f32⟩
  | .hbm, ⟨17, _⟩ => ⟨S16640x16x1, .f32⟩
  | .hbm, ⟨18, _⟩ => ⟨S_, .f32⟩
  | .hbm, ⟨19, _⟩ => ⟨S16640x16x1, .f32⟩
  | .hbm, ⟨20, _⟩ => ⟨S16640x16x1, .f32⟩
  | .hbm, ⟨21, _⟩ => ⟨S_, .f32⟩
  | .hbm, ⟨22, _⟩ => ⟨S16640x16x1, .f32⟩
  | .hbm, ⟨23, _⟩ => ⟨S16640x16x1, .f32⟩
  | .hbm, ⟨24, _⟩ => ⟨S16640x16x1, .f32⟩
  | .hbm, ⟨25, _⟩ => ⟨S16640x16x128, .f32⟩
  | .hbm, ⟨26, _⟩ => ⟨S16640x16x128, .f32⟩
  | .hbm, ⟨27, _⟩ => ⟨S1x1x128, .f32⟩
  | .hbm, ⟨28, _⟩ => ⟨S16640x16x128, .f32⟩
  | .hbm, ⟨29, _⟩ => ⟨S16640x16x128, .f32⟩
  | .hbm, ⟨30, _⟩ => ⟨S16384x16x128, .f32⟩
  | .hbm, ⟨31, _⟩ => ⟨S16384x16x2x2x32, .f32⟩
  | .hbm, ⟨32, _⟩ => ⟨S16384x16x2x1x32, .f32⟩
  | .hbm, ⟨33, _⟩ => ⟨S16384x16x2x32, .f32⟩
  | .hbm, ⟨34, _⟩ => ⟨S16384x16x2x32, .f32⟩
  | .hbm, ⟨35, _⟩ => ⟨S16384x16x2x1x32, .f32⟩
  | .hbm, ⟨36, _⟩ => ⟨S16384x16x2x32, .f32⟩
  | .hbm, ⟨37, _⟩ => ⟨S16384x16x2x1x32, .f32⟩
  | .hbm, ⟨38, _⟩ => ⟨S16384x16x2x1x32, .f32⟩
  | .hbm, ⟨39, _⟩ => ⟨S16384x16x2x2x32, .f32⟩
  | .hbm, ⟨40, _⟩ => ⟨S16384x16x128, .f32⟩
  | .hbm, ⟨41, _⟩ => ⟨S16384x1x128, .f32⟩
  | .hbm, ⟨42, _⟩ => ⟨S16384x16x128, .f32⟩
  | .hbm, ⟨43, _⟩ => ⟨S16384x16x128, .f32⟩
  | .hbm, ⟨44, _⟩ => ⟨S16384x1x128, .f32⟩
  | .hbm, ⟨45, _⟩ => ⟨S16384x16x128, .f32⟩
  | .hbm, ⟨46, _⟩ => ⟨S16384x16x128, .f32⟩
  | .hbm, ⟨47, _⟩ => ⟨S16384x16x128, .f32⟩
  | .hbm, ⟨48, _⟩ => ⟨S256x16x128, .f32⟩
  | .hbm, ⟨49, _⟩ => ⟨S16640x16x128, .f32⟩
  | .hbm, ⟨50, _⟩ => ⟨S_, .f32⟩
  | .hbm, ⟨51, _⟩ => ⟨S_, .f32⟩
  | .hbm, ⟨52, _⟩ => ⟨S16640x16x128, .f32⟩
  | .hbm, ⟨53, _⟩ => ⟨S16640x16x128, .f32⟩
  | .hbm, ⟨54, _⟩ => ⟨S_, .f32⟩
  | .hbm, ⟨55, _⟩ => ⟨S_, .f32⟩
  | .hbm, ⟨56, _⟩ => ⟨S16640x16x128, .f32⟩
  | .hbm, ⟨57, _⟩ => ⟨S16640x16x128, .f32⟩
  | .hbm, ⟨58, _⟩ => ⟨S16640x2048, .f32⟩
  | .hbm, ⟨59, _⟩ => ⟨S16640x2048, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Proof.Steps.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! The attention body as a chain of steps.  A step takes the running maximum, the running sum of weights and the
    running weighted sum of values, and one block of keys and values.  The body on a block of latent queries is five
    steps from the initial state; the body on the block of context queries is one step. -/

namespace Cert.KernelIdeal.Attn

open Cert.KernelIdeal Cert.KernelIdeal.Gen Idealize.ShloMosaic Idealize.ShloMosaic.TcCoe Idealize.SL.Sem

variable {F : FTy → Type} [FloatOps F]

/-- The `3328` columns of the transposed keys from column `o` on. -/
def kCut (x1 : Vec F S128x16640 .bf16) (o : ℕ) (ho : o + 3328 ≤ 16640) : Vec F S128x3328 .bf16 := fun j =>
  x1 (ix2 (j 0) ⟨o + (j 1).val, by have h : (j 1).val < 3328 := (j 1).isLt; omega⟩)

/-- The `3328` rows of the values from row `o` on. -/
def vCut (x2 : Vec F S16640x128 .bf16) (o : ℕ) (ho : o + 3328 ≤ 16640) : Vec F S3328x128 .bf16 := fun j =>
  x2 (ix2 ⟨o + (j 0).val, by have h : (j 0).val < 3328 := (j 0).isLt; omega⟩ (j 1))

/-- The queries of the four heads of a block, stacked: row `256 h + r` holds head `h` of query `r`. -/
def qStack (x0 : Vec F S256x512 .bf16) : Vec F S1024x128 .bf16 := fun j =>
  x0 (ix2 ⟨(j 0).val % 256, Nat.mod_lt _ (by decide)⟩
    ⟨128 * ((j 0).val / 256) + (j 1).val, by
      have h0 : (j 0).val < 1024 := (j 0).isLt
      have h1 : (j 1).val < 128 := (j 1).isLt
      omega⟩)

/-- The last `256` columns of the transposed keys: the context keys. -/
def kCtx (x1 : Vec F S128x16640 .bf16) : Vec F S128x256 .bf16 := fun j =>
  x1 (ix2 (j 0) ⟨16384 + (j 1).val, by have h : (j 1).val < 256 := (j 1).isLt; omega⟩)

/-- The last `256` rows of the values: the context values. -/
def vCtx (x2 : Vec F S16640x128 .bf16) : Vec F S256x128 .bf16 := fun j =>
  x2 (ix2 ⟨16384 + (j 0).val, by have h : (j 0).val < 256 := (j 0).isLt; omega⟩ (j 1))

/-- The running maximum after one step. -/
def stM (kt : Vec F S128x3328 .bf16) (q : Vec F S1024x128 .bf16) (M : Vec F S1024x128 .f32) : Vec F S1024x128 .f32 :=
  k0_pay23 (k0_pay17 kt q M)

/-- The running sum of weights, lane by lane, after one step. -/
def stL (kt : Vec F S128x3328 .bf16) (q : Vec F S1024x128 .bf16) (M L : Vec F S1024x128 .f32) : Vec F S1024x128 .f32 :=
  k0_pay21 (k0_pay18 kt q M) (k0_pay19 kt q M) (k0_pay20 kt q M) L

/-- The running weighted sum of values after one step. -/
def stA (kt : Vec F S128x3328 .bf16) (v : Vec F S3328x128 .bf16) (q : Vec F S1024x128 .bf16) (M A : Vec F S1024x128 .f32) :
    Vec F S1024x128 .f32 :=
  k0_pay22 v (k0_pay18 kt q M) (k0_pay19 kt q M) A

section chain

variable (q : Vec F S1024x128 .bf16) (x1 : Vec F S128x16640 .bf16) (x2 : Vec F S16640x128 .bf16)

/-- The running maximum after `n` of the five steps. -/
def chM : (n : ℕ) → n ≤ 5 → Vec F S1024x128 .f32
  | 0, _ => k0_pay63
  | n + 1, h => stM (kCut x1 (3328 * n) (by omega)) q (chM n (by omega))

/-- The running sum of weights after `n` of the five steps. -/
def chL : (n : ℕ) → n ≤ 5 → Vec F S1024x128 .f32
  | 0, _ => k0_pay64
  | n + 1, h => stL (kCut x1 (3328 * n) (by omega)) q (chM q x1 n (by omega)) (chL n (by omega))

/-- The running weighted sum of values after `n` of the five steps. -/
def chA : (n : ℕ) → n ≤ 5 → Vec F S1024x128 .f32
  | 0, _ => k0_pay1 k0_pay65
  | n + 1, h => stA (kCut x1 (3328 * n) (by omega)) (vCut x2 (3328 * n) (by omega)) q (chM q x1 n (by omega)) (chA n (by omega))

end chain

theorem readAt_kCut {κ : Kind} {sp : Space} (g : Memref sig κ sp S128x16640 .bf16) (hg : g.IsWhole) (x1 : Vec F S128x16640 .bf16) (o : ℕ)
    (ho : o + 3328 ≤ 16640) (inb) :
    View.readAt (Elt F) g.view (Rect.unit (s := S128x16640) ![0, o] S128x3328.size inb).toLoadRect (hg.unread x1) = kCut x1 o ho := by
  rw [View.readAt_eq_ld, hg.read_unread]
  funext j
  refine View.ld_unit_apply_of _ _ _ _ _ _ fun a => ?_
  match a with
  | 0 => exact (Nat.zero_add _).symm
  | 1 => rfl

theorem readAt_vCut {κ : Kind} {sp : Space} (g : Memref sig κ sp S16640x128 .bf16) (hg : g.IsWhole) (x2 : Vec F S16640x128 .bf16) (o : ℕ)
    (ho : o + 3328 ≤ 16640) (inb) :
    View.readAt (Elt F) g.view (Rect.unit (s := S16640x128) ![o, 0] S3328x128.size inb).toLoadRect (hg.unread x2) = vCut x2 o ho := by
  rw [View.readAt_eq_ld, hg.read_unread]
  funext j
  refine View.ld_unit_apply_of _ _ _ _ _ _ fun a => ?_
  match a with
  | 0 => rfl
  | 1 => exact (Nat.zero_add _).symm

theorem readAt_kCtx {κ : Kind} {sp : Space} (g : Memref sig κ sp S128x16640 .bf16) (hg : g.IsWhole) (x1 : Vec F S128x16640 .bf16) (inb) :
    View.readAt (Elt F) g.view (Rect.unit (s := S128x16640) ![0, 16384] ![128, 256] inb).toLoadRect (hg.unread x1) = kCtx x1 := by
  rw [View.readAt_eq_ld, hg.read_unread]
  funext j
  refine View.ld_unit_apply_of _ _ _ _ _ _ fun a => ?_
  match a with
  | 0 => exact (Nat.zero_add _).symm
  | 1 => rfl

theorem readAt_vCtx {κ : Kind} {sp : Space} (g : Memref sig κ sp S16640x128 .bf16) (hg : g.IsWhole) (x2 : Vec F S16640x128 .bf16) (inb) :
    View.readAt (Elt F) g.view (Rect.unit (s := S16640x128) ![16384, 0] ![256, 128] inb).toLoadRect (hg.unread x2) = vCtx x2 := by
  rw [View.readAt_eq_ld, hg.read_unread]
  funext j
  refine View.ld_unit_apply_of _ _ _ _ _ _ fun a => ?_
  match a with
  | 0 => rfl
  | 1 => exact (Nat.zero_add _).symm

theorem k0_pay59_eq (x : Vec F S256x128 .bf16) : k0_pay59 x = x := by funext j; pointwise [k0_pay59]
theorem k0_pay60_eq (x : Vec F S256x128 .bf16) : k0_pay60 x = x := by funext j; pointwise [k0_pay60]
theorem k0_pay61_eq (x : Vec F S256x128 .bf16) : k0_pay61 x = x := by funext j; pointwise [k0_pay61]
theorem k0_pay62_eq (x : Vec F S256x128 .bf16) : k0_pay62 x = x := by funext j; pointwise [k0_pay62]

/-- One head's queries, cut out of the block, are the head's rows of the stack. -/
theorem qPiece (x0 : Vec F S256x512 .bf16) (o p : ℕ) (h : p = 2 * o) (ho : o % 128 = 0 ∧ o < 512) (inb inb') (x : S256x128.Idx) :
    View.ld x0 (Rect.unit (s := S256x512) ![0, o] ![256, 128] inb') x
      = qStack x0 ((Rect.unit (s := S1024x128) ![p, 0] ![256, 128] inb).emb x) := by
  subst h
  have h0 : (x 0).val < 256 := (x 0).isLt
  have h1 : (x 1).val < 128 := (x 1).isLt
  have e0 : (((Rect.unit (s := S1024x128) ![2 * o, 0] ![256, 128] inb).emb x) 0).val = 2 * o + (x 0).val :=
    Rect.idx_unit_val _ _ inb x 0
  have e1 : (((Rect.unit (s := S1024x128) ![2 * o, 0] ![256, 128] inb).emb x) 1).val = 0 + (x 1).val :=
    Rect.idx_unit_val _ _ inb x 1
  refine View.ld_unit_apply_of _ _ _ _ _ _ fun a => ?_
  match a with
  | 0 =>
    show (((Rect.unit (s := S1024x128) ![2 * o, 0] ![256, 128] inb).emb x) 0).val % 256 = 0 + (x 0).val
    rw [e0]; omega
  | 1 =>
    show 128 * ((((Rect.unit (s := S1024x128) ![2 * o, 0] ![256, 128] inb).emb x) 0).val / 256)
      + (((Rect.unit (s := S1024x128) ![2 * o, 0] ![256, 128] inb).emb x) 1).val = o + (x 1).val
    rw [e0, e1]; omega

theorem rowPiece (p : ℕ) (inb) (y : S1024x128.Idx) (h : p ≤ (y 0).val) (h' : (y 0).val < p + 256) :
    y ∈ (Rect.unit (s := S1024x128) ![p, 0] ![256, 128] inb).set := by
  have h1 : (y 1).val < 128 := (y 1).isLt
  rw [Rect.mem_set_unit]
  intro a
  match a with
  | 0 => exact ⟨h, h'⟩
  | 1 => exact ⟨Nat.zero_le _, (Nat.zero_add 128).symm ▸ h1⟩

theorem qRead {κ κ' : Kind} {sp sp' : Space} (g : Memref sig κ sp S256x512 .bf16) (hg : g.IsWhole) (g6 : Memref sig κ' sp' S1024x128 .bf16)
    (x0 : Vec F S256x512 .bf16) (i0 i1 i2 i3 j0 j1 j2 j3 w) :
    g6.view.readCov (Val := Elt F)
      [⟨Rect.unit (s := S1024x128) ![768, 0] S256x128.size i3, k0_pay62 (View.readAt (Elt F) g.view (Rect.unit (s := S256x512) ![0, 384] S256x128.size j3).toLoadRect (hg.unread x0))⟩,
       ⟨Rect.unit (s := S1024x128) ![512, 0] S256x128.size i2, k0_pay61 (View.readAt (Elt F) g.view (Rect.unit (s := S256x512) ![0, 256] S256x128.size j2).toLoadRect (hg.unread x0))⟩,
       ⟨Rect.unit (s := S1024x128) ![256, 0] S256x128.size i1, k0_pay60 (View.readAt (Elt F) g.view (Rect.unit (s := S256x512) ![0, 128] S256x128.size j1).toLoadRect (hg.unread x0))⟩,
       ⟨Rect.unit (s := S1024x128) ![0, 0] S256x128.size i0, k0_pay59 (View.readAt (Elt F) g.view (Rect.unit (s := S256x512) ![0, 0] S256x128.size j0).toLoadRect (hg.unread x0))⟩]
      (Rect.unit (s := S1024x128) ![0, 0] ![1024, 128] w).toLoadRect = qStack x0 := by
  rw [View.readCov_eq_canon']
  refine funext fun (y : S1024x128.Idx) => ?_
  have e : (Rect.unit (s := S1024x128) ![0, 0] ![1024, 128] w).toLoadRect.idx y = y := by
    funext a
    refine Fin.ext ((Rect.idx_unit_val _ _ _ y a).trans ?_)
    match a with
    | 0 => exact Nat.zero_add _
    | 1 => exact Nat.zero_add _
  rw [e]
  simp only [View.readAt_eq_ld, hg.read_unread]
  refine View.canon_append_of_piecesOf (qStack x0) [] [_, _, _, _] ⟨?_, ?_, ?_, ?_, trivial⟩ y ?_
  · exact fun x => (congrFun (k0_pay62_eq _) x).trans (qPiece x0 384 768 rfl (by decide) i3 j3 x)
  · exact fun x => (congrFun (k0_pay61_eq _) x).trans (qPiece x0 256 512 rfl (by decide) i2 j2 x)
  · exact fun x => (congrFun (k0_pay60_eq _) x).trans (qPiece x0 128 256 rfl (by decide) i1 j1 x)
  · exact fun x => (congrFun (k0_pay59_eq _) x).trans (qPiece x0 0 0 rfl (by decide) i0 j0 x)
  · have h0 : (y 0).val < 1024 := (y 0).isLt
    have h1 : (y 1).val < 128 := (y 1).isLt
    rcases Nat.lt_or_ge (y 0).val 256 with h | h
    · refine ⟨_, by simp only [List.mem_cons]; exact .inr (.inr (.inr (.inl rfl))), ?_⟩
      exact rowPiece 0 i0 y (by omega) (by omega)
    rcases Nat.lt_or_ge (y 0).val 512 with h' | h'
    · refine ⟨_, by simp only [List.mem_cons]; exact .inr (.inr (.inl rfl)), ?_⟩
      exact rowPiece 256 i1 y (by omega) (by omega)
    rcases Nat.lt_or_ge (y 0).val 768 with h'' | h''
    · refine ⟨_, by simp only [List.mem_cons]; exact .inr (.inl rfl), ?_⟩
      exact rowPiece 512 i2 y (by omega) (by omega)
    · refine ⟨_, by simp only [List.mem_cons]; exact .inl rfl, ?_⟩
      exact rowPiece 768 i3 y (by omega) (by omega)

section runA

variable (c : Dev nD) (i : grid0.Coords) (arg2 : Memref sig .tc .vmem S256x512 .bf16) (harg2 : arg2.IsWhole) (arg3 : Memref sig .tc .vmem S128x16640 .bf16) (harg3 : arg3.IsWhole) (arg4 : Memref sig .tc .vmem S16640x128 .bf16) (harg4 : arg4.IsWhole) (arg6 : Memref sig .tc .vmem S1024x128 .bf16) (arg7 : Memref sig .tc .vmem S1024x128 .f32) (arg8 : Memref sig .tc .vmem S1024x128 .f32) (arg9 : Memref sig .tc .vmem S1024x128 .f32) (hc0 : cond0_0 i)
    (x0 : Vec F S256x512 .bf16) (x1 : Vec F S128x16640 .bf16) (x2 : Vec F S16640x128 .bf16)

theorem q_A : kernelRun0_A.sl.v60 c arg2 harg2 arg6 x0 = qStack x0 := by
  unfold kernelRun0_A.sl.v60 kernelRun0_A.sl.HS0_4
  exact qRead arg2 harg2 arg6 x0 _ _ _ _ _ _ _ _ _

set_option backward.isDefEq.respectTransparency false in
theorem M_A0 : kernelRun0_A.sl.v62 c arg7 = chM (qStack x0) x1 0 (by decide) := by
  unfold kernelRun0_A.sl.v62 kernelRun0_A.sl.HS1_1
  refine (View.readCov_cons_toLoadRect _ _ _ _).trans ?_
  rfl

set_option backward.isDefEq.respectTransparency false in
theorem M_A1 : kernelRun0_A.sl.v149 c i arg2 harg2 arg3 harg3 arg6 arg7 hc0 x0 x1 = chM (qStack x0) x1 1 (by decide) := by
  unfold kernelRun0_A.sl.v149 kernelRun0_A.sl.HS1_2
  refine (View.readCov_cons_toLoadRect _ _ _ _).trans ?_
  try unfold kernelRun0_A.sl.r_4
  try unfold kernelRun0_A.sl.r_3
  try unfold kernelRun0_A.sl.r_2
  try unfold kernelRun0_A.sl.r_1
  rw [q_A c arg2 harg2 arg6 x0, readAt_kCut arg3 harg3 x1 0 (by decide), M_A0 c arg7]
  rfl

set_option backward.isDefEq.respectTransparency false in
theorem M_A2 : kernelRun0_A.sl.v236 c i arg2 harg2 arg3 harg3 arg6 arg7 hc0 x0 x1 = chM (qStack x0) x1 2 (by decide) := by
  unfold kernelRun0_A.sl.v236 kernelRun0_A.sl.HS1_3
  refine (View.readCov_cons_toLoadRect _ _ _ _).trans ?_
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_5
  rw [q_A c arg2 harg2 arg6 x0, readAt_kCut arg3 harg3 x1 3328 (by decide), M_A1 c i arg2 harg2 arg3 harg3 arg6 arg7 hc0 x0 x1]
  rfl

set_option backward.isDefEq.respectTransparency false in
theorem M_A3 : kernelRun0_A.sl.v323 c i arg2 harg2 arg3 harg3 arg6 arg7 hc0 x0 x1 = chM (qStack x0) x1 3 (by decide) := by
  unfold kernelRun0_A.sl.v323 kernelRun0_A.sl.HS1_4
  refine (View.readCov_cons_toLoadRect _ _ _ _).trans ?_
  try unfold kernelRun0_A.sl.r_17
  try unfold kernelRun0_A.sl.r_16
  try unfold kernelRun0_A.sl.r_15
  try unfold kernelRun0_A.sl.r_14
  try unfold kernelRun0_A.sl.r_13
  rw [q_A c arg2 harg2 arg6 x0, readAt_kCut arg3 harg3 x1 6656 (by decide), M_A2 c i arg2 harg2 arg3 harg3 arg6 arg7 hc0 x0 x1]
  rfl

set_option backward.isDefEq.respectTransparency false in
theorem M_A4 : kernelRun0_A.sl.v410 c i arg2 harg2 arg3 harg3 arg6 arg7 hc0 x0 x1 = chM (qStack x0) x1 4 (by decide) := by
  unfold kernelRun0_A.sl.v410 kernelRun0_A.sl.HS1_5
  refine (View.readCov_cons_toLoadRect _ _ _ _).trans ?_
  try unfold kernelRun0_A.sl.r_24
  try unfold kernelRun0_A.sl.r_23
  try unfold kernelRun0_A.sl.r_22
  try unfold kernelRun0_A.sl.r_21
  try unfold kernelRun0_A.sl.r_20
  try unfold kernelRun0_A.sl.r_19
  rw [q_A c arg2 harg2 arg6 x0, readAt_kCut arg3 harg3 x1 9984 (by decide), M_A3 c i arg2 harg2 arg3 harg3 arg6 arg7 hc0 x0 x1]
  rfl

set_option backward.isDefEq.respectTransparency false in
theorem L_A0 : kernelRun0_A.sl.v123 c arg8 = chL (qStack x0) x1 0 (by decide) := by
  unfold kernelRun0_A.sl.v123 kernelRun0_A.sl.HS2_1
  refine (View.readCov_cons_toLoadRect _ _ _ _).trans ?_
  rfl

set_option backward.isDefEq.respectTransparency false in
theorem L_A1 : kernelRun0_A.sl.v210 c i arg2 harg2 arg3 harg3 arg6 arg7 arg8 hc0 x0 x1 = chL (qStack x0) x1 1 (by decide) := by
  unfold kernelRun0_A.sl.v210 kernelRun0_A.sl.HS2_2
  refine (View.readCov_cons_toLoadRect _ _ _ _).trans ?_
  try unfold kernelRun0_A.sl.r_4
  try unfold kernelRun0_A.sl.r_3
  try unfold kernelRun0_A.sl.r_2
  try unfold kernelRun0_A.sl.r_1
  rw [q_A c arg2 harg2 arg6 x0, readAt_kCut arg3 harg3 x1 0 (by decide), M_A0 c arg7, L_A0 c arg8]
  rfl

set_option backward.isDefEq.respectTransparency false in
theorem L_A2 : kernelRun0_A.sl.v297 c i arg2 harg2 arg3 harg3 arg6 arg7 arg8 hc0 x0 x1 = chL (qStack x0) x1 2 (by decide) := by
  unfold kernelRun0_A.sl.v297 kernelRun0_A.sl.HS2_3
  refine (View.readCov_cons_toLoadRect _ _ _ _).trans ?_
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_5
  rw [q_A c arg2 harg2 arg6 x0, readAt_kCut arg3 harg3 x1 3328 (by decide), M_A1 c i arg2 harg2 arg3 harg3 arg6 arg7 hc0 x0 x1, L_A1 c i arg2 harg2 arg3 harg3 arg6 arg7 arg8 hc0 x0 x1]
  rfl

set_option backward.isDefEq.respectTransparency false in
theorem L_A3 : kernelRun0_A.sl.v384 c i arg2 harg2 arg3 harg3 arg6 arg7 arg8 hc0 x0 x1 = chL (qStack x0) x1 3 (by decide) := by
  unfold kernelRun0_A.sl.v384 kernelRun0_A.sl.HS2_4
  refine (View.readCov_cons_toLoadRect _ _ _ _).trans ?_
  try unfold kernelRun0_A.sl.r_17
  try unfold kernelRun0_A.sl.r_16
  try unfold kernelRun0_A.sl.r_15
  try unfold kernelRun0_A.sl.r_14
  try unfold kernelRun0_A.sl.r_13
  rw [q_A c arg2 harg2 arg6 x0, readAt_kCut arg3 harg3 x1 6656 (by decide), M_A2 c i arg2 harg2 arg3 harg3 arg6 arg7 hc0 x0 x1, L_A2 c i arg2 harg2 arg3 harg3 arg6 arg7 arg8 hc0 x0 x1]
  rfl

set_option backward.isDefEq.respectTransparency false in
theorem L_A4 : kernelRun0_A.sl.v471 c i arg2 harg2 arg3 harg3 arg6 arg7 arg8 hc0 x0 x1 = chL (qStack x0) x1 4 (by decide) := by
  unfold kernelRun0_A.sl.v471 kernelRun0_A.sl.HS2_5
  refine (View.readCov_cons_toLoadRect _ _ _ _).trans ?_
  try unfold kernelRun0_A.sl.r_24
  try unfold kernelRun0_A.sl.r_23
  try unfold kernelRun0_A.sl.r_22
  try unfold kernelRun0_A.sl.r_21
  try unfold kernelRun0_A.sl.r_20
  try unfold kernelRun0_A.sl.r_19
  rw [q_A c arg2 harg2 arg6 x0, readAt_kCut arg3 harg3 x1 9984 (by decide), M_A3 c i arg2 harg2 arg3 harg3 arg6 arg7 hc0 x0 x1, L_A3 c i arg2 harg2 arg3 harg3 arg6 arg7 arg8 hc0 x0 x1]
  rfl

set_option backward.isDefEq.respectTransparency false in
theorem L_A5 : kernelRun0_A.sl.v36 c i arg2 harg2 arg3 harg3 arg6 arg7 arg8 hc0 x0 x1 = chL (qStack x0) x1 5 (by decide) := by
  unfold kernelRun0_A.sl.v36 kernelRun0_A.sl.HS2_6
  refine (View.readCov_cons_toLoadRect _ _ _ _).trans ?_
  try unfold kernelRun0_A.sl.r_31
  try unfold kernelRun0_A.sl.r_30
  try unfold kernelRun0_A.sl.r_29
  try unfold kernelRun0_A.sl.r_28
  try unfold kernelRun0_A.sl.r_27
  try unfold kernelRun0_A.sl.r_26
  rw [q_A c arg2 harg2 arg6 x0, readAt_kCut arg3 harg3 x1 13312 (by decide), M_A4 c i arg2 harg2 arg3 harg3 arg6 arg7 hc0 x0 x1, L_A4 c i arg2 harg2 arg3 harg3 arg6 arg7 arg8 hc0 x0 x1]
  rfl

set_option backward.isDefEq.respectTransparency false in
theorem A_A0 : kernelRun0_A.sl.v129 c arg9 = chA (qStack x0) x1 x2 0 (by decide) := by
  unfold kernelRun0_A.sl.v129 kernelRun0_A.sl.HS3_1
  refine (View.readCov_cons_toLoadRect _ _ _ _).trans ?_
  rfl

set_option backward.isDefEq.respectTransparency false in
theorem A_A1 : kernelRun0_A.sl.v216 c i arg2 harg2 arg3 harg3 arg4 harg4 arg6 arg7 arg9 hc0 x0 x1 x2 = chA (qStack x0) x1 x2 1 (by decide) := by
  unfold kernelRun0_A.sl.v216 kernelRun0_A.sl.HS3_2
  refine (View.readCov_cons_toLoadRect _ _ _ _).trans ?_
  try unfold kernelRun0_A.sl.r_4
  try unfold kernelRun0_A.sl.r_3
  try unfold kernelRun0_A.sl.r_2
  try unfold kernelRun0_A.sl.r_1
  unfold kernelRun0_A.sl.r
  rw [q_A c arg2 harg2 arg6 x0, readAt_kCut arg3 harg3 x1 0 (by decide), M_A0 c arg7, readAt_vCut arg4 harg4 x2 0 (by decide), A_A0 c arg9]
  rfl

set_option backward.isDefEq.respectTransparency false in
theorem A_A2 : kernelRun0_A.sl.v303 c i arg2 harg2 arg3 harg3 arg4 harg4 arg6 arg7 arg9 hc0 x0 x1 x2 = chA (qStack x0) x1 x2 2 (by decide) := by
  unfold kernelRun0_A.sl.v303 kernelRun0_A.sl.HS3_3
  refine (View.readCov_cons_toLoadRect _ _ _ _).trans ?_
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_5
  unfold kernelRun0_A.sl.r_6
  rw [q_A c arg2 harg2 arg6 x0, readAt_kCut arg3 harg3 x1 3328 (by decide), M_A1 c i arg2 harg2 arg3 harg3 arg6 arg7 hc0 x0 x1, readAt_vCut arg4 harg4 x2 3328 (by decide), A_A1 c i arg2 harg2 arg3 harg3 arg4 harg4 arg6 arg7 arg9 hc0 x0 x1 x2]
  rfl

set_option backward.isDefEq.respectTransparency false in
theorem A_A3 : kernelRun0_A.sl.v390 c i arg2 harg2 arg3 harg3 arg4 harg4 arg6 arg7 arg9 hc0 x0 x1 x2 = chA (qStack x0) x1 x2 3 (by decide) := by
  unfold kernelRun0_A.sl.v390 kernelRun0_A.sl.HS3_4
  refine (View.readCov_cons_toLoadRect _ _ _ _).trans ?_
  try unfold kernelRun0_A.sl.r_17
  try unfold kernelRun0_A.sl.r_16
  try unfold kernelRun0_A.sl.r_15
  try unfold kernelRun0_A.sl.r_14
  try unfold kernelRun0_A.sl.r_13
  unfold kernelRun0_A.sl.r_12
  rw [q_A c arg2 harg2 arg6 x0, readAt_kCut arg3 harg3 x1 6656 (by decide), M_A2 c i arg2 harg2 arg3 harg3 arg6 arg7 hc0 x0 x1, readAt_vCut arg4 harg4 x2 6656 (by decide), A_A2 c i arg2 harg2 arg3 harg3 arg4 harg4 arg6 arg7 arg9 hc0 x0 x1 x2]
  rfl

set_option backward.isDefEq.respectTransparency false in
theorem A_A4 : kernelRun0_A.sl.v477 c i arg2 harg2 arg3 harg3 arg4 harg4 arg6 arg7 arg9 hc0 x0 x1 x2 = chA (qStack x0) x1 x2 4 (by decide) := by
  unfold kernelRun0_A.sl.v477 kernelRun0_A.sl.HS3_5
  refine (View.readCov_cons_toLoadRect _ _ _ _).trans ?_
  try unfold kernelRun0_A.sl.r_24
  try unfold kernelRun0_A.sl.r_23
  try unfold kernelRun0_A.sl.r_22
  try unfold kernelRun0_A.sl.r_21
  try unfold kernelRun0_A.sl.r_20
  try unfold kernelRun0_A.sl.r_19
  unfold kernelRun0_A.sl.r_18
  rw [q_A c arg2 harg2 arg6 x0, readAt_kCut arg3 harg3 x1 9984 (by decide), M_A3 c i arg2 harg2 arg3 harg3 arg6 arg7 hc0 x0 x1, readAt_vCut arg4 harg4 x2 9984 (by decide), A_A3 c i arg2 harg2 arg3 harg3 arg4 harg4 arg6 arg7 arg9 hc0 x0 x1 x2]
  rfl

set_option backward.isDefEq.respectTransparency false in
theorem A_A5 : kernelRun0_A.sl.v35 c i arg2 harg2 arg3 harg3 arg4 harg4 arg6 arg7 arg9 hc0 x0 x1 x2 = chA (qStack x0) x1 x2 5 (by decide) := by
  unfold kernelRun0_A.sl.v35 kernelRun0_A.sl.HS3_6
  refine (View.readCov_cons_toLoadRect _ _ _ _).trans ?_
  try unfold kernelRun0_A.sl.r_31
  try unfold kernelRun0_A.sl.r_30
  try unfold kernelRun0_A.sl.r_29
  try unfold kernelRun0_A.sl.r_28
  try unfold kernelRun0_A.sl.r_27
  try unfold kernelRun0_A.sl.r_26
  unfold kernelRun0_A.sl.r_25
  rw [q_A c arg2 harg2 arg6 x0, readAt_kCut arg3 harg3 x1 13312 (by decide), M_A4 c i arg2 harg2 arg3 harg3 arg6 arg7 hc0 x0 x1, readAt_vCut arg4 harg4 x2 13312 (by decide), A_A4 c i arg2 harg2 arg3 harg3 arg4 harg4 arg6 arg7 arg9 hc0 x0 x1 x2]
  rfl

end runA

section runB

variable (c : Dev nD) (i : grid0.Coords) (arg2 : Memref sig .tc .vmem S256x512 .bf16) (harg2 : arg2.IsWhole) (arg3 : Memref sig .tc .vmem S128x16640 .bf16) (harg3 : arg3.IsWhole) (arg4 : Memref sig .tc .vmem S16640x128 .bf16) (harg4 : arg4.IsWhole) (arg6 : Memref sig .tc .vmem S1024x128 .bf16) (arg7 : Memref sig .tc .vmem S1024x128 .f32) (arg8 : Memref sig .tc .vmem S1024x128 .f32) (arg9 : Memref sig .tc .vmem S1024x128 .f32) (hc1 : cond0_1 i)
    (x0 : Vec F S256x512 .bf16) (x1 : Vec F S128x16640 .bf16) (x2 : Vec F S16640x128 .bf16)

theorem q_B : kernelRun0_B.sl.v56 c arg2 harg2 arg6 x0 = qStack x0 := by
  unfold kernelRun0_B.sl.v56 kernelRun0_B.sl.HS0_4
  exact qRead arg2 harg2 arg6 x0 _ _ _ _ _ _ _ _ _

theorem L_B : kernelRun0_B.sl.v36 c arg2 harg2 arg3 harg3 arg6 arg7 arg8 x0 x1 = k0_pay8 (kCtx x1) (qStack x0) k0_pay63 k0_pay64 := by
  unfold kernelRun0_B.sl.v36 kernelRun0_B.sl.HS2_2
  refine (View.readCov_cons_toLoadRect _ _ _ _).trans ?_
  unfold kernelRun0_B.sl.v58 kernelRun0_B.sl.v71 kernelRun0_B.sl.HS1_1 kernelRun0_B.sl.HS2_1
  rw [q_B c arg2 harg2 arg6 x0, readAt_kCtx arg3 harg3 x1, View.readCov_cons_toLoadRect, View.readCov_cons_toLoadRect]

theorem A_B : kernelRun0_B.sl.v35 c arg2 harg2 arg3 harg3 arg4 harg4 arg6 arg7 arg9 x0 x1 x2 = k0_pay9 (kCtx x1) (vCtx x2) (qStack x0) k0_pay63 (k0_pay1 k0_pay65) := by
  unfold kernelRun0_B.sl.v35 kernelRun0_B.sl.HS3_2
  refine (View.readCov_cons_toLoadRect _ _ _ _).trans ?_
  unfold kernelRun0_B.sl.v58 kernelRun0_B.sl.v77 kernelRun0_B.sl.HS1_1 kernelRun0_B.sl.HS3_1
  rw [q_B c arg2 harg2 arg6 x0, readAt_kCtx arg3 harg3 x1, readAt_vCtx arg4 harg4 x2, View.readCov_cons_toLoadRect,
    View.readCov_cons_toLoadRect]

end runB
end Cert.KernelIdeal.Attn

end
-- ==== Proof.Outs.lean ====
module

public import proofs.«01_k».proof.Proof.Steps

@[expose] public section

set_option maxRecDepth 16384

noncomputable section

/-! What the attention body writes: the quotient of the weighted sum of values by the sum of weights, the four heads
    side by side. -/

namespace Cert.KernelIdeal.Attn

open Cert.KernelIdeal Cert.KernelIdeal.Gen Idealize.ShloMosaic Idealize.ShloMosaic.TcCoe Idealize.SL.Sem

variable {F : FTy → Type} [FloatOps F]

/-- The output block: entry `(r, 128 h + d)` is row `256 h + r`, lane `d`, of the quotient, rounded. -/
def outTile (A L : Vec F S1024x128 .f32) : Vec F S256x512 .bf16 := fun j =>
  FloatOps.truncf .bf16 bitsLt_bf16_f32 (k0_pay11 A L (ix2
    ⟨256 * ((j 1).val / 128) + (j 0).val, by
      have h0 : (j 0).val < 256 := (j 0).isLt
      have h1 : (j 1).val < 512 := (j 1).isLt
      omega⟩
    ⟨(j 1).val % 128, Nat.mod_lt _ (by decide)⟩))

theorem outPiece (A L : Vec F S1024x128 .f32) (o p : ℕ) (h : p = 2 * o) (ho : o % 128 = 0 ∧ o < 512) (inb) (x : S256x128.Idx)
    (z : S1024x128.Idx) (hz0 : (z 0).val = p + (x 0).val) (hz1 : (z 1).val = (x 1).val) :
    FloatOps.truncf .bf16 bitsLt_bf16_f32 (k0_pay11 A L z) = outTile A L ((Rect.unit (s := S256x512) ![0, o] ![256, 128] inb).emb x) := by
  subst h
  have h0 : (x 0).val < 256 := (x 0).isLt
  have h1 : (x 1).val < 128 := (x 1).isLt
  have e0 : (((Rect.unit (s := S256x512) ![0, o] ![256, 128] inb).emb x) 0).val = 0 + (x 0).val := Rect.idx_unit_val _ _ inb x 0
  have e1 : (((Rect.unit (s := S256x512) ![0, o] ![256, 128] inb).emb x) 1).val = o + (x 1).val := Rect.idx_unit_val _ _ inb x 1
  unfold outTile
  congr 2
  funext a
  match a with
  | 0 =>
    refine Fin.ext ?_
    show (z 0).val = 256 * ((((Rect.unit (s := S256x512) ![0, o] ![256, 128] inb).emb x) 1).val / 128)
      + (((Rect.unit (s := S256x512) ![0, o] ![256, 128] inb).emb x) 0).val
    rw [hz0, e0, e1]; omega
  | 1 =>
    refine Fin.ext ?_
    show (z 1).val = (((Rect.unit (s := S256x512) ![0, o] ![256, 128] inb).emb x) 1).val % 128
    rw [hz1, e1]; omega

theorem pay12_at (A L : Vec F S1024x128 .f32) (x : S256x128.Idx) :
    k0_pay12 A L x = FloatOps.truncf .bf16 bitsLt_bf16_f32 (k0_pay11 A L (ix2 ⟨0 + (x 0).val, by have h : (x 0).val < 256 := (x 0).isLt; omega⟩  (x 1))) := by
  idx_vars x; unfold k0_pay12; pointwise
theorem pay13_at (A L : Vec F S1024x128 .f32) (x : S256x128.Idx) :
    k0_pay13 A L x = FloatOps.truncf .bf16 bitsLt_bf16_f32 (k0_pay11 A L (ix2 ⟨256 + (x 0).val, by have h : (x 0).val < 256 := (x 0).isLt; omega⟩  (x 1))) := by
  idx_vars x; unfold k0_pay13; pointwise
theorem pay14_at (A L : Vec F S1024x128 .f32) (x : S256x128.Idx) :
    k0_pay14 A L x = FloatOps.truncf .bf16 bitsLt_bf16_f32 (k0_pay11 A L (ix2 ⟨512 + (x 0).val, by have h : (x 0).val < 256 := (x 0).isLt; omega⟩  (x 1))) := by
  idx_vars x; unfold k0_pay14; pointwise
theorem pay15_at (A L : Vec F S1024x128 .f32) (x : S256x128.Idx) :
    k0_pay15 A L x = FloatOps.truncf .bf16 bitsLt_bf16_f32 (k0_pay11 A L (ix2 ⟨768 + (x 0).val, by have h : (x 0).val < 256 := (x 0).isLt; omega⟩  (x 1))) := by
  idx_vars x; unfold k0_pay15; pointwise

theorem colPiece (p : ℕ) (inb) (y : S256x512.Idx) (h : p ≤ (y 1).val) (h' : (y 1).val < p + 128) :
    y ∈ (Rect.unit (s := S256x512) ![0, p] ![256, 128] inb).set := by
  have h0 : (y 0).val < 256 := (y 0).isLt
  rw [Rect.mem_set_unit]
  intro a
  match a with
  | 0 => exact ⟨Nat.zero_le _, (Nat.zero_add 256).symm ▸ h0⟩
  | 1 => exact ⟨h, h'⟩

theorem canon_out (A L : Vec F S1024x128 .f32) (i0 i1 i2 i3) :
    View.canon (Val := Elt F)
      [⟨Rect.unit (s := S256x512) ![0, 384] ![256, 128] i3, k0_pay15 A L⟩,
       ⟨Rect.unit (s := S256x512) ![0, 256] ![256, 128] i2, k0_pay14 A L⟩,
       ⟨Rect.unit (s := S256x512) ![0, 128] ![256, 128] i1, k0_pay13 A L⟩,
       ⟨Rect.unit (s := S256x512) ![0, 0] ![256, 128] i0, k0_pay12 A L⟩] = outTile A L := by
  refine funext fun (y : S256x512.Idx) => ?_
  refine View.canon_append_of_piecesOf (outTile A L) [] [_, _, _, _] ⟨?_, ?_, ?_, ?_, trivial⟩ y ?_
  · exact fun x => (pay15_at A L x).trans (outPiece A L 384 768 rfl (by decide) i3 x _ rfl rfl)
  · exact fun x => (pay14_at A L x).trans (outPiece A L 256 512 rfl (by decide) i2 x _ rfl rfl)
  · exact fun x => (pay13_at A L x).trans (outPiece A L 128 256 rfl (by decide) i1 x _ rfl rfl)
  · exact fun x => (pay12_at A L x).trans (outPiece A L 0 0 rfl (by decide) i0 x _ rfl rfl)
  · have h0 : (y 0).val < 256 := (y 0).isLt
    have h1 : (y 1).val < 512 := (y 1).isLt
    rcases Nat.lt_or_ge (y 1).val 128 with h | h
    · refine ⟨_, .tail _ (.tail _ (.tail _ (.head _))), ?_⟩
      exact colPiece 0 i0 y (by omega) (by omega)
    rcases Nat.lt_or_ge (y 1).val 256 with h' | h'
    · refine ⟨_, .tail _ (.tail _ (.head _)), ?_⟩
      exact colPiece 128 i1 y (by omega) (by omega)
    rcases Nat.lt_or_ge (y 1).val 384 with h'' | h''
    · refine ⟨_, .tail _ (.head _), ?_⟩
      exact colPiece 256 i2 y (by omega) (by omega)
    · refine ⟨_, .head _, ?_⟩
      exact colPiece 384 i3 y (by omega) (by omega)

section outs

variable (c : Dev nD) (i : grid0.Coords) (arg2 : Memref sig .tc .vmem S256x512 .bf16) (harg2 : arg2.IsWhole) (arg3 : Memref sig .tc .vmem S128x16640 .bf16) (harg3 : arg3.IsWhole) (arg4 : Memref sig .tc .vmem S16640x128 .bf16) (harg4 : arg4.IsWhole) (arg5 : Memref sig .tc .vmem S256x512 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (x0 : Vec F S256x512 .bf16) (x1 : Vec F S128x16640 .bf16) (x2 : Vec F S16640x128 .bf16)

/-- A block of latent queries: what the body leaves is the output block of the five steps. -/
theorem out_A (hc0 : cond0_0 i) (hc1 : ¬cond0_1 i) :
    out0_A_3 c i arg2 harg2 arg3 harg3 arg4 harg4 arg5 harg5 arg6 harg6 arg7 harg7 arg8 harg8 arg9 harg9 hc0 hc1 x0 x1 x2
      = outTile (chA (qStack x0) x1 x2 5 (by decide)) (chL (qStack x0) x1 5 (by decide)) := by
  unfold out0_A_3
  rw [View.read_writes_junk_eq_canon]
  unfold kernelRun0_A
  dsimp only
  rw [A_A5 c i arg2 harg2 arg3 harg3 arg4 harg4 arg6 arg7 arg9 hc0 x0 x1 x2, L_A5 c i arg2 harg2 arg3 harg3 arg6 arg7 arg8 hc0 x0 x1]
  exact canon_out _ _ _ _ _ _

/-- The block of context queries: what the body leaves is the output block of its one step. -/
theorem out_B (hc0 : ¬cond0_0 i) (hc1 : cond0_1 i) :
    out0_B_3 c i arg2 harg2 arg3 harg3 arg4 harg4 arg5 harg5 arg6 harg6 arg7 harg7 arg8 harg8 arg9 harg9 hc0 hc1 x0 x1 x2
      = outTile (k0_pay9 (kCtx x1) (vCtx x2) (qStack x0) k0_pay63 (k0_pay1 k0_pay65)) (k0_pay8 (kCtx x1) (qStack x0) k0_pay63 k0_pay64) := by
  unfold out0_B_3
  rw [View.read_writes_junk_eq_canon]
  unfold kernelRun0_B
  dsimp only
  rw [A_B c arg2 harg2 arg3 harg3 arg4 harg4 arg6 arg7 arg9 x0 x1 x2, L_B c arg2 harg2 arg3 harg3 arg6 arg7 arg8 x0 x1]
  exact canon_out _ _ _ _ _ _

end outs

end Cert.KernelIdeal.Attn

end
-- ==== Proof.Online.lean ====
module

public import Idealize.ShloMosaic.PureOps.Ideal

@[expose] public section

noncomputable section

/-! The softmax of one row, computed block by block with a running maximum.  No program is mentioned here: the
    scores of the row are real numbers `s k`, the values `v k d` are any extended reals. -/

namespace Cert.Online

open Idealize.ShloMosaic Finset

/-- Two to a real power. -/
abbrev w (x : ℝ) : ℝ := Real.rpow 2 x

theorem w_pos (x : ℝ) : 0 < w x := Real.rpow_pos_of_pos (by norm_num) x

theorem w_add (x y : ℝ) : w (x + y) = w x * w y := Real.rpow_add (by norm_num) x y

theorem w_eq_exp (x : ℝ) : w x = Real.exp (Real.log 2 * x) := Real.rpow_def_of_pos (by norm_num) x

theorem exp2_sub (a b : ℝ) : Ideal.exp2 ((a : EReal) - (b : EReal)) = ((w (a - b) : ℝ) : EReal) := by
  rw [← EReal.coe_sub, Ideal.exp2_coe]

theorem exp_sub (a b : ℝ) : Ideal.exp ((a : EReal) - (b : EReal)) = ((Real.exp (a - b) : ℝ) : EReal) := by
  rw [← EReal.coe_sub, Ideal.exp_coe]

/-- A sum of reals read in the extended reals. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert a t h ih => rw [sum_insert h, sum_insert h, EReal.coe_add, ih]

/-- A nonnegative real factor goes through a sum of extended reals. -/
theorem mul_sum_coe {ι : Type} (t : Finset ι) (f : ι → EReal) (c : ℝ) (hc : 0 ≤ c) :
    (c : EReal) * ∑ i ∈ t, f i = ∑ i ∈ t, (c : EReal) * f i := by
  classical
  induction t using Finset.induction_on with
  | empty => simp
  | insert a t h ih =>
    rw [sum_insert h, sum_insert h,
      EReal.left_distrib_of_nonneg_of_ne_top (EReal.coe_nonneg.mpr hc) (EReal.coe_ne_top c), ih]

/-- The maximum of a real and of something below `⊤` is real. -/
theorem exists_max (μ : ℝ) (x : EReal) (hx : x ≠ ⊤) : ∃ μ' : ℝ, max (μ : EReal) x = (μ' : EReal) := by
  induction x with
  | bot => exact ⟨μ, max_eq_left bot_le⟩
  | top => exact absurd rfl hx
  | coe r => exact ⟨max μ r, (EReal.coe_strictMono.monotone.map_max (a := μ) (b := r)).symm⟩

/-- A maximum of entries that are below `⊤` is below `⊤`. -/
theorem fold_ne_top {ι : Type} {t : Finset ι} (f : ι → EReal) (h : ∀ x, f x ≠ ⊤) :
    t.fold max (Ideal.ofBits .f32 0xFF800000#32) f ≠ ⊤ := by
  classical
  induction t using Finset.induction_on with
  | empty => simp [Ideal.ofBits, Ideal.ieee]
  | insert a t hat ih =>
    rw [Finset.fold_insert hat]
    exact ne_of_lt (max_lt (lt_top_iff_ne_top.mpr (h a)) (lt_top_iff_ne_top.mpr ih))

/-- The maximum of finitely many reals, at least one, is real. -/
theorem fold_real {n : ℕ} (f : Fin (n + 1) → ℝ) :
    ∃ X : ℝ, Finset.univ.fold max (Ideal.ofBits .f32 0xFF800000#32) (fun x => (f x : EReal)) = (X : EReal) := by
  classical
  rw [← Finset.insert_erase (Finset.mem_univ (0 : Fin (n + 1))), Finset.fold_insert (Finset.notMem_erase _ _)]
  exact exists_max (f 0) _ (fold_ne_top _ fun x => EReal.coe_ne_top _)

theorem sqrt_128 : Ideal.sqrt (Ideal.ofBits .f32 1124073472#32) = ((Real.sqrt 128 : ℝ) : EReal) := by
  rw [show Ideal.ofBits .f32 1124073472#32 = ((128 : ℝ) : EReal) by simp [Ideal.ofBits, Ideal.ieee]; norm_cast; norm_num, Ideal.sqrt_coe, if_neg (by norm_num)]

theorem log_2 : Ideal.log (Ideal.ofBits .f32 1073741824#32) = ((Real.log 2 : ℝ) : EReal) := by
  rw [show Ideal.ofBits .f32 1073741824#32 = ((2 : ℝ) : EReal) by simp [Ideal.ofBits, Ideal.ieee]; norm_cast; norm_num, Ideal.log_coe, if_neg (by norm_num)]

/-- The dot product of real queries and keys is real, and with the queries scaled by `√128 log 2` it is, over `√128`,
    `log 2` times as large. -/
theorem dot_real (f g : Fin 128 → EReal) (hf : ∀ x, ∃ a : ℝ, f x = a) (hg : ∀ x, ∃ a : ℝ, g x = a) :
    ∃ s : ℝ, ∑ x, f x * g x = (s : EReal) ∧
      Ideal.div (∑ x, g x * (f x * (Ideal.sqrt (Ideal.ofBits .f32 1124073472#32) * Ideal.log (Ideal.ofBits .f32 1073741824#32))))
        (Ideal.sqrt (Ideal.ofBits .f32 1124073472#32)) = ((Real.log 2 * s : ℝ) : EReal) := by
  choose a ha using hf
  choose b hb using hg
  have h0 : Real.sqrt 128 ≠ 0 := by positivity
  refine ⟨∑ x, a x * b x, ?_, ?_⟩
  · rw [coe_sum]
    exact sum_congr rfl fun x _ => by rw [ha, hb, EReal.coe_mul]
  · rw [sqrt_128, log_2, Ideal.div_coe h0,
      show (∑ x, g x * (f x * (((Real.sqrt 128 : ℝ) : EReal) * ((Real.log 2 : ℝ) : EReal))))
        = ((∑ x, b x * (a x * (Real.sqrt 128 * Real.log 2)) : ℝ) : EReal) by
          rw [coe_sum]; exact sum_congr rfl fun x _ => by rw [ha, hb, EReal.coe_mul, EReal.coe_mul, EReal.coe_mul],
      ← EReal.coe_mul, mul_sum, sum_mul]
    congr 1
    exact sum_congr rfl fun x _ => by field_simp

/-- What the running state of a row holds after `128 n` keys, for one running maximum `μ`: lane `j` of the sum of
    weights holds the weights of the keys that are `j` modulo 128, the weighted sum of values all keys. -/
def Inv (s : ℕ → ℝ) (v : ℕ → Fin 128 → EReal) (n : ℕ) (M L A : Fin 128 → EReal) : Prop :=
  ∃ μ : ℝ, (∀ j, M j = (μ : EReal)) ∧ (∀ j, L j = ((∑ i ∈ range n, w (s (128 * i + j.val) - μ) : ℝ) : EReal))
    ∧ ∀ d, A d = ∑ k ∈ range (128 * n), ((w (s k - μ) : ℝ) : EReal) * v k d

/-- The state before the first key, whatever real number the maximum starts from. -/
theorem Inv.zero (s : ℕ → ℝ) (v : ℕ → Fin 128 → EReal) (M L A : Fin 128 → EReal) (μ : ℝ) (hM : ∀ j, M j = (μ : EReal))
    (hL : ∀ j, L j = 0) (hA : ∀ d, A d = 0) : Inv s v 0 M L A :=
  ⟨μ, hM, fun j => by simp [hL j], fun d => by simp [hA d]⟩

/-- One block of `128 c` further keys: the old sums are scaled to the new maximum and the block's are added. -/
theorem Inv.step {s : ℕ → ℝ} {v : ℕ → Fin 128 → EReal} {n c : ℕ} {M L A M' L' A' : Fin 128 → EReal} (h : Inv s v n M L A)
    (x : EReal) (hx : x ≠ ⊤) (hM : ∀ j, M' j = max (M j) x)
    (hL : ∀ j, L' j = Ideal.exp2 (M j - M' j) * L j + ∑ i ∈ range c, Ideal.exp2 ((s (128 * n + (128 * i + j.val)) : EReal) - M' j))
    (hA : ∀ d, A' d = Ideal.exp2 (M d - M' d) * A d
      + ∑ k ∈ range (128 * c), Ideal.exp2 ((s (128 * n + k) : EReal) - M' d) * v (128 * n + k) d) :
    Inv s v (n + c) M' L' A' := by
  obtain ⟨μ, h1, h2, h3⟩ := h
  obtain ⟨μ', hμ'⟩ := exists_max μ x hx
  have hM' : ∀ j, M' j = (μ' : EReal) := fun j => by rw [hM, h1, hμ']
  have hw : ∀ a : ℝ, w (μ - μ') * w (a - μ) = w (a - μ') := fun a => by rw [← w_add]; congr 1; ring
  refine ⟨μ', hM', fun j => ?_, fun d => ?_⟩
  · rw [hL, h1, hM', h2, exp2_sub, ← EReal.coe_mul, sum_congr rfl fun i _ => exp2_sub _ _, ← coe_sum, ← EReal.coe_add]
    congr 1
    rw [sum_range_add, mul_sum]
    congr 1
    · exact sum_congr rfl fun i _ => hw _
    · exact sum_congr rfl fun i _ => by rw [show 128 * n + (128 * i + j.val) = 128 * (n + i) + j.val by ring]
  · have hA' : ∑ k ∈ range (128 * c), Ideal.exp2 ((s (128 * n + k) : EReal) - M' d) * v (128 * n + k) d
        = ∑ k ∈ range (128 * c), ((w (s (128 * n + k) - μ') : ℝ) : EReal) * v (128 * n + k) d :=
      sum_congr rfl fun k _ => by rw [hM', exp2_sub]
    rw [hA, hA', h1, hM', h3, exp2_sub, mul_sum_coe _ _ _ (w_pos _).le, Nat.mul_add, sum_range_add]
    congr 1
    exact sum_congr rfl fun k _ => by rw [← mul_assoc, ← EReal.coe_mul, hw]

/-- The lanes' sums together: every key once. -/
theorem sum_lanes (n : ℕ) (f : ℕ → ℝ) : ∑ j : Fin 128, ∑ i ∈ range n, f (128 * i + j.val) = ∑ k ∈ range (128 * n), f k := by
  rw [sum_comm, show (∑ i ∈ range n, ∑ j : Fin 128, f (128 * i + j.val)) = ∑ i ∈ range n, ∑ j ∈ range 128, f (128 * i + j) from
    sum_congr rfl fun i _ => Fin.sum_univ_eq_sum_range (fun j => f (128 * i + j)) 128]
  induction n with
  | zero => simp
  | succ n ih => rw [sum_range_succ, ih, Nat.mul_succ, sum_range_add]

/-- The softmax-weighted sum of values over the keys `0 … N - 1`, with the scores `t k` and any real shift `X`: what
    the blockwise sums give when divided, if the scores are the same up to the change from base two to base `e`. -/
theorem Inv.final {s : ℕ → ℝ} {v : ℕ → Fin 128 → EReal} {n : ℕ} {M L A : Fin 128 → EReal} (h : Inv s v n M L A) (hn : 0 < n)
    (t : ℕ → ℝ) (ht : ∀ k, t k = Real.log 2 * s k) (X : ℝ) (d : Fin 128) :
    Ideal.div (A d) (∑ j, L j)
      = ∑ k ∈ range (128 * n), Ideal.div (Ideal.exp ((t k : EReal) - (X : EReal)))
          (∑ k ∈ range (128 * n), Ideal.exp ((t k : EReal) - (X : EReal))) * v k d := by
  obtain ⟨μ, h1, h2, h3⟩ := h
  have hne : (range (128 * n)).Nonempty := nonempty_range_iff.mpr (by omega)
  have hW : 0 < ∑ k ∈ range (128 * n), w (s k - μ) := sum_pos (fun k _ => w_pos _) hne
  have hE : 0 < ∑ k ∈ range (128 * n), Real.exp (t k - X) := sum_pos (fun k _ => Real.exp_pos _) hne
  have hc : ∀ k, Real.exp (t k - X) = Real.exp (Real.log 2 * μ - X) * w (s k - μ) := fun k => by
    rw [w_eq_exp, ← Real.exp_add, ht]; congr 1; ring
  have hratio : ∀ k, Real.exp (t k - X) * (1 / ∑ k ∈ range (128 * n), Real.exp (t k - X))
      = w (s k - μ) * (1 / ∑ k ∈ range (128 * n), w (s k - μ)) := fun k => by
    have hp := Real.exp_pos (Real.log 2 * μ - X)
    rw [sum_congr rfl fun k _ => hc k, ← mul_sum, hc k]
    field_simp
  have hden : ∑ k ∈ range (128 * n), Ideal.exp ((t k : EReal) - (X : EReal)) = ((∑ k ∈ range (128 * n), Real.exp (t k - X) : ℝ) : EReal) := by
    rw [coe_sum]; exact sum_congr rfl fun k _ => exp_sub _ _
  have hL : ∑ j, L j = ((∑ k ∈ range (128 * n), w (s k - μ) : ℝ) : EReal) := by
    rw [← sum_lanes n fun k => w (s k - μ), coe_sum]; exact sum_congr rfl fun j _ => h2 j
  rw [hden, hL, Ideal.div_coe hW.ne', h3, mul_comm, mul_sum_coe _ _ _ (by positivity)]
  refine sum_congr rfl fun k _ => ?_
  rw [exp_sub, Ideal.div_coe hE.ne', ← EReal.coe_mul, hratio, EReal.coe_mul, ← mul_assoc, mul_comm ((1 / _ : ℝ) : EReal)]

end Cert.Online

end
-- ==== Proof.Rows.lean ====
module

public import proofs.«01_k».proof.Proof.Outs
public import proofs.«01_k».proof.Proof.Online
public import Idealize.ShloMosaic.Lib.Pointwise
public import Idealize.ShloMosaic.Lib.Pipeline.Value

/-! The kernel's block step read row by row at extended reals: each row of the stacked queries carries one running
    softmax, and one block of keys takes the running state on by as many keys as the block has. -/

@[expose] public section

set_option maxRecDepth 16384

noncomputable section

namespace Cert.KernelIdeal.Attn

open Cert.KernelIdeal Cert.KernelIdeal.Gen Cert.Online Idealize.ShloMosaic Idealize.ShloMosaic.Pointwise

/-- A row's maximum over the lanes, from negative infinity. -/
theorem rowMax (a n : ℕ) (v : FVec Ideal ⟨2, ![a, n]⟩ .f32) (h : (⟨2, ![a, n]⟩ : Shape).Reduces [1] ⟨1, ![a]⟩) (r : Fin a) :
    multiReduction .maximumf [1] ⟨1, ![a]⟩ v 0xFF800000#32 h (.inl rfl) rfl (ix1 r)
      = Finset.univ.fold max (Ideal.ofBits .f32 0xFF800000#32) fun x : Fin n => v (ix2 r x) := by
  pointwise

/-- The scores of a block of 3328 keys: the dot products of query rows with key columns. -/
theorem pay16_apply (kt : Vec Ideal S128x3328 .bf16) (q : Vec Ideal S1024x128 .bf16) (r : Fin 1024) (k : Fin 3328) :
    k0_pay16 kt q (ix2 r k) = ∑ x : Fin 128, q (ix2 r x) * kt (ix2 x k) := by
  pointwise [k0_pay16]

/-- The maximum of the lanes, spread over 128 lanes and joined with the old maximum. -/
theorem joinMax (v : FVec Ideal S1024x3328 .f32) (M : FVec Ideal S1024x128 .f32) (r : Fin 1024) (j : Fin 128) :
    maximumf M (broadcastTo S1024x128 (shapeCast S1024x1 (multiReduction .maximumf [1] S1024 v 0xFF800000#32 reduces_S1024x3328_S1024 (.inl rfl) rfl) shapeCasts_S1024_S1024x1) broadcasts_S1024x1_S1024x128) (ix2 r j)
      = max (M (ix2 r j)) (Finset.univ.fold max (Ideal.ofBits .f32 0xFF800000#32) fun x : Fin 3328 => v (ix2 r x)) := by
  rw [← rowMax 1024 3328 v reduces_S1024x3328_S1024 r]
  generalize multiReduction .maximumf [1] S1024 v 0xFF800000#32 reduces_S1024x3328_S1024 (.inl rfl) rfl = y
  pointwise

/-- The new maximum of a row. -/
theorem pay17_apply (kt : Vec Ideal S128x3328 .bf16) (q : Vec Ideal S1024x128 .bf16) (M : Vec Ideal S1024x128 .f32) (r : Fin 1024) (j : Fin 128) :
    k0_pay17 kt q M (ix2 r j)
      = max (M (ix2 r j)) (Finset.univ.fold max (Ideal.ofBits .f32 0xFF800000#32) fun x : Fin 3328 => k0_pay16 kt q (ix2 r x)) :=
  joinMax (k0_pay16 kt q) M r j

theorem pay18_apply (kt : Vec Ideal S128x3328 .bf16) (q : Vec Ideal S1024x128 .bf16) (M : Vec Ideal S1024x128 .f32) (r : Fin 1024) (j : Fin 128) :
    k0_pay18 kt q M (ix2 r j) = Ideal.exp2 (M (ix2 r j) - k0_pay17 kt q M (ix2 r j)) := by
  pointwise [k0_pay18]; rfl

/-- The block's weights: each score less the new maximum, to the power of two. -/
theorem pay19_apply (kt : Vec Ideal S128x3328 .bf16) (q : Vec Ideal S1024x128 .bf16) (M : Vec Ideal S1024x128 .f32) (r : Fin 1024) (k : Fin 3328)
    (j : Fin 128) (hj : k.val % 128 = j.val) :
    k0_pay19 kt q M (ix2 r k) = Ideal.exp2 (k0_pay16 kt q (ix2 r k) - k0_pay17 kt q M (ix2 r j)) := by
  unfold k0_pay19
  generalize k0_pay17 kt q M = y
  generalize k0_pay16 kt q = x
  show FloatOps.exp2 (FloatOps.subf (x (ix2 r k)) (concatenate S1024x3328 1 (List.replicate 26 ⟨S1024x128, y⟩) _ (ix2 r k))) = _
  rw [concatenate_replicate_apply (t := S1024x3328) (s₁ := S1024x128) (1 : Fin 2) 26 y _ rfl (ix2 r k) (ix2 r j) hj.symm
    (fun b hb => by match b, hb with | 0, _ => rfl | 1, hb => exact absurd rfl hb)]
  rfl

/-- The new sum of weights of a lane: the old one scaled, and the block's 26 weights of that lane. -/
theorem pay21_apply (kt : Vec Ideal S128x3328 .bf16) (q : Vec Ideal S1024x128 .bf16) (M L : Vec Ideal S1024x128 .f32) (a : FVec Ideal S1024x128 .f32)
    (r : Fin 1024) (j : Fin 128) (f : ℕ → EReal)
    (hf : ∀ (x : Fin 3328) (i : ℕ), x.val = 128 * i + j.val → k0_pay19 kt q M (ix2 r x) = f i) :
    k0_pay21 a (k0_pay19 kt q M) (k0_pay20 kt q M) L (ix2 r j) = a (ix2 r j) * L (ix2 r j) + ∑ i ∈ Finset.range 26, f i := by
  pointwise [k0_pay21, k0_pay20]
  refine congrArg₂ HAdd.hAdd rfl ?_
  simp only [Finset.sum_range_succ, Finset.sum_range_zero, zero_add]
  repeat (refine congrArg₂ HAdd.hAdd ?_ (hf _ _ (by simp)))
  exact hf _ _ (by simp)

/-- The new weighted sum of values: the old one scaled, and the block's weights times its values. -/
theorem pay22_apply (p : FVec Ideal S1024x3328 .f32) (v : Vec Ideal S3328x128 .bf16) (a : FVec Ideal S1024x128 .f32) (A : Vec Ideal S1024x128 .f32)
    (r : Fin 1024) (d : Fin 128) :
    k0_pay22 v a p A (ix2 r d) = a (ix2 r d) * A (ix2 r d) + ∑ x : Fin 3328, p (ix2 r x) * v (ix2 x d) := by
  pointwise [k0_pay22]

/-! The same for the block of the 256 context keys. -/

/-- The scores of the context keys. -/
theorem pay4_apply (kt : Vec Ideal S128x256 .bf16) (q : Vec Ideal S1024x128 .bf16) (r : Fin 1024) (k : Fin 256) :
    k0_pay4 kt q (ix2 r k) = ∑ x : Fin 128, q (ix2 r x) * kt (ix2 x k) := by
  pointwise [k0_pay4]

/-- The maximum of 256 lanes, spread over 128 lanes and joined with the old maximum. -/
theorem joinMaxCtx (v : FVec Ideal S1024x256 .f32) (M : FVec Ideal S1024x128 .f32) (r : Fin 1024) (j : Fin 128) :
    maximumf M (broadcastTo S1024x128 (shapeCast S1024x1 (multiReduction .maximumf [1] S1024 v 0xFF800000#32 reduces_S1024x256_S1024 (.inl rfl) rfl) shapeCasts_S1024_S1024x1) broadcasts_S1024x1_S1024x128) (ix2 r j)
      = max (M (ix2 r j)) (Finset.univ.fold max (Ideal.ofBits .f32 0xFF800000#32) fun x : Fin 256 => v (ix2 r x)) := by
  rw [← rowMax 1024 256 v reduces_S1024x256_S1024 r]
  generalize multiReduction .maximumf [1] S1024 v 0xFF800000#32 reduces_S1024x256_S1024 (.inl rfl) rfl = y
  pointwise

/-- The new maximum of a row. -/
theorem pay5_apply (kt : Vec Ideal S128x256 .bf16) (q : Vec Ideal S1024x128 .bf16) (M : Vec Ideal S1024x128 .f32) (r : Fin 1024) (j : Fin 128) :
    k0_pay5 kt q M (ix2 r j)
      = max (M (ix2 r j)) (Finset.univ.fold max (Ideal.ofBits .f32 0xFF800000#32) fun x : Fin 256 => k0_pay4 kt q (ix2 r x)) :=
  joinMaxCtx (k0_pay4 kt q) M r j

/-- The factor by which the old sums are scaled. -/
theorem pay6_apply (kt : Vec Ideal S128x256 .bf16) (q : Vec Ideal S1024x128 .bf16) (M : Vec Ideal S1024x128 .f32) (r : Fin 1024) (j : Fin 128) :
    k0_pay6 kt q M (ix2 r j) = Ideal.exp2 (M (ix2 r j) - k0_pay5 kt q M (ix2 r j)) := by
  pointwise [k0_pay6]; rfl

/-- The weights of the context keys. -/
theorem pay7_apply (kt : Vec Ideal S128x256 .bf16) (q : Vec Ideal S1024x128 .bf16) (M : Vec Ideal S1024x128 .f32) (r : Fin 1024) (k : Fin 256)
    (j : Fin 128) (hj : k.val % 128 = j.val) :
    k0_pay7 kt q M (ix2 r k) = Ideal.exp2 (k0_pay4 kt q (ix2 r k) - k0_pay5 kt q M (ix2 r j)) := by
  unfold k0_pay7
  generalize k0_pay5 kt q M = y
  generalize k0_pay4 kt q = x
  show FloatOps.exp2 (FloatOps.subf (x (ix2 r k)) (concatenate S1024x256 1 (List.replicate 2 ⟨S1024x128, y⟩) _ (ix2 r k))) = _
  rw [concatenate_replicate_apply (t := S1024x256) (s₁ := S1024x128) (1 : Fin 2) 2 y _ rfl (ix2 r k) (ix2 r j) hj.symm
    (fun b hb => by match b, hb with | 0, _ => rfl | 1, hb => exact absurd rfl hb)]
  rfl

/-- The new sum of weights of a lane over the context keys. -/
theorem pay8_apply (kt : Vec Ideal S128x256 .bf16) (q : Vec Ideal S1024x128 .bf16) (M L : Vec Ideal S1024x128 .f32)
    (r : Fin 1024) (j : Fin 128) (f : ℕ → EReal)
    (hf : ∀ (x : Fin 256) (i : ℕ), x.val = 128 * i + j.val → k0_pay7 kt q M (ix2 r x) = f i) :
    k0_pay8 kt q M L (ix2 r j) = k0_pay6 kt q M (ix2 r j) * L (ix2 r j) + ∑ i ∈ Finset.range 2, f i := by
  pointwise [k0_pay8]
  refine congrArg₂ HAdd.hAdd rfl ?_
  simp only [Finset.sum_range_succ, Finset.sum_range_zero, zero_add]
  exact congrArg₂ HAdd.hAdd (hf _ _ (by simp)) (hf _ _ (by simp))

/-- The new weighted sum of the context values. -/
theorem pay9_apply (kt : Vec Ideal S128x256 .bf16) (v : Vec Ideal S256x128 .bf16) (q : Vec Ideal S1024x128 .bf16) (M A : Vec Ideal S1024x128 .f32)
    (r : Fin 1024) (d : Fin 128) :
    k0_pay9 kt v q M A (ix2 r d) = k0_pay6 kt q M (ix2 r d) * A (ix2 r d) + ∑ x : Fin 256, k0_pay7 kt q M (ix2 r x) * v (ix2 x d) := by
  pointwise [k0_pay9]

/-! The running state of a row. -/

/-- Row `r` of a stacked vector. -/
def row (X : Vec Ideal S1024x128 .f32) (r : Fin 1024) : Fin 128 → EReal := fun j => X (ix2 r j)

/-- One step of 3328 keys takes a row's state 26 lane-widths on. -/
theorem inv_step (s : ℕ → ℝ) (v : ℕ → Fin 128 → EReal) (n : ℕ) (kt : Vec Ideal S128x3328 .bf16) (vt : Vec Ideal S3328x128 .bf16)
    (q : Vec Ideal S1024x128 .bf16) (M L A : Vec Ideal S1024x128 .f32) (r : Fin 1024)
    (hs : ∀ k : Fin 3328, k0_pay16 kt q (ix2 r k) = (s (128 * n + k.val) : EReal))
    (hv : ∀ (k : Fin 3328) (d : Fin 128), vt (ix2 k d) = v (128 * n + k.val) d)
    (h : Inv s v n (row M r) (row L r) (row A r)) :
    Inv s v (n + 26) (row (stM kt q M) r) (row (stL kt q M L) r) (row (stA kt vt q M A) r) := by
  have hM0 : ∀ j j', M (ix2 r j) = M (ix2 r j') := by
    obtain ⟨μ, h1, -, -⟩ := h
    exact fun j j' => (h1 j).trans (h1 j').symm
  have h17 : ∀ j j', k0_pay17 kt q M (ix2 r j) = k0_pay17 kt q M (ix2 r j') := fun j j' => by
    rw [pay17_apply, pay17_apply, hM0 j j']
  have h23 : ∀ j, stM kt q M (ix2 r j) = k0_pay17 kt q M (ix2 r j) := fun j => by
    unfold stM; generalize k0_pay17 kt q M = y; pointwise [k0_pay23]
  have hp : ∀ (k : Fin 3328) (j : Fin 128), k0_pay19 kt q M (ix2 r k)
      = Ideal.exp2 ((s (128 * n + k.val) : EReal) - k0_pay17 kt q M (ix2 r j)) := fun k j => by
    rw [pay19_apply kt q M r k ⟨k.val % 128, Nat.mod_lt _ (by decide)⟩ rfl, hs, h17 _ j]
  refine h.step (Finset.univ.fold max (Ideal.ofBits .f32 0xFF800000#32) fun x : Fin 3328 => k0_pay16 kt q (ix2 r x))
    (fold_ne_top _ fun x => by rw [hs]; exact EReal.coe_ne_top _) (fun j => ?_) (fun j => ?_) (fun d => ?_)
  · exact (h23 j).trans (pay17_apply kt q M r j)
  · show stL kt q M L (ix2 r j) = Ideal.exp2 (M (ix2 r j) - stM kt q M (ix2 r j)) * L (ix2 r j) + _
    unfold stL
    rw [pay21_apply kt q M L _ r j (fun i => Ideal.exp2 ((s (128 * n + (128 * i + j.val)) : EReal) - stM kt q M (ix2 r j)))
      (fun x i hx => by rw [hp x j, h23, hx]), pay18_apply, h23]
    exact congrArg₂ HAdd.hAdd rfl (Finset.sum_congr rfl fun i _ => by show _ = Ideal.exp2 (_ - stM kt q M (ix2 r j)); rw [h23])
  · show stA kt vt q M A (ix2 r d) = Ideal.exp2 (M (ix2 r d) - stM kt q M (ix2 r d)) * A (ix2 r d)
      + ∑ k ∈ Finset.range 3328, Ideal.exp2 ((s (128 * n + k) : EReal) - stM kt q M (ix2 r d)) * v (128 * n + k) d
    unfold stA
    rw [pay22_apply, pay18_apply, h23,
      ← Fin.sum_univ_eq_sum_range (fun k => Ideal.exp2 ((s (128 * n + k) : EReal) - k0_pay17 kt q M (ix2 r d)) * v (128 * n + k) d) 3328]
    exact congrArg₂ HAdd.hAdd rfl (Finset.sum_congr rfl fun k _ => by rw [hp k d, hv])

/-- The running maximum starts from one real number. -/
theorem pay63_apply : ∃ μ : ℝ, ∀ r j, (k0_pay63 : FVec Ideal S1024x128 .f32) (ix2 r j) = (μ : EReal) := by
  have : ∃ μ : ℝ, Ideal.ofBits .f32 4048155338#32 = (μ : EReal) := by
    refine ⟨-(13234890 * 2 ^ 76), ?_⟩
    simp [Ideal.ofBits, Ideal.ieee]
  obtain ⟨μ, h⟩ := this
  exact ⟨μ, fun r j => by pointwise [k0_pay63]; exact h⟩

/-- The state before the first key. -/
theorem inv_start (s : ℕ → ℝ) (v : ℕ → Fin 128 → EReal) (r : Fin 1024) :
    Inv s v 0 (row (k0_pay63 (F := Ideal)) r) (row (k0_pay64 (F := Ideal)) r) (row (k0_pay1 (k0_pay65 (F := Ideal))) r) := by
  obtain ⟨μ, h⟩ := pay63_apply
  refine Inv.zero s v _ _ _ μ (fun j => h r j) (fun j => ?_) (fun d => ?_)
  · show (k0_pay64 : FVec Ideal S1024x128 .f32) (ix2 r j) = 0
    pointwise [k0_pay64]
  · show k0_pay1 (k0_pay65 : FVec Ideal S1024x128 .f32) (ix2 r d) = 0
    pointwise [k0_pay1, k0_pay65]

/-- The single step of a context tile: its state after the 256 context keys. -/
theorem inv_ctx (s : ℕ → ℝ) (v : ℕ → Fin 128 → EReal) (kt : Vec Ideal S128x256 .bf16) (vt : Vec Ideal S256x128 .bf16)
    (q : Vec Ideal S1024x128 .bf16) (r : Fin 1024)
    (hs : ∀ k : Fin 256, k0_pay4 kt q (ix2 r k) = (s k.val : EReal))
    (hv : ∀ (k : Fin 256) (d : Fin 128), vt (ix2 k d) = v k.val d) :
    Inv s v 2 (row (k0_pay5 kt q (k0_pay63 (F := Ideal))) r) (row (k0_pay8 kt q (k0_pay63 (F := Ideal)) (k0_pay64 (F := Ideal))) r) (row (k0_pay9 kt vt q (k0_pay63 (F := Ideal)) (k0_pay1 (k0_pay65 (F := Ideal)))) r) := by
  have h := inv_start s v r
  revert h
  generalize (k0_pay63 : FVec Ideal S1024x128 .f32) = M
  generalize (k0_pay64 : FVec Ideal S1024x128 .f32) = L
  generalize k0_pay1 (k0_pay65 : FVec Ideal S1024x128 .f32) = A
  intro h
  have hM0 : ∀ j j', M (ix2 r j) = M (ix2 r j') := by
    obtain ⟨μ, h1, -, -⟩ := h
    exact fun j j' => (h1 j).trans (h1 j').symm
  have h5 : ∀ j j', k0_pay5 kt q M (ix2 r j) = k0_pay5 kt q M (ix2 r j') := fun j j' => by
    rw [pay5_apply, pay5_apply, hM0 j j']
  have hp : ∀ (k : Fin 256) (j : Fin 128), k0_pay7 kt q M (ix2 r k)
      = Ideal.exp2 ((s (128 * 0 + k.val) : EReal) - k0_pay5 kt q M (ix2 r j)) := fun k j => by
    rw [pay7_apply kt q M r k ⟨k.val % 128, Nat.mod_lt _ (by decide)⟩ rfl, hs, h5 _ j, Nat.mul_zero, Nat.zero_add]
  refine h.step (n := 0) (c := 2) (Finset.univ.fold max (Ideal.ofBits .f32 0xFF800000#32) fun x : Fin 256 => k0_pay4 kt q (ix2 r x))
    (fold_ne_top _ fun x => by rw [hs]; exact EReal.coe_ne_top _) (fun j => ?_) (fun j => ?_) (fun d => ?_)
  · exact pay5_apply kt q M r j
  · show k0_pay8 kt q M L (ix2 r j) = Ideal.exp2 (M (ix2 r j) - k0_pay5 kt q M (ix2 r j)) * L (ix2 r j) + _
    rw [pay8_apply kt q M L r j (fun i => Ideal.exp2 ((s (128 * 0 + (128 * i + j.val)) : EReal) - k0_pay5 kt q M (ix2 r j)))
      (fun x i hx => by rw [hp x j, hx]), pay6_apply]
    rfl
  · show k0_pay9 kt vt q M A (ix2 r d) = Ideal.exp2 (M (ix2 r d) - k0_pay5 kt q M (ix2 r d)) * A (ix2 r d)
      + ∑ k ∈ Finset.range 256, Ideal.exp2 ((s (128 * 0 + k) : EReal) - k0_pay5 kt q M (ix2 r d)) * v (128 * 0 + k) d
    rw [pay9_apply, pay6_apply,
      ← Fin.sum_univ_eq_sum_range (fun k => Ideal.exp2 ((s (128 * 0 + k) : EReal) - k0_pay5 kt q M (ix2 r d)) * v (128 * 0 + k) d) 256]
    exact congrArg₂ HAdd.hAdd rfl (Finset.sum_congr rfl fun k _ => by rw [hp k d, hv, Nat.mul_zero, Nat.zero_add])

/-- The chain of steps over the keys in order: after `n` steps a row's state covers the first `3328 n` keys. -/
theorem inv_chain (s : ℕ → ℝ) (v : ℕ → Fin 128 → EReal) (q : Vec Ideal S1024x128 .bf16) (x1 : Vec Ideal S128x16640 .bf16)
    (x2 : Vec Ideal S16640x128 .bf16) (r : Fin 1024)
    (hs : ∀ (k : ℕ) (hk : k < 16640), ∑ x : Fin 128, q (ix2 r x) * x1 (ix2 x ⟨k, hk⟩) = (s k : EReal))
    (hv : ∀ (k : ℕ) (hk : k < 16640) (d : Fin 128), x2 (ix2 ⟨k, hk⟩ d) = v k d) :
    ∀ (n : ℕ) (h : n ≤ 5), Inv s v (26 * n) (row (chM q x1 n h) r) (row (chL q x1 n h) r) (row (chA q x1 x2 n h) r)
  | 0, _ => inv_start s v r
  | n + 1, h => by
    refine inv_step s v (26 * n) (kCut x1 (3328 * n) (by omega)) (vCut x2 (3328 * n) (by omega)) q _ _ _ r (fun k => ?_) (fun k d => ?_)
      (inv_chain s v q x1 x2 r hs hv n (by omega))
    · rw [pay16_apply, show 128 * (26 * n) + k.val = 3328 * n + k.val by omega, ← hs (3328 * n + k.val) (by have := k.isLt; omega)]
      rfl
    · rw [show 128 * (26 * n) + k.val = 3328 * n + k.val by omega, ← hv (3328 * n + k.val) (by have := k.isLt; omega)]
      rfl

/-- The quotient by the sum of the lanes' weights. -/
theorem pay11_apply (A L : Vec Ideal S1024x128 .f32) (r : Fin 1024) (d : Fin 128) :
    k0_pay11 A L (ix2 r d) = Ideal.div (row A r d) (∑ j, row L r j) := by
  show _ = Ideal.div (A (ix2 r d)) (∑ j, L (ix2 r j))
  pointwise [k0_pay11]

end Cert.KernelIdeal.Attn

end
-- ==== Proof.RefStages.lean ====
module

public import proofs.«01_k».proof.Proof.Gen.ReferenceIdeal.Run
public import Idealize.ShloMosaic.Lib.Pointwise

/-! The reference's result in named stages: queries, keys and values by head, then for the latent and for the context
    queries the scores, their row maxima, the exponentials, the probabilities and the weighted values. -/

@[expose] public section

noncomputable section

namespace Cert.ReferenceIdeal.Attn

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The queries without their scale, by head. -/
def qHeads (a : FVec F S16640x2048 .bf16) : FVec F S16640x16x128 .f32 :=
  shapeCast S16640x16x128 (mulf (extf .f32 a bitsLt_bf16_f32) (broadcastInDim S16640x2048 ![] bcast_S_S16640x2048 (mulf (Host.sqrt (constant S_ .f32 0x43000000#32)) (Host.log (constant S_ .f32 0x40000000#32))))) shapeCasts_S16640x2048_S16640x16x128

/-- The keys by group. -/
def kHeads (a : FVec F S16640x1024 .bf16) : FVec F S16640x4x128 .f32 :=
  shapeCast S16640x4x128 (extractStridedSlice S16640x512 ![0, 0] (extf .f32 a bitsLt_bf16_f32) slices_S16640x1024_S16640x512_0_0) shapeCasts_S16640x512_S16640x4x128

/-- The values by group. -/
def vHeads (a : FVec F S16640x1024 .bf16) : FVec F S16640x4x128 .f32 :=
  shapeCast S16640x4x128 (extractStridedSlice S16640x512 ![0, 512] (extf .f32 a bitsLt_bf16_f32) slices_S16640x1024_S16640x512_0_512) shapeCasts_S16640x512_S16640x4x128

/-- The rows of the context tokens. -/
def ctxRows (x : FVec F S16640x4x128 .f32) : FVec F S256x4x128 .f32 :=
  extractStridedSlice S256x4x128 ![16384, 0, 0] x slices_S16640x4x128_S256x4x128_16384_0_0

/-- The scaled scores of the latent queries: entry `(g, h, i, k)` is the dot product of query row `i` of head `4 g + h` with key
    `k` of group `g`, divided by the square root of the head's width. -/
def scoresLat (k : FVec F S16640x4x128 .f32) (q : FVec F S16640x16x128 .f32) : FVec F S4x4x16384x16640 .f32 :=
  Host.divf (transpose S4x4x16384x16640 [0, 3, 2, 1] (Host.dotGeneral dot_S16640x4x128_S16384x4x4x128_S4x16640x16384x4_2_3_0_02_1_1 none k (shapeCast S16384x4x4x128 (extractStridedSlice S16384x16x128 ![0, 0, 0] q slices_S16640x16x128_S16384x16x128_0_0_0) shapeCasts_S16384x16x128_S16384x4x4x128)) transposes_S4x16640x16384x4_S4x4x16384x16640_0_3_2_1) (broadcastInDim S4x4x16384x16640 ![] bcast_S_S4x4x16384x16640 (Host.sqrt (constant S_ .f32 0x43000000#32)))

/-- The largest score of every row of the latent queries. -/
def topLat (s : FVec F S4x4x16384x16640 .f32) : FVec F S4x4x16384 .f32 :=
  maximumf (broadcastInDim S4x4x16384 ![] bcast_S_S4x4x16384 (constant S_ .f32 0xFF800000#32)) (Host.reduce FloatOps.maximumf s (constant S_ .f32 0xFF800000#32) reducesTo_S4x4x16384x16640_S4x4x16384_d3 h_S_)

/-- The exponentials of the latent queries' scores, each row shifted by `x`. -/
def expsLat (s : FVec F S4x4x16384x16640 .f32) (x : FVec F S4x4x16384 .f32) : FVec F S4x4x16384x16640 .f32 :=
  Host.exp (subf s (broadcastInDim S4x4x16384x16640 ![0, 1, 2, 3] bcast_S4x4x16384x1_S4x4x16384x16640_0_1_2_3 (broadcastInDim S4x4x16384x1 ![0, 1, 2] bcast_S4x4x16384_S4x4x16384x1_0_1_2 x)))

/-- The exponentials of the latent queries over their row sums. -/
def probsLat (e : FVec F S4x4x16384x16640 .f32) : FVec F S4x4x16384x16640 .f32 :=
  Host.divf e (broadcastInDim S4x4x16384x16640 ![0, 1, 2, 3] bcast_S4x4x16384x1_S4x4x16384x16640_0_1_2_3 (broadcastInDim S4x4x16384x1 ![0, 1, 2] bcast_S4x4x16384_S4x4x16384x1_0_1_2 (Host.reduceAdd e (constant S_ .f32 0x00000000#32) reducesTo_S4x4x16384x16640_S4x4x16384_d3 h_S_)))

/-- The values weighed by the probabilities of the latent queries, the heads side by side. -/
def mixLat (v : FVec F S16640x4x128 .f32) (p : FVec F S4x4x16384x16640 .f32) : FVec F S16384x2048 .f32 :=
  shapeCast S16384x2048 (transpose S16384x4x4x128 [3, 0, 2, 1] (Host.dotGeneral dot_S16640x4x128_S4x4x16384x16640_S4x128x4x16384_0_3_2_12_1_0 none v p) transposes_S4x128x4x16384_S16384x4x4x128_3_0_2_1) shapeCasts_S16384x4x4x128_S16384x2048

/-- The attention of the latent queries. -/
def attnLat (k v : FVec F S16640x4x128 .f32) (q : FVec F S16640x16x128 .f32) : FVec F S16384x2048 .f32 :=
  mixLat v (probsLat (expsLat (scoresLat k q) (topLat (scoresLat k q))))

/-- The scaled scores of the context queries: entry `(g, h, i, k)` is the dot product of query row `i` of head `4 g + h` with key
    `k` of group `g`, divided by the square root of the head's width. -/
def scoresCtx (k : FVec F S256x4x128 .f32) (q : FVec F S16640x16x128 .f32) : FVec F S4x4x256x256 .f32 :=
  Host.divf (transpose S4x4x256x256 [0, 3, 2, 1] (Host.dotGeneral dot_S256x4x128_S256x4x4x128_S4x256x256x4_2_3_0_02_1_1 none k (shapeCast S256x4x4x128 (extractStridedSlice S256x16x128 ![16384, 0, 0] q slices_S16640x16x128_S256x16x128_16384_0_0) shapeCasts_S256x16x128_S256x4x4x128)) transposes_S4x256x256x4_S4x4x256x256_0_3_2_1) (broadcastInDim S4x4x256x256 ![] bcast_S_S4x4x256x256 (Host.sqrt (constant S_ .f32 0x43000000#32)))

/-- The largest score of every row of the context queries. -/
def topCtx (s : FVec F S4x4x256x256 .f32) : FVec F S4x4x256 .f32 :=
  maximumf (broadcastInDim S4x4x256 ![] bcast_S_S4x4x256 (constant S_ .f32 0xFF800000#32)) (Host.reduce FloatOps.maximumf s (constant S_ .f32 0xFF800000#32) reducesTo_S4x4x256x256_S4x4x256_d3 h_S_)

/-- The exponentials of the context queries' scores, each row shifted by `x`. -/
def expsCtx (s : FVec F S4x4x256x256 .f32) (x : FVec F S4x4x256 .f32) : FVec F S4x4x256x256 .f32 :=
  Host.exp (subf s (broadcastInDim S4x4x256x256 ![0, 1, 2, 3] bcast_S4x4x256x1_S4x4x256x256_0_1_2_3 (broadcastInDim S4x4x256x1 ![0, 1, 2] bcast_S4x4x256_S4x4x256x1_0_1_2 x)))

/-- The exponentials of the context queries over their row sums. -/
def probsCtx (e : FVec F S4x4x256x256 .f32) : FVec F S4x4x256x256 .f32 :=
  Host.divf e (broadcastInDim S4x4x256x256 ![0, 1, 2, 3] bcast_S4x4x256x1_S4x4x256x256_0_1_2_3 (broadcastInDim S4x4x256x1 ![0, 1, 2] bcast_S4x4x256_S4x4x256x1_0_1_2 (Host.reduceAdd e (constant S_ .f32 0x00000000#32) reducesTo_S4x4x256x256_S4x4x256_d3 h_S_)))

/-- The values weighed by the probabilities of the context queries, the heads side by side. -/
def mixCtx (v : FVec F S256x4x128 .f32) (p : FVec F S4x4x256x256 .f32) : FVec F S256x2048 .f32 :=
  shapeCast S256x2048 (transpose S256x4x4x128 [3, 0, 2, 1] (Host.dotGeneral dot_S256x4x128_S4x4x256x256_S4x128x4x256_0_3_2_12_1_0 none v p) transposes_S4x128x4x256_S256x4x4x128_3_0_2_1) shapeCasts_S256x4x4x128_S256x2048

/-- The attention of the context queries. -/
def attnCtx (k v : FVec F S256x4x128 .f32) (q : FVec F S16640x16x128 .f32) : FVec F S256x2048 .f32 :=
  mixCtx v (probsCtx (expsCtx (scoresCtx k q) (topCtx (scoresCtx k q))))

/-- The reference's result: the latent tokens' attention over the context tokens', rounded to bf16. -/
def result (a0 : FVec F S16640x2048 .bf16) (a1 : FVec F S16640x1024 .bf16) : FVec F S16640x2048 .bf16 :=
  truncf .bf16 (concatenate S16640x2048 0 [⟨S16384x2048, attnLat (kHeads a1) (vHeads a1) (qHeads a0)⟩, ⟨S256x2048, attnCtx (ctxRows (kHeads a1)) (ctxRows (vHeads a1)) (qHeads a0)⟩] concatenates_S16384x2048_S256x2048_S16640x2048_d0) bitsLt_bf16_f32

set_option maxRecDepth 16384 in
/-- The run's result is the named stages' composition. -/
theorem res_eq (m : (ℓ : Loc nD τ sig) → Buf (Elt F) ℓ) (c : Dev nD) :
    res_out0 m c = result (m ((c.tc : Thread nD τ).loc main_arg0)) (m ((c.tc : Thread nD τ).loc main_arg1)) := rfl

end Cert.ReferenceIdeal.Attn

end
-- ==== Proof.RefRows.lean ====
module

public import proofs.«01_k».proof.Proof.RefStages
public import proofs.«01_k».proof.Proof.Online

/-! The reference's result at an index: a softmax of real scores over the keys, weighing the values. -/

@[expose] public section

noncomputable section

namespace Cert.ReferenceIdeal.Attn

open Cert.ReferenceIdeal Cert.ReferenceIdeal.Gen Cert.Online Idealize.ShloMosaic Idealize.ShloMosaic.Pointwise

/-- A maximum over the last of four axes, from an initial value. -/
theorem hostMax4 (a b c n : ℕ) (s : FVec Ideal ⟨4, ![a, b, c, n]⟩ .f32) (z : FVec Ideal ⟨0, ![]⟩ .f32)
    (h : (⟨4, ![a, b, c, n]⟩ : Shape).ReducesTo [3] ⟨3, ![a, b, c]⟩) (hu : 0 < (⟨0, ![]⟩ : Shape).numel) (i : Fin a) (j : Fin b) (k : Fin c) :
    Host.reduce FloatOps.maximumf s z h hu (ix3 i j k) = Finset.univ.fold max (z (Shape.Idx.first hu)) fun x : Fin n => s (ix4 i j k x) := by
  pointwise

/-- The largest of finitely many reals along the last of four axes is real. -/
theorem hostMax4_real (a b c n : ℕ) (s : FVec Ideal ⟨4, ![a, b, c, n]⟩ .f32)
    (h : (⟨4, ![a, b, c, n]⟩ : Shape).ReducesTo [3] ⟨3, ![a, b, c]⟩) (hu : 0 < (⟨0, ![]⟩ : Shape).numel) (i : Fin a) (j : Fin b) (k : Fin c)
    (t : ℕ → ℝ) (ht : ∀ x : Fin n, s (ix4 i j k x) = (t x.val : EReal)) (hn : 0 < n) :
    ∃ X : ℝ, Host.reduce FloatOps.maximumf s (constant ⟨0, ![]⟩ .f32 0xFF800000#32) h hu (ix3 i j k) = (X : EReal) := by
  obtain ⟨n, rfl⟩ : ∃ p, n = p + 1 := ⟨n - 1, by omega⟩
  obtain ⟨X, hX⟩ := fold_real (n := n) fun j => t j.val
  refine ⟨X, ?_⟩
  rw [hostMax4, show (fun x : Fin (n + 1) => s (ix4 i j k x)) = fun x => (t x.val : EReal) from funext ht]
  exact hX

/-- Joining with negative infinity changes nothing. -/
theorem joinBot (u : Shape) (hb) (y : FVec Ideal u .f32) (j : u.Idx) :
    maximumf (broadcastInDim u ![] hb (constant S_ .f32 0xFF800000#32)) y j = y j := by
  show max (Ideal.ofBits .f32 0xFF800000#32) (y j) = y j
  exact max_eq_right (by simp [Ideal.ofBits, Ideal.ieee])

/-- The softmax of the scores `t`, shifted by `X`, over the first `N` keys, weighing the values `v`. -/
def soft (N : ℕ) (t : ℕ → ℝ) (X : ℝ) (v : ℕ → EReal) : EReal :=
  ∑ k ∈ Finset.range N, Ideal.div (Ideal.exp ((t k : EReal) - (X : EReal)))
    (∑ k ∈ Finset.range N, Ideal.exp ((t k : EReal) - (X : EReal))) * v k

/-- An unscaled query. -/
theorem qHeads_apply (a : FVec Ideal S16640x2048 .bf16) (r : Fin 16640) (h : Fin 16) (d : Fin 128) :
    qHeads a (ix3 r h d) = a (ix2 r ⟨h.val * 128 + d.val, by omega⟩)
      * (Ideal.sqrt (Ideal.ofBits FTy.f32 1124073472#32) * Ideal.log (Ideal.ofBits FTy.f32 1073741824#32)) := by
  pointwise [qHeads]

/-- A key. -/
theorem kHeads_apply (a : FVec Ideal S16640x1024 .bf16) (r : Fin 16640) (h : Fin 4) (d : Fin 128) :
    kHeads a (ix3 r h d) = a (ix2 r ⟨h.val * 128 + d.val, by omega⟩) := by
  pointwise [kHeads]

/-- A value. -/
theorem vHeads_apply (a : FVec Ideal S16640x1024 .bf16) (r : Fin 16640) (h : Fin 4) (d : Fin 128) :
    vHeads a (ix3 r h d) = a (ix2 r ⟨512 + (h.val * 128 + d.val), by omega⟩) := by
  pointwise [vHeads]

/-- A context row. -/
theorem ctxRows_apply (x : FVec Ideal S16640x4x128 .f32) (r : Fin 256) (h : Fin 4) (d : Fin 128) :
    ctxRows x (ix3 r h d) = x (ix3 ⟨16384 + r.val, by omega⟩ h d) := by
  pointwise [ctxRows]

/-- A score of the latent queries. -/
theorem scoresLat_apply (k : FVec Ideal S16640x4x128 .f32) (q : FVec Ideal S16640x16x128 .f32) (g h : Fin 4) (i : Fin 16384) (j : Fin 16640) :
    scoresLat k q (ix4 g h i j) = Ideal.div (∑ x : Fin 128, k (ix3 j g x) * q (ix3 ⟨i.val, by omega⟩ ⟨g.val * 4 + h.val, by omega⟩ x))
      (Ideal.sqrt (Ideal.ofBits FTy.f32 1124073472#32)) := by
  pointwise [scoresLat]

/-- The largest of a row of real scores is real. -/
theorem topLat_real (s : FVec Ideal S4x4x16384x16640 .f32) (g h : Fin 4) (i : Fin 16384) (t : ℕ → ℝ)
    (ht : ∀ j : Fin 16640, s (ix4 g h i j) = (t j.val : EReal)) : ∃ X : ℝ, topLat s (ix3 g h i) = (X : EReal) := by
  unfold topLat
  rw [joinBot]
  exact hostMax4_real 4 4 16384 16640 s _ _ g h i t ht (by decide)

/-- A shifted exponential. -/
theorem expsLat_apply (s : FVec Ideal S4x4x16384x16640 .f32) (x : FVec Ideal S4x4x16384 .f32) (g h : Fin 4) (i : Fin 16384) (j : Fin 16640) :
    expsLat s x (ix4 g h i j) = Ideal.exp (s (ix4 g h i j) - x (ix3 g h i)) := by
  pointwise [expsLat]

/-- A probability. -/
theorem probsLat_apply (e : FVec Ideal S4x4x16384x16640 .f32) (g h : Fin 4) (i : Fin 16384) (j : Fin 16640) :
    probsLat e (ix4 g h i j) = Ideal.div (e (ix4 g h i j)) (∑ x, e (ix4 g h i x)) := by
  pointwise [probsLat]

/-- A weighted sum of values. -/
theorem mixLat_apply (v : FVec Ideal S16640x4x128 .f32) (p : FVec Ideal S4x4x16384x16640 .f32) (i : Fin 16384) (j : Fin 2048) :
    mixLat v p (ix2 i j) = ∑ x : Fin 16640, v (ix3 x ⟨j.val / 512, by omega⟩ ⟨j.val % 128, by omega⟩)
      * p (ix4 ⟨j.val / 512, by omega⟩ ⟨j.val / 128 % 4, by omega⟩ i x) := by
  pointwise [mixLat]

/-- The latent queries' attention at an index is the softmax of real scores. -/
theorem attnLat_apply (k v : FVec Ideal S16640x4x128 .f32) (q : FVec Ideal S16640x16x128 .f32) (i : Fin 16384) (j : Fin 2048)
    (t : ℕ → ℝ) (u : ℕ → EReal)
    (ht : ∀ x : Fin 16640, scoresLat k q (ix4 ⟨j.val / 512, by omega⟩ ⟨j.val / 128 % 4, by omega⟩ i x) = (t x.val : EReal))
    (hu : ∀ x : Fin 16640, v (ix3 x ⟨j.val / 512, by omega⟩ ⟨j.val % 128, by omega⟩) = u x.val) :
    ∃ X : ℝ, attnLat k v q (ix2 i j) = soft 16640 t X u := by
  obtain ⟨X, hX⟩ := topLat_real (scoresLat k q) _ _ i t ht
  have he : ∀ x : Fin 16640, expsLat (scoresLat k q) (topLat (scoresLat k q)) (ix4 ⟨j.val / 512, by omega⟩ ⟨j.val / 128 % 4, by omega⟩ i x)
      = Ideal.exp ((t x.val : EReal) - (X : EReal)) := fun x => by rw [expsLat_apply, hX, ht]
  refine ⟨X, ?_⟩
  unfold attnLat soft
  rw [mixLat_apply,
    ← Fin.sum_univ_eq_sum_range (fun k => Ideal.exp ((t k : EReal) - (X : EReal))) 16640]
  generalize hS : (∑ i : Fin 16640, Ideal.exp ((t i.val : EReal) - (X : EReal))) = S
  rw [← Fin.sum_univ_eq_sum_range (fun k => Ideal.div (Ideal.exp ((t k : EReal) - (X : EReal))) S * u k) 16640]
  refine Finset.sum_congr rfl fun x _ => ?_
  rw [probsLat_apply, he, Finset.sum_congr rfl fun x _ => he x, hS, hu, mul_comm]

/-- A score of the context queries. -/
theorem scoresCtx_apply (k : FVec Ideal S256x4x128 .f32) (q : FVec Ideal S16640x16x128 .f32) (g h : Fin 4) (i : Fin 256) (j : Fin 256) :
    scoresCtx k q (ix4 g h i j) = Ideal.div (∑ x : Fin 128, k (ix3 j g x) * q (ix3 ⟨16384 + i.val, by omega⟩ ⟨g.val * 4 + h.val, by omega⟩ x))
      (Ideal.sqrt (Ideal.ofBits FTy.f32 1124073472#32)) := by
  pointwise [scoresCtx]

/-- The largest of a row of real scores is real. -/
theorem topCtx_real (s : FVec Ideal S4x4x256x256 .f32) (g h : Fin 4) (i : Fin 256) (t : ℕ → ℝ)
    (ht : ∀ j : Fin 256, s (ix4 g h i j) = (t j.val : EReal)) : ∃ X : ℝ, topCtx s (ix3 g h i) = (X : EReal) := by
  unfold topCtx
  rw [joinBot]
  exact hostMax4_real 4 4 256 256 s _ _ g h i t ht (by decide)

/-- A shifted exponential. -/
theorem expsCtx_apply (s : FVec Ideal S4x4x256x256 .f32) (x : FVec Ideal S4x4x256 .f32) (g h : Fin 4) (i : Fin 256) (j : Fin 256) :
    expsCtx s x (ix4 g h i j) = Ideal.exp (s (ix4 g h i j) - x (ix3 g h i)) := by
  pointwise [expsCtx]

/-- A probability. -/
theorem probsCtx_apply (e : FVec Ideal S4x4x256x256 .f32) (g h : Fin 4) (i : Fin 256) (j : Fin 256) :
    probsCtx e (ix4 g h i j) = Ideal.div (e (ix4 g h i j)) (∑ x, e (ix4 g h i x)) := by
  pointwise [probsCtx]

/-- A weighted sum of values. -/
theorem mixCtx_apply (v : FVec Ideal S256x4x128 .f32) (p : FVec Ideal S4x4x256x256 .f32) (i : Fin 256) (j : Fin 2048) :
    mixCtx v p (ix2 i j) = ∑ x : Fin 256, v (ix3 x ⟨j.val / 512, by omega⟩ ⟨j.val % 128, by omega⟩)
      * p (ix4 ⟨j.val / 512, by omega⟩ ⟨j.val / 128 % 4, by omega⟩ i x) := by
  pointwise [mixCtx]

/-- The context queries' attention at an index is the softmax of real scores. -/
theorem attnCtx_apply (k v : FVec Ideal S256x4x128 .f32) (q : FVec Ideal S16640x16x128 .f32) (i : Fin 256) (j : Fin 2048)
    (t : ℕ → ℝ) (u : ℕ → EReal)
    (ht : ∀ x : Fin 256, scoresCtx k q (ix4 ⟨j.val / 512, by omega⟩ ⟨j.val / 128 % 4, by omega⟩ i x) = (t x.val : EReal))
    (hu : ∀ x : Fin 256, v (ix3 x ⟨j.val / 512, by omega⟩ ⟨j.val % 128, by omega⟩) = u x.val) :
    ∃ X : ℝ, attnCtx k v q (ix2 i j) = soft 256 t X u := by
  obtain ⟨X, hX⟩ := topCtx_real (scoresCtx k q) _ _ i t ht
  have he : ∀ x : Fin 256, expsCtx (scoresCtx k q) (topCtx (scoresCtx k q)) (ix4 ⟨j.val / 512, by omega⟩ ⟨j.val / 128 % 4, by omega⟩ i x)
      = Ideal.exp ((t x.val : EReal) - (X : EReal)) := fun x => by rw [expsCtx_apply, hX, ht]
  refine ⟨X, ?_⟩
  unfold attnCtx soft
  rw [mixCtx_apply,
    ← Fin.sum_univ_eq_sum_range (fun k => Ideal.exp ((t k : EReal) - (X : EReal))) 256]
  generalize hS : (∑ i : Fin 256, Ideal.exp ((t i.val : EReal) - (X : EReal))) = S
  rw [← Fin.sum_univ_eq_sum_range (fun k => Ideal.div (Ideal.exp ((t k : EReal) - (X : EReal))) S * u k) 256]
  refine Finset.sum_congr rfl fun x _ => ?_
  rw [probsCtx_apply, he, Finset.sum_congr rfl fun x _ => he x, hS, hu, mul_comm]

/-- The result's rows: the latent tokens first, then the context tokens. -/
theorem result_apply (a0 : FVec Ideal S16640x2048 .bf16) (a1 : FVec Ideal S16640x1024 .bf16) (i : Fin 16640) (j : Fin 2048) :
    result a0 a1 (ix2 i j) = if h : i.val < 16384 then attnLat (kHeads a1) (vHeads a1) (qHeads a0) (ix2 ⟨i.val, h⟩ j)
      else attnCtx (ctxRows (kHeads a1)) (ctxRows (vHeads a1)) (qHeads a0) (ix2 ⟨i.val - 16384, by omega⟩ j) := by
  pointwise [result]

end Cert.ReferenceIdeal.Attn

end
-- ==== Proof.Tiles.lean ====
module

public import proofs.«01_k».proof.Proof.Rows
public import proofs.«01_k».proof.Proof.RefRows

/-! One output tile of the kernel against the reference: with real queries and keys, the kernel's quotient at an entry
    is the reference's result there. -/

@[expose] public section

set_option maxRecDepth 16384

noncomputable section

namespace Cert.KernelIdeal.Attn

open Cert.KernelIdeal Cert.KernelIdeal.Gen Cert.Online Idealize.ShloMosaic Idealize.ShloMosaic.Pointwise
open Cert.ReferenceIdeal.Attn

/-- Queries and keys are real numbers. -/
structure RealQK (a0 : FVec Ideal S16640x2048 .bf16) (a1 : FVec Ideal S16640x1024 .bf16) : Prop where
  q : ∀ i j, ∃ x : ℝ, a0 (ix2 i j) = (x : EReal)
  k : ∀ i (j : Fin 1024), j.val < 512 → ∃ x : ℝ, a1 (ix2 i j) = (x : EReal)

/-- Entries at indices with the same coordinates are the same. -/
theorem at_val {a b : ℕ} {φ : FTy} (f : FVec Ideal ⟨2, ![a, b]⟩ φ) {i i' : Fin a} {j j' : Fin b} (h : i.val = i'.val) (h' : j.val = j'.val) :
    f (ix2 i j) = f (ix2 i' j') := by rw [Fin.ext h, Fin.ext h']

/-- The scores of query row `i`, result column `j`, in both programs: the kernel's dot products are reals `s k`, the
    reference's scaled scores are `log 2` times these. -/
theorem scores_exist {a0 : FVec Ideal S16640x2048 .bf16} {a1 : FVec Ideal S16640x1024 .bf16} (H : RealQK a0 a1)
    (i : Fin 16640) (j : Fin 2048) :
    ∃ s : ℕ → ℝ, ∀ (k : ℕ) (hk : k < 16640),
      ∑ x : Fin 128, a0 (ix2 i ⟨128 * (j.val / 128) + x.val, by omega⟩) * a1 (ix2 ⟨k, hk⟩ ⟨128 * (j.val / 512) + x.val, by omega⟩) = (s k : EReal)
      ∧ Ideal.div (∑ x : Fin 128, a1 (ix2 ⟨k, hk⟩ ⟨128 * (j.val / 512) + x.val, by omega⟩)
          * (a0 (ix2 i ⟨128 * (j.val / 128) + x.val, by omega⟩)
            * (Ideal.sqrt (Ideal.ofBits .f32 1124073472#32) * Ideal.log (Ideal.ofBits .f32 1073741824#32))))
          (Ideal.sqrt (Ideal.ofBits .f32 1124073472#32)) = ((Real.log 2 * s k : ℝ) : EReal) := by
  have h := fun (k : Fin 16640) => dot_real (fun x => a0 (ix2 i ⟨128 * (j.val / 128) + x.val, by omega⟩))
    (fun x => a1 (ix2 k ⟨128 * (j.val / 512) + x.val, by omega⟩)) (fun x => H.q _ _) (fun x => H.k _ _ (by show 128 * (j.val / 512) + x.val < 512; omega))
  choose s hs using h
  exact ⟨fun k => if hk : k < 16640 then s ⟨k, hk⟩ else 0, fun k hk => by simp only [dif_pos hk]; exact hs ⟨k, hk⟩⟩

/-- An entry of the output tile is the row's quotient at the entry's lane. -/
theorem outTile_apply (A L : Vec Ideal S1024x128 .f32) (r : Fin 256) (l : Fin 512) :
    outTile A L (ix2 r l) = Ideal.div (row A ⟨256 * (l.val / 128) + r.val, by omega⟩ ⟨l.val % 128, by omega⟩)
      (∑ x, row L ⟨256 * (l.val / 128) + r.val, by omega⟩ x) :=
  pay11_apply A L ⟨256 * (l.val / 128) + r.val, by omega⟩ ⟨l.val % 128, by omega⟩

/-- A stacked query row. -/
theorem qStack_apply (x0 : Vec Ideal S256x512 .bf16) (r : Fin 256) (l : Fin 512) (x : Fin 128) :
    qStack x0 (ix2 ⟨256 * (l.val / 128) + r.val, by omega⟩ x) = x0 (ix2 r ⟨128 * (l.val / 128) + x.val, by omega⟩) := by
  have e : ∀ (i i' : Fin 256) (k k' : Fin 512), i.val = i'.val → k.val = k'.val → x0 (ix2 i k) = x0 (ix2 i' k') := by
    intro i i' k k' h h'; rw [Fin.ext h, Fin.ext h']
  refine e _ _ _ _ ?_ ?_
  · show (256 * (l.val / 128) + r.val) % 256 = r.val; omega
  · show 128 * ((256 * (l.val / 128) + r.val) / 256) + x.val = 128 * (l.val / 128) + x.val; omega

section tile

variable {a0 : FVec Ideal S16640x2048 .bf16} {a1 : FVec Ideal S16640x1024 .bf16} (H : RealQK a0 a1)
  (x0 : Vec Ideal S256x512 .bf16) (x1 : Vec Ideal S128x16640 .bf16) (x2 : Vec Ideal S16640x128 .bf16) (p g : ℕ) (hg : g < 4)
  (h0 : ∀ (i : Fin 256) (j : Fin 512) (i' : Fin 16640) (j' : Fin 2048), i'.val = 256 * p + i.val → j'.val = 512 * g + j.val →
    x0 (ix2 i j) = a0 (ix2 i' j'))
  (h1 : ∀ (x : Fin 128) (k : Fin 16640) (e : Fin 1024), e.val = 128 * g + x.val → x1 (ix2 x k) = a1 (ix2 k e))
  (h2 : ∀ (k : Fin 16640) (d : Fin 128) (e : Fin 1024), e.val = 128 * (4 + g) + d.val → x2 (ix2 k d) = a1 (ix2 k e))
  (r : Fin 256) (l : Fin 512) (i : Fin 16640) (j : Fin 2048) (hi : i.val = 256 * p + r.val) (hj : j.val = 512 * g + l.val)

include h0 h1 hi hj hg

/-- The kernel's dot product of a stacked row with a key is that of the arrays' entries. -/
theorem tile_score (k : Fin 16640) :
    ∑ x : Fin 128, qStack x0 (ix2 ⟨256 * (l.val / 128) + r.val, by omega⟩ x) * x1 (ix2 x k)
      = ∑ x : Fin 128, a0 (ix2 i ⟨128 * (j.val / 128) + x.val, by omega⟩) * a1 (ix2 k ⟨128 * (j.val / 512) + x.val, by omega⟩) := by
  refine Finset.sum_congr rfl fun x _ => ?_
  rw [qStack_apply, h0 r _ i ⟨128 * (j.val / 128) + x.val, by omega⟩ hi (by show _ = 512 * g + (128 * (l.val / 128) + x.val); dsimp only; omega),
    h1 x k ⟨128 * (j.val / 512) + x.val, by omega⟩ (by dsimp only; omega)]

include h2 H

/-- A tile of latent queries. -/
theorem tile_lat (hp : p < 64) :
    outTile (chA (qStack x0) x1 x2 5 le_rfl) (chL (qStack x0) x1 5 le_rfl) (ix2 r l) = result a0 a1 (ix2 i j) := by
  obtain ⟨s, hs⟩ := scores_exist H i j
  have hi' : i.val < 16384 := by omega
  let u : ℕ → Fin 128 → EReal := fun k d => if hk : k < 16640 then a1 (ix2 ⟨k, hk⟩ ⟨512 + 128 * (j.val / 512) + d.val, by omega⟩) else 0
  have inv := inv_chain s u (qStack x0) x1 x2 ⟨256 * (l.val / 128) + r.val, by omega⟩
    (fun k hk => (tile_score x0 x1 p g hg h0 h1 r l i j hi hj ⟨k, hk⟩).trans (hs k hk).1)
    (fun k hk d => by
      rw [h2 ⟨k, hk⟩ d ⟨512 + 128 * (j.val / 512) + d.val, by omega⟩ (by dsimp only; omega)]
      simp only [u, dif_pos hk]) 5 le_rfl
  obtain ⟨X, hX⟩ := attnLat_apply (kHeads a1) (vHeads a1) (qHeads a0) ⟨i.val, hi'⟩ j (fun k => Real.log 2 * s k)
    (fun k => u k ⟨j.val % 128, by omega⟩)
    (fun x => by
      rw [scoresLat_apply]
      refine Eq.trans ?_ (hs x.val x.isLt).2
      congr 1
      refine Finset.sum_congr rfl fun y _ => ?_
      rw [kHeads_apply, qHeads_apply]
      exact congrArg₂ HMul.hMul (at_val a1 rfl (by dsimp only; omega))
        (congrArg₂ HMul.hMul (at_val a0 rfl (by dsimp only; omega)) rfl))
    (fun x => by
      rw [vHeads_apply]
      refine Eq.trans ?_ (dif_pos x.isLt).symm
      exact at_val a1 rfl (by dsimp only; omega))
  rw [outTile_apply, inv.final (by decide) (fun k => Real.log 2 * s k) (fun k => rfl) X, result_apply, dif_pos hi', hX]
  unfold soft
  rw [show (⟨l.val % 128, by omega⟩ : Fin 128) = ⟨j.val % 128, by omega⟩ from Fin.ext (by dsimp only; omega)]

/-- A tile of context queries. -/
theorem tile_ctx (hp : p = 64) :
    outTile (k0_pay9 (kCtx x1) (vCtx x2) (qStack x0) (k0_pay63 (F := Ideal)) (k0_pay1 (k0_pay65 (F := Ideal)))) (k0_pay8 (kCtx x1) (qStack x0) (k0_pay63 (F := Ideal)) (k0_pay64 (F := Ideal))) (ix2 r l)
      = result a0 a1 (ix2 i j) := by
  obtain ⟨s, hs⟩ := scores_exist H i j
  have hi' : ¬ i.val < 16384 := by omega
  let u : ℕ → Fin 128 → EReal := fun k d => if hk : k < 256 then a1 (ix2 ⟨16384 + k, by omega⟩ ⟨512 + 128 * (j.val / 512) + d.val, by omega⟩) else 0
  have inv := inv_ctx (fun k => s (16384 + k)) u (kCtx x1) (vCtx x2) (qStack x0) ⟨256 * (l.val / 128) + r.val, by omega⟩
    (fun k => by
      rw [pay4_apply]
      exact (tile_score x0 x1 p g hg h0 h1 r l i j hi hj ⟨16384 + k.val, by omega⟩).trans (hs (16384 + k.val) (by omega)).1)
    (fun k d => by
      refine Eq.trans ?_ (dif_pos k.isLt).symm
      exact h2 ⟨16384 + k.val, by omega⟩ d ⟨512 + 128 * (j.val / 512) + d.val, by omega⟩ (by dsimp only; omega))
  obtain ⟨X, hX⟩ := attnCtx_apply (ctxRows (kHeads a1)) (ctxRows (vHeads a1)) (qHeads a0) ⟨i.val - 16384, by omega⟩ j
    (fun k => Real.log 2 * s (16384 + k)) (fun k => u k ⟨j.val % 128, by omega⟩)
    (fun x => by
      rw [scoresCtx_apply]
      refine Eq.trans ?_ (hs (16384 + x.val) (by omega)).2
      congr 1
      refine Finset.sum_congr rfl fun y _ => ?_
      rw [ctxRows_apply, kHeads_apply, qHeads_apply]
      exact congrArg₂ HMul.hMul (at_val a1 rfl (by dsimp only; omega))
        (congrArg₂ HMul.hMul (at_val a0 (by dsimp only; omega) (by dsimp only; omega)) rfl))
    (fun x => by
      rw [ctxRows_apply, vHeads_apply]
      refine Eq.trans ?_ (dif_pos x.isLt).symm
      exact at_val a1 rfl (by dsimp only; omega))
  rw [outTile_apply, inv.final (by decide) (fun k => Real.log 2 * s (16384 + k)) (fun k => rfl) X, result_apply, dif_neg hi', hX]
  unfold soft
  rw [show (⟨l.val % 128, by omega⟩ : Fin 128) = ⟨j.val % 128, by omega⟩ from Fin.ext (by dsimp only; omega)]

end tile

end Cert.KernelIdeal.Attn

end
-- ==== Proof.Whole.lean ====
module

public import proofs.«01_k».proof.Proof.Tiles
public import proofs.«01_k».proof.Proof.Gen.KernelIdeal.Value
public import Idealize.ShloMosaic.Lib.Pipeline.ValueKit
public import Idealize.ShloMosaic.Lib.Claim

/-! The output array after the run: every block of the grid holds the reference's result. -/

@[expose] public section

set_option maxRecDepth 16384

noncomputable section

namespace Cert.KernelIdeal.Attn

open Cert.KernelIdeal Cert.KernelIdeal.Gen Idealize.ShloMosaic Idealize.ShloMosaic.Pointwise Idealize.ShloMosaic.TcCoe Idealize.SL.Sem

variable (m : (ℓ : Loc nD τ sig) → Buf (Elt Ideal) ℓ)

/-- Which block each window holds at a point: the query tile and the group of heads. -/
theorem idx0 : ∀ t : Fin cfg0.N, (cfg0.win 0).index t 0 = t.val % 65 ∧ (cfg0.win 0).index t 1 = t.val / 65 := by decide +kernel
theorem idx1 : ∀ t : Fin cfg0.N, (cfg0.win 1).index t 0 = t.val / 65 ∧ (cfg0.win 1).index t 1 = 0 := by decide +kernel
theorem idx2 : ∀ t : Fin cfg0.N, (cfg0.win 2).index t 0 = 0 ∧ (cfg0.win 2).index t 1 = 4 + t.val / 65 := by decide +kernel
theorem idx3 : ∀ t : Fin cfg0.N, (cfg0.win 3).index t 0 = t.val % 65 ∧ (cfg0.win 3).index t 1 = t.val / 65 := by decide +kernel

/-- The block of queries is a block of the query array. -/
theorem read0 (c : Dev nD) (t : Fin cfg0.N) (i : Fin 256) (j : Fin 512) (i' : Fin 16640) (j' : Fin 2048)
    (hi : i'.val = 256 * (t.val % 65) + i.val) (hj : j'.val = 512 * (t.val / 65) + j.val) :
    (Gen.iblk m c 0 t : Vec Ideal S256x512 .bf16) (ix2 i j) = (m ((c.tc : Thread nD τ).loc main_arg0) : FVec Ideal S16640x2048 .bf16) (ix2 i' j') := by
  have e := idx0 t
  show V m c main_arg0 (((cfg0.win 0).blk t).view.emb (ix2 i j)) = _
  rw [V_main_arg0]
  blk_ext [e]

/-- The block of transposed keys is a column range of the key array, transposed. -/
theorem read1 (c : Dev nD) (t : Fin cfg0.N) (i : Fin 128) (j : Fin 16640) (k : Fin 1024) (hk : k.val = 128 * (t.val / 65) + i.val) :
    (Gen.iblk m c 1 t : Vec Ideal S128x16640 .bf16) (ix2 i j) = (m ((c.tc : Thread nD τ).loc main_arg1) : FVec Ideal S16640x1024 .bf16) (ix2 j k) := by
  have e := idx1 t
  have ht : t.val < 260 := t.isLt
  have he : ((cfg0.win 1).blk t).view.emb (ix2 i j) = (ix2 ⟨k.val, by omega⟩ j : S512x16640.Idx) := by
    blk_ext [e]
  show V m c main_v1 (((cfg0.win 1).blk t).view.emb (ix2 i j)) = _
  rw [he]
  entry_read
  pointwise

/-- The block of values is a column range of the value array. -/
theorem read2 (c : Dev nD) (t : Fin cfg0.N) (i : Fin 16640) (j : Fin 128) (k : Fin 1024) (hk : k.val = 128 * (4 + t.val / 65) + j.val) :
    (Gen.iblk m c 2 t : Vec Ideal S16640x128 .bf16) (ix2 i j) = (m ((c.tc : Thread nD τ).loc main_arg1) : FVec Ideal S16640x1024 .bf16) (ix2 i k) := by
  have e := idx2 t
  show V m c main_arg1 (((cfg0.win 2).blk t).view.emb (ix2 i j)) = _
  rw [V_main_arg1]
  blk_ext [e]

/-- With real queries and keys, the kernel's output array is the reference's result. -/
theorem arr_eq (c : Dev nD)
    (H : RealQK (m ((c.tc : Thread nD τ).loc main_arg0)) (m ((c.tc : Thread nD τ).loc main_arg1))) :
    (Gen.dats m 0 c).arrAt 3 cfg0.N
      = Cert.ReferenceIdeal.Attn.result (F := Ideal) (m ((c.tc : Thread nD τ).loc main_arg0)) (m ((c.tc : Thread nD τ).loc main_arg1)) := by
  refine (Gen.dats m 0 c).arrAt_eq_of_covers 3 _ (by decide +kernel) fun t hf y => ?_
  blk_simp
  have ht : t.val < 260 := t.isLt
  have e := idx3 t
  obtain ⟨r, l, rfl⟩ : ∃ (r : Fin 256) (l : Fin 512), y = (ix2 r l : S256x512.Idx) :=
    ⟨y 0, y 1, by funext a; match a with | 0 => rfl | 1 => rfl⟩
  have hy : (win0_3.blk t).view.emb (ix2 r l : S256x512.Idx)
      = (ix2 ⟨256 * (t.val % 65) + r.val, by omega⟩ ⟨512 * (t.val / 65) + l.val, by omega⟩ : S16640x2048.Idx) := by
    blk_ext [e]
  rw [hy, after0_3]
  by_cases h : t.val % 65 = 64
  · rw [outsAt0_B m c t (by omega) h, out_B]
    exact tile_ctx H _ _ _ (t.val % 65) (t.val / 65) (by omega) (read0 m c t) (read1 m c t) (read2 m c t) r l _ _ rfl rfl h
  · rw [outsAt0_A m c t (by omega) h, out_A]
    exact tile_lat H _ _ _ (t.val % 65) (t.val / 65) (by omega) (read0 m c t) (read1 m c t) (read2 m c t) r l _ _ rfl rfl (by omega)

end Cert.KernelIdeal.Attn

end
-- ==== Proof.Up.lean ====
module

public import proofs.«01_k».proof.Proof.Gen.KernelUpIdeal.Value
public import proofs.«01_k».proof.Proof.Gen.ReferenceUpIdeal.Run
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim

/-! The gated feed-forward product: every block of the kernel's output holds the reference's result. -/

@[expose] public section

set_option maxRecDepth 16384

noncomputable section

namespace Cert.ReferenceUpIdeal.Up

open Cert.ReferenceUpIdeal Cert.ReferenceUpIdeal.Gen Cert.ReferenceUpIdeal.Value Idealize.ShloMosaic Idealize.ShloMosaic.Pointwise Idealize.ShloMosaic.TcCoe Idealize.SL.Sem Idealize.ShloMosaic.StableHlo

variable {F : FTy → Type} [FloatOps F]

/-- The product of the rows with the first layer's first input weights. -/
def prod (h : FVec F S16640x4096 .bf16) (w : FVec F S4x2x4096x12288 .f32) : FVec F S16640x12288 .f32 :=
  Host.dotGeneral dot_S16640x4096_S4096x12288_S16640x12288_1_0_0_1_n_n none (extf .f32 h bitsLt_bf16_f32)
    (shapeCast S4096x12288 (extractStridedSlice S1x1x4096x12288 ![0, 0, 0, 0] w slices_S4x2x4096x12288_S1x1x4096x12288_0_0_0_0) shapeCasts_S1x1x4096x12288_S4096x12288)

/-- The first half of the columns, gated by its own logistic function, times the second half. -/
def gated (p : FVec F S16640x12288 .f32) : FVec F S16640x6144 .bf16 :=
  truncf .bf16 (mulf (mulf (extractStridedSlice S16640x6144 ![0, 0] p slices_S16640x12288_S16640x6144_0_0)
    (Host.divf (broadcastInDim S16640x6144 ![] bcast_S_S16640x6144 (constant S_ .f32 0x3F800000#32))
      (addf (broadcastInDim S16640x6144 ![] bcast_S_S16640x6144 (constant S_ .f32 0x3F800000#32))
        (Host.exp (Host.negf (extractStridedSlice S16640x6144 ![0, 0] p slices_S16640x12288_S16640x6144_0_0))))))
    (extractStridedSlice S16640x6144 ![0, 6144] p slices_S16640x12288_S16640x6144_0_6144)) bitsLt_bf16_f32

/-- A product's entry: a row of the inputs with a column of the weights. -/
theorem prod_apply (h : FVec Ideal S16640x4096 .bf16) (w : FVec Ideal S4x2x4096x12288 .f32) (i : Fin 16640) (j : Fin 12288) :
    prod h w (ix2 i j) = ∑ x : Fin 4096, h (ix2 i x) * w (ix4 0 0 x j) := by
  pointwise [prod]

/-- A gated entry. -/
theorem gated_apply (p : FVec Ideal S16640x12288 .f32) (i : Fin 16640) (j : Fin 6144) :
    gated p (ix2 i j) = p (ix2 i ⟨j.val, by omega⟩)
      * Ideal.div (Ideal.ofBits .f32 0x3F800000#32) (Ideal.ofBits .f32 0x3F800000#32 + Ideal.exp (-p (ix2 i ⟨j.val, by omega⟩)))
      * p (ix2 i ⟨6144 + j.val, by omega⟩) := by
  pointwise [gated]

end Cert.ReferenceUpIdeal.Up

namespace Cert.KernelUpIdeal.Up

open Cert.KernelUpIdeal Cert.KernelUpIdeal.Gen Idealize.ShloMosaic Idealize.ShloMosaic.Pointwise Idealize.ShloMosaic.TcCoe Idealize.SL.Sem

variable (m : (ℓ : Loc nD τ sig) → Buf (Elt Ideal) ℓ)

/-- The block's product with a block of the weights. -/
def part (x : Vec Ideal S2080x4096 .bf16) (w : Vec Ideal S1x1x4096x256 .f32) (r : Fin 2080) (l : Fin 256) : EReal :=
  ∑ k : Fin 4096, x (ix2 r k) * w (ix4 0 0 k l)

/-- An entry of the block that the body stores. -/
theorem pay1_apply (x : Vec Ideal S2080x4096 .bf16) (u v : Vec Ideal S1x1x4096x256 .f32) (r : Fin 2080) (l : Fin 256) :
    k0_pay1 (F := Ideal) x u v (ix2 r l) = part x u r l
      * Ideal.div (Ideal.ofBits .f32 0x3F800000#32) (Ideal.ofBits .f32 0x3F800000#32 + Ideal.exp (Ideal.ofBits .f32 0x00000000#32 - part x u r l))
      * part x v r l := by
  pointwise [k0_pay1, part]

/-- Which block each window holds at a point. -/
theorem idx0 : ∀ t : Fin cfg0.N, (cfg0.win 0).index t 0 = t.val / 24 ∧ (cfg0.win 0).index t 1 = 0 := by decide +kernel
theorem idx1 : ∀ t : Fin cfg0.N, (cfg0.win 1).index t 0 = 0 ∧ (cfg0.win 1).index t 1 = 0 ∧ (cfg0.win 1).index t 2 = 0 ∧ (cfg0.win 1).index t 3 = t.val % 24 := by decide +kernel
theorem idx2 : ∀ t : Fin cfg0.N, (cfg0.win 2).index t 0 = 0 ∧ (cfg0.win 2).index t 1 = 0 ∧ (cfg0.win 2).index t 2 = 0 ∧ (cfg0.win 2).index t 3 = 24 + t.val % 24 := by decide +kernel
theorem idx3 : ∀ t : Fin cfg0.N, (cfg0.win 3).index t 0 = t.val / 24 ∧ (cfg0.win 3).index t 1 = t.val % 24 := by decide +kernel

/-- The block of inputs is a range of rows. -/
theorem read0 (c : Dev nD) (t : Fin cfg0.N) (i : Fin 2080) (j : Fin 4096) (i' : Fin 16640) (hi : i'.val = 2080 * (t.val / 24) + i.val) :
    (Gen.iblk m c 0 t : Vec Ideal S2080x4096 .bf16) (ix2 i j) = (m ((c.tc : Thread nD τ).loc main_arg0) : FVec Ideal S16640x4096 .bf16) (ix2 i' j) := by
  have e := idx0 t
  show V m c main_arg0 (((cfg0.win 0).blk t).view.emb (ix2 i j)) = _
  rw [V_main_arg0]
  blk_ext [e]

/-- The first block of weights is a range of the first half's columns. -/
theorem read1 (c : Dev nD) (t : Fin cfg0.N) (i : Fin 4096) (j : Fin 256) (k : Fin 12288) (hk : k.val = 256 * (t.val % 24) + j.val) :
    (Gen.iblk m c 1 t : Vec Ideal S1x1x4096x256 .f32) (ix4 0 0 i j) = (m ((c.tc : Thread nD τ).loc main_arg1) : FVec Ideal S4x2x4096x12288 .f32) (ix4 0 0 i k) := by
  have e := idx1 t
  show V m c main_arg1 (((cfg0.win 1).blk t).view.emb (ix4 0 0 i j)) = _
  rw [V_main_arg1]
  blk_ext [e]

/-- The second block of weights is the same range of the second half's columns. -/
theorem read2 (c : Dev nD) (t : Fin cfg0.N) (i : Fin 4096) (j : Fin 256) (k : Fin 12288) (hk : k.val = 6144 + (256 * (t.val % 24) + j.val)) :
    (Gen.iblk m c 2 t : Vec Ideal S1x1x4096x256 .f32) (ix4 0 0 i j) = (m ((c.tc : Thread nD τ).loc main_arg1) : FVec Ideal S4x2x4096x12288 .f32) (ix4 0 0 i k) := by
  have e := idx2 t
  show V m c main_arg1 (((cfg0.win 2).blk t).view.emb (ix4 0 0 i j)) = _
  rw [V_main_arg1]
  blk_ext [e]

/-- The body's block is what it stores. -/
theorem out_eq (x : Vec Ideal S2080x4096 .bf16) (u v : Vec Ideal S1x1x4096x256 .f32) : out0_3 (F := Ideal) x u v = k0_pay1 (F := Ideal) x u v := by
  unfold out0_3
  rw [View.canon_unit_zero (by decide) _ _, View.ld_unit_zero (by decide), View.ld_unit_zero (by decide), View.ld_unit_zero (by decide)]

/-- A block of inputs and two blocks of weights give the block of the reference's result. -/
theorem tile (a0 : FVec Ideal S16640x4096 .bf16) (a1 : FVec Ideal S4x2x4096x12288 .f32)
    (x : Vec Ideal S2080x4096 .bf16) (u v : Vec Ideal S1x1x4096x256 .f32) (r : Fin 2080) (l : Fin 256) (i : Fin 16640) (j : Fin 6144)
    (hx : ∀ k : Fin 4096, x (ix2 r k) = a0 (ix2 i k)) (hu : ∀ k : Fin 4096, u (ix4 0 0 k l) = a1 (ix4 0 0 k ⟨j.val, by omega⟩))
    (hv : ∀ k : Fin 4096, v (ix4 0 0 k l) = a1 (ix4 0 0 k ⟨6144 + j.val, by omega⟩)) :
    k0_pay1 (F := Ideal) x u v (ix2 r l) = Cert.ReferenceUpIdeal.Up.gated (F := Ideal) (Cert.ReferenceUpIdeal.Up.prod a0 a1) (ix2 i j) := by
  rw [pay1_apply, Cert.ReferenceUpIdeal.Up.gated_apply, Cert.ReferenceUpIdeal.Up.prod_apply, Cert.ReferenceUpIdeal.Up.prod_apply]
  have ha : part x u r l = ∑ k : Fin 4096, a0 (ix2 i k) * a1 (ix4 0 0 k ⟨j.val, by omega⟩) :=
    Finset.sum_congr rfl fun k _ => congrArg₂ HMul.hMul (hx k) (hu k)
  have hb : part x v r l = ∑ k : Fin 4096, a0 (ix2 i k) * a1 (ix4 0 0 k ⟨6144 + j.val, by omega⟩) :=
    Finset.sum_congr rfl fun k _ => congrArg₂ HMul.hMul (hx k) (hv k)
  have hz : Ideal.ofBits .f32 0x00000000#32 = 0 := by simp [Ideal.ofBits, Ideal.ieee]
  rw [ha, hb, hz, zero_sub]

/-- The kernel's output array is the reference's result. -/
theorem arr_eq (c : Dev nD) :
    (Gen.dats m 0 c).arrAt 3 cfg0.N
      = Cert.ReferenceUpIdeal.Up.gated (F := Ideal) (Cert.ReferenceUpIdeal.Up.prod (m ((c.tc : Thread nD τ).loc main_arg0)) (m ((c.tc : Thread nD τ).loc main_arg1))) := by
  refine (Gen.dats m 0 c).arrAt_eq_of_covers 3 _ (by decide +kernel) fun t hf y => ?_
  blk_simp
  have ht : t.val < 192 := t.isLt
  have e := idx3 t
  obtain ⟨r, l, rfl⟩ : ∃ (r : Fin 2080) (l : Fin 256), y = (ix2 r l : S2080x256.Idx) :=
    ⟨y 0, y 1, by funext a; match a with | 0 => rfl | 1 => rfl⟩
  have hy : (win0_3.blk t).view.emb (ix2 r l : S2080x256.Idx)
      = (ix2 ⟨2080 * (t.val / 24) + r.val, by omega⟩ ⟨256 * (t.val % 24) + l.val, by omega⟩ : S16640x6144.Idx) := by
    blk_ext [e]
  rw [hy, after0_3, out_eq]
  exact tile _ _ _ _ _ r l _ _ (fun k => read0 m c t r k _ rfl) (fun k => read1 m c t k l _ rfl) (fun k => read2 m c t k l _ rfl)

end Cert.KernelUpIdeal.Up

end
-- ==== Proof.Tokens.lean ====
module

public import Idealize.ShloMosaic.Lib.WordCmp
public import Idealize.ShloMosaic.Lib.Pointwise

/-! Which tokens are the context's: a block's row number, computed in words, compared with the number of latent tokens. -/

@[expose] public section

namespace Cert.Tokens

open Idealize.ShloMosaic

/-- Choosing by a word comparison of row `r` of block `a`, blocks of `b` rows, is choosing by the row's number. -/
theorem choose {α : Type} (b a r : ℕ) (h : b * a + r < 2 ^ 31) (u v : α) :
    Scalar.select (IntOp.cmpi .sge (IntOp.addi (Scalar.muli (BitVec.ofNat 32 a) (BitVec.ofNat 32 b)) (BitVec.ofNat 32 r)) 16384#32) u v
      = if 16384 ≤ b * a + r then u else v := by
  have e : IntOp.addi (Scalar.muli (BitVec.ofNat 32 a) (BitVec.ofNat 32 b)) (BitVec.ofNat 32 r) = BitVec.ofNat 32 (b * a + r) := by
    show BitVec.ofNat 32 a * BitVec.ofNat 32 b + BitVec.ofNat 32 r = _
    rw [← BitVec.ofNat_mul, ← BitVec.ofNat_add, Nat.mul_comm]
  rw [e, WordCmp.cmpi_sge_ofNat (by simpa using h) (by decide)]
  unfold Scalar.select
  by_cases hi : 16384 ≤ b * a + r
  · rw [if_pos hi, if_pos (by simp [hi])]
  · rw [if_neg hi, if_neg (by simp [hi])]

end Cert.Tokens
-- ==== Proof.Down.lean ====
module

public import proofs.«01_k».proof.Proof.Gen.KernelDownIdeal.Value
public import proofs.«01_k».proof.Proof.Gen.ReferenceDownIdeal.Run
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim
public import proofs.«01_k».proof.Proof.Tokens

/-! The second feed-forward product with its gated residual: every block of the kernel's output holds the reference's
    result. -/

@[expose] public section

set_option maxRecDepth 16384

noncomputable section

namespace Cert.ReferenceDownIdeal.Down

open Cert.ReferenceDownIdeal Cert.ReferenceDownIdeal.Gen Cert.ReferenceDownIdeal.Value Idealize.ShloMosaic Idealize.ShloMosaic.Pointwise Idealize.ShloMosaic.TcCoe Idealize.SL.Sem Idealize.ShloMosaic.StableHlo

variable {F : FTy → Type} [FloatOps F]

/-- The product of the hidden rows with the first layer's first output weights. -/
def prod (g : FVec F S16640x6144 .bf16) (w : FVec F S4x2x6144x4096 .bf16) : FVec F S16640x4096 .f32 :=
  Host.dotGeneral dot_S16640x6144_S6144x4096_S16640x4096_1_0_0_1_n_n none (extf .f32 g bitsLt_bf16_f32)
    (extf .f32 (shapeCast S6144x4096 (extractStridedSlice S1x1x6144x4096 ![0, 0, 0, 0] w slices_S4x2x6144x4096_S1x1x6144x4096_0_0_0_0) shapeCasts_S1x1x6144x4096_S6144x4096) bitsLt_bf16_f32)

/-- The latent rows: the residual stream and half the latent gate times the product. -/
def latent (y : FVec F S16640x4096 .f32) (x : FVec F S16640x4096 .f32) (g : FVec F S4x9x8x4096 .f32) : FVec F S16384x4096 .f32 :=
  addf (extractStridedSlice S16384x4096 ![0, 0] x slices_S16640x4096_S16384x4096_0_0)
    (mulf (broadcastInDim S16384x4096 ![0, 1] bcast_S1x4096_S16384x4096_0_1 (broadcastInDim S1x4096 ![1] bcast_S4096_S1x4096_1
      (mulf (broadcastInDim S4096 ![] bcast_S_S4096 (constant S_ .f32 0x3F000000#32))
        (shapeCast S4096 (extractStridedSlice S1x1x1x4096 ![0, 2, 0, 0] g slices_S4x9x8x4096_S1x1x1x4096_0_2_0_0) shapeCasts_S1x1x1x4096_S4096))))
      (extractStridedSlice S16384x4096 ![0, 0] y slices_S16640x4096_S16384x4096_0_0))

/-- The context rows: the residual stream and half the context gate times the product. -/
def context (y : FVec F S16640x4096 .f32) (x : FVec F S16640x4096 .f32) (g : FVec F S4x9x8x4096 .f32) : FVec F S256x4096 .f32 :=
  addf (extractStridedSlice S256x4096 ![16384, 0] x slices_S16640x4096_S256x4096_16384_0)
    (mulf (broadcastInDim S256x4096 ![0, 1] bcast_S1x4096_S256x4096_0_1 (broadcastInDim S1x4096 ![1] bcast_S4096_S1x4096_1
      (mulf (broadcastInDim S4096 ![] bcast_S_S4096 (constant S_ .f32 0x3F000000#32))
        (shapeCast S4096 (extractStridedSlice S1x1x1x4096 ![0, 2, 1, 0] g slices_S4x9x8x4096_S1x1x1x4096_0_2_1_0) shapeCasts_S1x1x1x4096_S4096))))
      (extractStridedSlice S256x4096 ![16384, 0] y slices_S16640x4096_S256x4096_16384_0))

/-- The reference's result: the latent rows over the context rows. -/
def result (y : FVec F S16640x4096 .f32) (x : FVec F S16640x4096 .f32) (g : FVec F S4x9x8x4096 .f32) : FVec F S16640x4096 .f32 :=
  concatenate S16640x4096 0 [⟨S16384x4096, latent y x g⟩, ⟨S256x4096, context y x g⟩] concatenates_S16384x4096_S256x4096_S16640x4096_d0

/-- A product's entry. -/
theorem prod_apply (g : FVec Ideal S16640x6144 .bf16) (w : FVec Ideal S4x2x6144x4096 .bf16) (i : Fin 16640) (j : Fin 4096) :
    prod g w (ix2 i j) = ∑ x : Fin 6144, g (ix2 i x) * w (ix4 0 0 x j) := by
  pointwise [prod]

/-- An entry of the latent rows. -/
theorem latent_apply (y : FVec Ideal S16640x4096 .f32) (x : FVec Ideal S16640x4096 .f32) (g : FVec Ideal S4x9x8x4096 .f32) (i : Fin 16384) (j : Fin 4096) :
    latent y x g (ix2 i j) = x (ix2 ⟨i.val, by omega⟩ j) + Ideal.ofBits .f32 0x3F000000#32 * g (ix4 0 2 0 j) * y (ix2 ⟨i.val, by omega⟩ j) := by
  pointwise [latent]

/-- An entry of the context rows. -/
theorem context_apply (y : FVec Ideal S16640x4096 .f32) (x : FVec Ideal S16640x4096 .f32) (g : FVec Ideal S4x9x8x4096 .f32) (i : Fin 256) (j : Fin 4096) :
    context y x g (ix2 i j) = x (ix2 ⟨16384 + i.val, by omega⟩ j) + Ideal.ofBits .f32 0x3F000000#32 * g (ix4 0 2 1 j) * y (ix2 ⟨16384 + i.val, by omega⟩ j) := by
  pointwise [context]

/-- An entry of the result: the gate's row depends on the token's kind. -/
theorem result_apply (y : FVec Ideal S16640x4096 .f32) (x : FVec Ideal S16640x4096 .f32) (g : FVec Ideal S4x9x8x4096 .f32) (i : Fin 16640) (j : Fin 4096) :
    result y x g (ix2 i j) = x (ix2 i j) + Ideal.ofBits .f32 0x3F000000#32 * g (ix4 0 2 (if 16384 ≤ i.val then 1 else 0) j) * y (ix2 i j) := by
  have h : result y x g (ix2 i j) = if h : i.val < 16384 then latent y x g (ix2 ⟨i.val, h⟩ j) else context y x g (ix2 ⟨i.val - 16384, by omega⟩ j) := by
    unfold result
    generalize latent y x g = p
    generalize context y x g = q
    pointwise
  rw [h]
  by_cases hi : i.val < 16384
  · rw [dif_pos hi, latent_apply, if_neg (by omega)]
  · have e : (⟨16384 + (i.val - 16384), by omega⟩ : Fin 16640) = i := Fin.ext (by show 16384 + (i.val - 16384) = i.val; omega)
    rw [dif_neg hi, context_apply, if_pos (by omega)]
    simp only [e]

end Cert.ReferenceDownIdeal.Down

namespace Cert.KernelDownIdeal.Down

open Cert.KernelDownIdeal Cert.KernelDownIdeal.Gen Idealize.ShloMosaic Idealize.ShloMosaic.Pointwise Idealize.ShloMosaic.TcCoe Idealize.SL.Sem

variable (m : (ℓ : Loc nD τ sig) → Buf (Elt Ideal) ℓ)

/-- The block's product with a block of the weights. -/
def part (x : Vec Ideal S1040x6144 .bf16) (w : Vec Ideal S1x1x6144x512 .bf16) (r : Fin 1040) (l : Fin 512) : EReal :=
  ∑ k : Fin 6144, x (ix2 r k) * w (ix4 0 0 k l)

/-- An entry of the block that the body stores. -/
theorem pay1_apply (i : grid0.Coords) (x : Vec Ideal S1040x6144 .bf16) (w : Vec Ideal S1x1x6144x512 .bf16) (s : Vec Ideal S1040x512 .f32)
    (u v : Vec Ideal S1x1x1x512 .f32) (r : Fin 1040) (l : Fin 512) (hi : (i 0).val < 16) :
    k0_pay1 (F := Ideal) i x w s u v (ix2 r l) = s (ix2 r l)
      + Ideal.ofBits .f32 0x3F000000#32 * (if 16384 ≤ 1040 * (i 0).val + r.val then u (ix4 0 0 0 l) else v (ix4 0 0 0 l)) * part x w r l := by
  rw [← Tokens.choose 1040 (i 0).val r.val (by omega)]
  pointwise [k0_pay1, part]

/-- The body's block is what it stores, the two gates read from the block of modulations. -/
theorem out_eq (i : grid0.Coords) (x : Vec Ideal S1040x6144 .bf16) (w : Vec Ideal S1x1x6144x512 .bf16) (s : Vec Ideal S1040x512 .f32)
    (g : Vec Ideal S1x1x8x512 .f32) :
    out0_4 (F := Ideal) i x w s g = k0_pay1 (F := Ideal) i x w s (View.ld g r0_3) (View.ld g r0_4) := by
  unfold out0_4
  rw [View.canon_unit_zero (by decide) _ _, View.ld_unit_zero (by decide), View.ld_unit_zero (by decide), View.ld_unit_zero (by decide)]

/-- The context's gate is the modulations' second row. -/
theorem gate1 (g : Vec Ideal S1x1x8x512 .f32) (l : Fin 512) : View.ld g r0_3 (ix4 0 0 0 l : S1x1x1x512.Idx) = g (ix4 0 0 1 l) := by
  rw [View.ld_unit]
  pointwise

/-- The latent tokens' gate is the modulations' first row. -/
theorem gate0 (g : Vec Ideal S1x1x8x512 .f32) (l : Fin 512) : View.ld g r0_4 (ix4 0 0 0 l : S1x1x1x512.Idx) = g (ix4 0 0 0 l) := by
  rw [View.ld_unit]
  pointwise

/-- A point's blocks give the block of the reference's result. -/
theorem tile (a0 : FVec Ideal S16640x6144 .bf16) (a1 : FVec Ideal S4x2x6144x4096 .bf16) (a2 : FVec Ideal S16640x4096 .f32)
    (a3 : FVec Ideal S4x9x8x4096 .f32) (c : grid0.Coords)
    (x : Vec Ideal S1040x6144 .bf16) (w : Vec Ideal S1x1x6144x512 .bf16) (s : Vec Ideal S1040x512 .f32) (g : Vec Ideal S1x1x8x512 .f32)
    (r : Fin 1040) (l : Fin 512) (i : Fin 16640) (j : Fin 4096) (hc : (c 0).val < 16) (hi : i.val = 1040 * (c 0).val + r.val)
    (hx : ∀ k : Fin 6144, x (ix2 r k) = a0 (ix2 i k)) (hw : ∀ k : Fin 6144, w (ix4 0 0 k l) = a1 (ix4 0 0 k j))
    (hs : s (ix2 r l) = a2 (ix2 i j)) (hg : ∀ k : Fin 8, g (ix4 0 0 k l) = a3 (ix4 0 2 k j)) :
    k0_pay1 (F := Ideal) c x w s (View.ld g r0_3) (View.ld g r0_4) (ix2 r l)
      = Cert.ReferenceDownIdeal.Down.result (F := Ideal) (Cert.ReferenceDownIdeal.Down.prod a0 a1) a2 a3 (ix2 i j) := by
  rw [pay1_apply _ _ _ _ _ _ _ _ hc, gate0, gate1, Cert.ReferenceDownIdeal.Down.result_apply, Cert.ReferenceDownIdeal.Down.prod_apply, hs, hg, hg, ← hi]
  have hp : part x w r l = ∑ k : Fin 6144, a0 (ix2 i k) * a1 (ix4 0 0 k j) :=
    Finset.sum_congr rfl fun k _ => congrArg₂ HMul.hMul (hx k) (hw k)
  rw [hp]
  by_cases h : 16384 ≤ i.val
  · rw [if_pos h, if_pos h]
  · rw [if_neg h, if_neg h]

/-- Which block each window holds at a point. -/
theorem idx0 : ∀ t : Fin cfg0.N, (cfg0.win 0).index t 0 = t.val / 8 ∧ (cfg0.win 0).index t 1 = 0 := by decide +kernel
theorem idx1 : ∀ t : Fin cfg0.N, (cfg0.win 1).index t 0 = 0 ∧ (cfg0.win 1).index t 1 = 0 ∧ (cfg0.win 1).index t 2 = 0 ∧ (cfg0.win 1).index t 3 = t.val % 8 := by decide +kernel
theorem idx2 : ∀ t : Fin cfg0.N, (cfg0.win 2).index t 0 = t.val / 8 ∧ (cfg0.win 2).index t 1 = t.val % 8 := by decide +kernel
theorem idx3 : ∀ t : Fin cfg0.N, (cfg0.win 3).index t 0 = 0 ∧ (cfg0.win 3).index t 1 = 2 ∧ (cfg0.win 3).index t 2 = 0 ∧ (cfg0.win 3).index t 3 = t.val % 8 := by decide +kernel
theorem idx4 : ∀ t : Fin cfg0.N, (cfg0.win 4).index t 0 = t.val / 8 ∧ (cfg0.win 4).index t 1 = t.val % 8 := by decide +kernel
theorem row : ∀ t : Fin cfg0.N, (grid0.coords t 0).val = t.val / 8 := by decide +kernel

/-- The block of hidden rows. -/
theorem read0 (c : Dev nD) (t : Fin cfg0.N) (i : Fin 1040) (j : Fin 6144) (i' : Fin 16640) (hi : i'.val = 1040 * (t.val / 8) + i.val) :
    (Gen.iblk m c 0 t : Vec Ideal S1040x6144 .bf16) (ix2 i j) = (m ((c.tc : Thread nD τ).loc main_arg0) : FVec Ideal S16640x6144 .bf16) (ix2 i' j) := by
  have e := idx0 t
  show V m c main_arg0 (((cfg0.win 0).blk t).view.emb (ix2 i j)) = _
  rw [V_main_arg0]
  blk_ext [e]

/-- The block of weights. -/
theorem read1 (c : Dev nD) (t : Fin cfg0.N) (i : Fin 6144) (j : Fin 512) (k : Fin 4096) (hk : k.val = 512 * (t.val % 8) + j.val) :
    (Gen.iblk m c 1 t : Vec Ideal S1x1x6144x512 .bf16) (ix4 0 0 i j) = (m ((c.tc : Thread nD τ).loc main_arg1) : FVec Ideal S4x2x6144x4096 .bf16) (ix4 0 0 i k) := by
  have e := idx1 t
  show V m c main_arg1 (((cfg0.win 1).blk t).view.emb (ix4 0 0 i j)) = _
  rw [V_main_arg1]
  blk_ext [e]

/-- The block of the residual stream. -/
theorem read2 (c : Dev nD) (t : Fin cfg0.N) (i : Fin 1040) (j : Fin 512) (i' : Fin 16640) (j' : Fin 4096)
    (hi : i'.val = 1040 * (t.val / 8) + i.val) (hj : j'.val = 512 * (t.val % 8) + j.val) :
    (Gen.iblk m c 2 t : Vec Ideal S1040x512 .f32) (ix2 i j) = (m ((c.tc : Thread nD τ).loc main_arg2) : FVec Ideal S16640x4096 .f32) (ix2 i' j') := by
  have e := idx2 t
  show V m c main_arg2 (((cfg0.win 2).blk t).view.emb (ix2 i j)) = _
  rw [V_main_arg2]
  blk_ext [e]

/-- The block of the modulations. -/
theorem read3 (c : Dev nD) (t : Fin cfg0.N) (i : Fin 8) (j : Fin 512) (k : Fin 4096) (hk : k.val = 512 * (t.val % 8) + j.val) :
    (Gen.iblk m c 3 t : Vec Ideal S1x1x8x512 .f32) (ix4 0 0 i j) = (m ((c.tc : Thread nD τ).loc main_arg3) : FVec Ideal S4x9x8x4096 .f32) (ix4 0 2 i k) := by
  have e := idx3 t
  show V m c main_arg3 (((cfg0.win 3).blk t).view.emb (ix4 0 0 i j)) = _
  rw [V_main_arg3]
  blk_ext [e]

/-- The kernel's output array is the reference's result. -/
theorem arr_eq (c : Dev nD) :
    (Gen.dats m 0 c).arrAt 4 cfg0.N
      = Cert.ReferenceDownIdeal.Down.result (F := Ideal)
          (Cert.ReferenceDownIdeal.Down.prod (m ((c.tc : Thread nD τ).loc main_arg0)) (m ((c.tc : Thread nD τ).loc main_arg1)))
          (m ((c.tc : Thread nD τ).loc main_arg2)) (m ((c.tc : Thread nD τ).loc main_arg3)) := by
  refine (Gen.dats m 0 c).arrAt_eq_of_covers 4 _ (by decide +kernel) fun t hf y => ?_
  blk_simp
  have ht : t.val < 128 := t.isLt
  have e := idx4 t
  obtain ⟨r, l, rfl⟩ : ∃ (r : Fin 1040) (l : Fin 512), y = (ix2 r l : S1040x512.Idx) :=
    ⟨y 0, y 1, by funext a; match a with | 0 => rfl | 1 => rfl⟩
  have hy : (win0_4.blk t).view.emb (ix2 r l : S1040x512.Idx)
      = (ix2 ⟨1040 * (t.val / 8) + r.val, by omega⟩ ⟨512 * (t.val % 8) + l.val, by omega⟩ : S16640x4096.Idx) := by
    blk_ext [e]
  rw [hy, after0_4, out_eq]
  exact tile _ _ _ _ _ _ _ _ _ r l _ _ (by rw [row]; omega) (by rw [row]) (fun k => read0 m c t r k _ rfl)
    (fun k => read1 m c t k l _ rfl) (read2 m c t r l _ _ rfl rfl) (fun k => read3 m c t k l _ rfl)

end Cert.KernelDownIdeal.Down

end
-- ==== Proof.Outproj.lean ====
module

public import proofs.«01_k».proof.Proof.Gen.KernelOutIdeal.Value
public import proofs.«01_k».proof.Proof.Gen.ReferenceOutIdeal.Run
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim
public import proofs.«01_k».proof.Proof.Tokens

/-! The output product with its gated residual: every block of the kernel's output holds the reference's result. -/

@[expose] public section

set_option maxRecDepth 16384

noncomputable section

namespace Cert.ReferenceOutIdeal.Out

open Cert.ReferenceOutIdeal Cert.ReferenceOutIdeal.Gen Cert.ReferenceOutIdeal.Value Idealize.ShloMosaic Idealize.ShloMosaic.Pointwise Idealize.ShloMosaic.TcCoe Idealize.SL.Sem Idealize.ShloMosaic.StableHlo

variable {F : FTy → Type} [FloatOps F]

/-- The three attentions' results side by side. -/
def joined (a : FVec F S16640x2048 .bf16) (b c : FVec F S16640x1024 .bf16) : FVec F S16640x4096 .f32 :=
  concatenate S16640x4096 1 [⟨S16640x2048, extf .f32 a bitsLt_bf16_f32⟩, ⟨S16640x1024, extf .f32 b bitsLt_bf16_f32⟩, ⟨S16640x1024, extf .f32 c bitsLt_bf16_f32⟩]
    concatenates_S16640x2048_S16640x1024_S16640x1024_S16640x4096_d1

/-- The product of the joined rows with the first layer's output weights. -/
def prod (x : FVec F S16640x4096 .f32) (w : FVec F S4x4096x4096 .bf16) : FVec F S16640x4096 .f32 :=
  Host.dotGeneral dot_S16640x4096_S4096x4096_S16640x4096_1_0_0_1_n_n none x
    (extf .f32 (shapeCast S4096x4096 (extractStridedSlice S1x4096x4096 ![0, 0, 0] w slices_S4x4096x4096_S1x4096x4096_0_0_0) shapeCasts_S1x4096x4096_S4096x4096) bitsLt_bf16_f32)

/-- The latent rows: the residual stream and the latent gate times the product. -/
def latent (y : FVec F S16640x4096 .f32) (x : FVec F S16640x4096 .f32) (g : FVec F S4x9x8x4096 .f32) : FVec F S16384x4096 .f32 :=
  addf (extractStridedSlice S16384x4096 ![0, 0] x slices_S16640x4096_S16384x4096_0_0)
    (mulf (broadcastInDim S16384x4096 ![0, 1] bcast_S1x4096_S16384x4096_0_1 (broadcastInDim S1x4096 ![1] bcast_S4096_S1x4096_1
      (shapeCast S4096 (extractStridedSlice S1x1x1x4096 ![0, 5, 0, 0] g slices_S4x9x8x4096_S1x1x1x4096_0_5_0_0) shapeCasts_S1x1x1x4096_S4096)))
      (extractStridedSlice S16384x4096 ![0, 0] y slices_S16640x4096_S16384x4096_0_0))

/-- The context rows: the residual stream and the context gate times the product. -/
def context (y : FVec F S16640x4096 .f32) (x : FVec F S16640x4096 .f32) (g : FVec F S4x9x8x4096 .f32) : FVec F S256x4096 .f32 :=
  addf (extractStridedSlice S256x4096 ![16384, 0] x slices_S16640x4096_S256x4096_16384_0)
    (mulf (broadcastInDim S256x4096 ![0, 1] bcast_S1x4096_S256x4096_0_1 (broadcastInDim S1x4096 ![1] bcast_S4096_S1x4096_1
      (shapeCast S4096 (extractStridedSlice S1x1x1x4096 ![0, 5, 1, 0] g slices_S4x9x8x4096_S1x1x1x4096_0_5_1_0) shapeCasts_S1x1x1x4096_S4096)))
      (extractStridedSlice S256x4096 ![16384, 0] y slices_S16640x4096_S256x4096_16384_0))

/-- The reference's result: the latent rows over the context rows. -/
def result (y : FVec F S16640x4096 .f32) (x : FVec F S16640x4096 .f32) (g : FVec F S4x9x8x4096 .f32) : FVec F S16640x4096 .f32 :=
  concatenate S16640x4096 0 [⟨S16384x4096, latent y x g⟩, ⟨S256x4096, context y x g⟩] concatenates_S16384x4096_S256x4096_S16640x4096_d0

/-- A product's entry. -/
theorem prod_apply (x : FVec Ideal S16640x4096 .f32) (w : FVec Ideal S4x4096x4096 .bf16) (i : Fin 16640) (j : Fin 4096) :
    prod x w (ix2 i j) = ∑ k : Fin 4096, x (ix2 i k) * w (ix3 0 k j) := by
  pointwise [prod]

/-- The first columns of the joined rows. -/
theorem joined_a (a : FVec Ideal S16640x2048 .bf16) (b c : FVec Ideal S16640x1024 .bf16) (i : Fin 16640) (k : Fin 2048) :
    joined a b c (ix2 i ⟨k.val, by omega⟩) = a (ix2 i k) := by
  pointwise [joined]

/-- The middle columns of the joined rows. -/
theorem joined_b (a : FVec Ideal S16640x2048 .bf16) (b c : FVec Ideal S16640x1024 .bf16) (i : Fin 16640) (k : Fin 1024) :
    joined a b c (ix2 i ⟨2048 + k.val, by omega⟩) = b (ix2 i k) := by
  pointwise [joined]

/-- The last columns of the joined rows. -/
theorem joined_c (a : FVec Ideal S16640x2048 .bf16) (b c : FVec Ideal S16640x1024 .bf16) (i : Fin 16640) (k : Fin 1024) :
    joined a b c (ix2 i ⟨3072 + k.val, by omega⟩) = c (ix2 i k) := by
  pointwise [joined]
  rw [dif_neg (by omega), dif_neg (by omega)]
  exact congrArg (fun k => c (ix2 i k)) (Fin.ext (by show 3072 + k.val - 2048 - 1024 = k.val; omega))

/-- A sum over the joined columns, one part of the columns at a time. -/
theorem sum_parts (f : Fin 4096 → EReal) :
    ∑ k : Fin 4096, f k = (∑ k : Fin 2048, f ⟨k.val, by omega⟩) + (∑ k : Fin 1024, f ⟨2048 + k.val, by omega⟩) + ∑ k : Fin 1024, f ⟨3072 + k.val, by omega⟩ :=
  (Fin.sum_univ_add (a := 3072) (b := 1024) f).trans (congrArg₂ HAdd.hAdd (Fin.sum_univ_add (a := 2048) (b := 1024) fun k => f ⟨k.val, by omega⟩) rfl)

/-- An entry of the product of the joined rows. -/
theorem prod_joined_apply (a : FVec Ideal S16640x2048 .bf16) (b c : FVec Ideal S16640x1024 .bf16) (w : FVec Ideal S4x4096x4096 .bf16) (i : Fin 16640) (j : Fin 4096) :
    prod (joined a b c) w (ix2 i j) = (∑ k : Fin 2048, a (ix2 i k) * w (ix3 0 ⟨k.val, by omega⟩ j))
      + (∑ k : Fin 1024, b (ix2 i k) * w (ix3 0 ⟨2048 + k.val, by omega⟩ j)) + ∑ k : Fin 1024, c (ix2 i k) * w (ix3 0 ⟨3072 + k.val, by omega⟩ j) := by
  rw [prod_apply, sum_parts]
  simp only [joined_a, joined_b, joined_c]

/-- An entry of the latent rows. -/
theorem latent_apply (y : FVec Ideal S16640x4096 .f32) (x : FVec Ideal S16640x4096 .f32) (g : FVec Ideal S4x9x8x4096 .f32) (i : Fin 16384) (j : Fin 4096) :
    latent y x g (ix2 i j) = x (ix2 ⟨i.val, by omega⟩ j) + g (ix4 0 5 0 j) * y (ix2 ⟨i.val, by omega⟩ j) := by
  pointwise [latent]

/-- An entry of the context rows. -/
theorem context_apply (y : FVec Ideal S16640x4096 .f32) (x : FVec Ideal S16640x4096 .f32) (g : FVec Ideal S4x9x8x4096 .f32) (i : Fin 256) (j : Fin 4096) :
    context y x g (ix2 i j) = x (ix2 ⟨16384 + i.val, by omega⟩ j) + g (ix4 0 5 1 j) * y (ix2 ⟨16384 + i.val, by omega⟩ j) := by
  pointwise [context]

/-- An entry of the result: the gate's row depends on the token's kind. -/
theorem result_apply (y : FVec Ideal S16640x4096 .f32) (x : FVec Ideal S16640x4096 .f32) (g : FVec Ideal S4x9x8x4096 .f32) (i : Fin 16640) (j : Fin 4096) :
    result y x g (ix2 i j) = x (ix2 i j) + g (ix4 0 5 (if 16384 ≤ i.val then 1 else 0) j) * y (ix2 i j) := by
  have h : result y x g (ix2 i j) = if h : i.val < 16384 then latent y x g (ix2 ⟨i.val, h⟩ j) else context y x g (ix2 ⟨i.val - 16384, by omega⟩ j) := by
    unfold result
    generalize latent y x g = p
    generalize context y x g = q
    pointwise
  rw [h]
  by_cases hi : i.val < 16384
  · rw [dif_pos hi, latent_apply, if_neg (by omega)]
  · have e : (⟨16384 + (i.val - 16384), by omega⟩ : Fin 16640) = i := Fin.ext (by show 16384 + (i.val - 16384) = i.val; omega)
    rw [dif_neg hi, context_apply, if_pos (by omega)]
    simp only [e]

end Cert.ReferenceOutIdeal.Out

namespace Cert.KernelOutIdeal.Out

open Cert.KernelOutIdeal Cert.KernelOutIdeal.Gen Idealize.ShloMosaic Idealize.ShloMosaic.Pointwise Idealize.ShloMosaic.TcCoe Idealize.SL.Sem

variable (m : (ℓ : Loc nD τ sig) → Buf (Elt Ideal) ℓ)

/-- The block's product with a block of the weights, in three parts. -/
def part (x : Vec Ideal S1664x2048 .bf16) (y z : Vec Ideal S1664x1024 .bf16) (w : Vec Ideal S1x2048x512 .bf16) (w' w'' : Vec Ideal S1x1024x512 .bf16)
    (r : Fin 1664) (l : Fin 512) : EReal :=
  (∑ k : Fin 2048, x (ix2 r k) * w (ix3 0 k l)) + (∑ k : Fin 1024, y (ix2 r k) * w' (ix3 0 k l)) + ∑ k : Fin 1024, z (ix2 r k) * w'' (ix3 0 k l)

/-- An entry of the body's product. -/
theorem pay2_apply (x : Vec Ideal S1664x2048 .bf16) (y z : Vec Ideal S1664x1024 .bf16) (w : Vec Ideal S1x2048x512 .bf16) (w' w'' : Vec Ideal S1x1024x512 .bf16)
    (r : Fin 1664) (l : Fin 512) :
    k0_pay2 (F := Ideal) x w y w' z w'' (ix2 r l) = part x y z w w' w'' r l := by
  pointwise [k0_pay2, part]

/-- An entry of the block that the body stores. -/
theorem pay1_apply (i : grid0.Coords) (p : FVec Ideal S1664x512 .f32) (s : Vec Ideal S1664x512 .f32)
    (u v : Vec Ideal S1x1x1x512 .f32) (r : Fin 1664) (l : Fin 512) (hi : (i 0).val < 10) :
    k0_pay1 (F := Ideal) p s (k0_pay3 (F := Ideal) v) (k0_pay4 i) (k0_pay5 (F := Ideal) u) (ix2 r l) = s (ix2 r l)
      + (if 16384 ≤ 1664 * (i 0).val + r.val then u (ix4 0 0 0 l) else v (ix4 0 0 0 l)) * p (ix2 r l) := by
  rw [← Tokens.choose 1664 (i 0).val r.val (by omega)]
  pointwise [k0_pay1, k0_pay3, k0_pay4, k0_pay5]

/-- The body's block is what it stores, the two gates read from the block of modulations. -/
theorem out_eq (i : grid0.Coords) (x : Vec Ideal S1664x2048 .bf16) (y z : Vec Ideal S1664x1024 .bf16) (w : Vec Ideal S1x2048x512 .bf16)
    (w' w'' : Vec Ideal S1x1024x512 .bf16) (s : Vec Ideal S1664x512 .f32) (g : Vec Ideal S1x1x8x512 .f32) :
    out0_8 (F := Ideal) i x y z w w' w'' s g
      = k0_pay1 (F := Ideal) (k0_pay2 (F := Ideal) x w y w' z w'') s (k0_pay3 (F := Ideal) (View.ld g r0_6)) (k0_pay4 i) (k0_pay5 (F := Ideal) (View.ld g r0_5)) := by
  unfold out0_8
  rw [View.canon_unit_zero (by decide) _ _, View.ld_unit_zero (by decide), View.ld_unit_zero (by decide), View.ld_unit_zero (by decide),
    View.ld_unit_zero (by decide), View.ld_unit_zero (by decide), View.ld_unit_zero (by decide), View.ld_unit_zero (by decide)]

/-- The context's gate is the modulations' second row. -/
theorem gate1 (g : Vec Ideal S1x1x8x512 .f32) (l : Fin 512) : View.ld g r0_5 (ix4 0 0 0 l : S1x1x1x512.Idx) = g (ix4 0 0 1 l) := by
  rw [View.ld_unit]
  pointwise

/-- The latent tokens' gate is the modulations' first row. -/
theorem gate0 (g : Vec Ideal S1x1x8x512 .f32) (l : Fin 512) : View.ld g r0_6 (ix4 0 0 0 l : S1x1x1x512.Idx) = g (ix4 0 0 0 l) := by
  rw [View.ld_unit]
  pointwise

/-- A point's blocks give the block of the reference's result. -/
theorem tile (a0 : FVec Ideal S16640x2048 .bf16) (a1 a2 : FVec Ideal S16640x1024 .bf16) (a3 : FVec Ideal S4x4096x4096 .bf16) (a4 : FVec Ideal S16640x4096 .f32)
    (a5 : FVec Ideal S4x9x8x4096 .f32) (c : grid0.Coords)
    (x : Vec Ideal S1664x2048 .bf16) (y z : Vec Ideal S1664x1024 .bf16) (w : Vec Ideal S1x2048x512 .bf16)
    (w' w'' : Vec Ideal S1x1024x512 .bf16) (s : Vec Ideal S1664x512 .f32) (g : Vec Ideal S1x1x8x512 .f32)
    (r : Fin 1664) (l : Fin 512) (i : Fin 16640) (j : Fin 4096) (hc : (c 0).val < 10) (hi : i.val = 1664 * (c 0).val + r.val)
    (hx : ∀ k : Fin 2048, x (ix2 r k) = a0 (ix2 i k)) (hy : ∀ k : Fin 1024, y (ix2 r k) = a1 (ix2 i k)) (hz : ∀ k : Fin 1024, z (ix2 r k) = a2 (ix2 i k))
    (hw : ∀ k : Fin 2048, w (ix3 0 k l) = a3 (ix3 0 ⟨k.val, by omega⟩ j)) (hw' : ∀ k : Fin 1024, w' (ix3 0 k l) = a3 (ix3 0 ⟨2048 + k.val, by omega⟩ j))
    (hw'' : ∀ k : Fin 1024, w'' (ix3 0 k l) = a3 (ix3 0 ⟨3072 + k.val, by omega⟩ j))
    (hs : s (ix2 r l) = a4 (ix2 i j)) (hg : ∀ k : Fin 8, g (ix4 0 0 k l) = a5 (ix4 0 5 k j)) :
    k0_pay1 (F := Ideal) (k0_pay2 (F := Ideal) x w y w' z w'') s (k0_pay3 (F := Ideal) (View.ld g r0_6)) (k0_pay4 c) (k0_pay5 (F := Ideal) (View.ld g r0_5)) (ix2 r l)
      = Cert.ReferenceOutIdeal.Out.result (F := Ideal) (Cert.ReferenceOutIdeal.Out.prod (Cert.ReferenceOutIdeal.Out.joined a0 a1 a2) a3) a4 a5 (ix2 i j) := by
  rw [pay1_apply _ _ _ _ _ _ _ hc, gate0, gate1, Cert.ReferenceOutIdeal.Out.result_apply, Cert.ReferenceOutIdeal.Out.prod_joined_apply, pay2_apply, hs, hg, hg, ← hi]
  unfold part
  simp only [hx, hy, hz, hw, hw', hw'']
  by_cases h : 16384 ≤ i.val
  · rw [if_pos h, if_pos h]
  · rw [if_neg h, if_neg h]

/-- Which block each window holds at a point. -/
theorem idx0 : ∀ t : Fin cfg0.N, (cfg0.win 0).index t 0 = t.val / 8 ∧ (cfg0.win 0).index t 1 = 0 := by decide +kernel
theorem idx1 : ∀ t : Fin cfg0.N, (cfg0.win 1).index t 0 = t.val / 8 ∧ (cfg0.win 1).index t 1 = 0 := by decide +kernel
theorem idx2 : ∀ t : Fin cfg0.N, (cfg0.win 2).index t 0 = t.val / 8 ∧ (cfg0.win 2).index t 1 = 0 := by decide +kernel
theorem idx3 : ∀ t : Fin cfg0.N, (cfg0.win 3).index t 0 = 0 ∧ (cfg0.win 3).index t 1 = 0 ∧ (cfg0.win 3).index t 2 = t.val % 8 := by decide +kernel
theorem idx4 : ∀ t : Fin cfg0.N, (cfg0.win 4).index t 0 = 0 ∧ (cfg0.win 4).index t 1 = 2 ∧ (cfg0.win 4).index t 2 = t.val % 8 := by decide +kernel
theorem idx5 : ∀ t : Fin cfg0.N, (cfg0.win 5).index t 0 = 0 ∧ (cfg0.win 5).index t 1 = 3 ∧ (cfg0.win 5).index t 2 = t.val % 8 := by decide +kernel
theorem idx6 : ∀ t : Fin cfg0.N, (cfg0.win 6).index t 0 = t.val / 8 ∧ (cfg0.win 6).index t 1 = t.val % 8 := by decide +kernel
theorem idx7 : ∀ t : Fin cfg0.N, (cfg0.win 7).index t 0 = 0 ∧ (cfg0.win 7).index t 1 = 5 ∧ (cfg0.win 7).index t 2 = 0 ∧ (cfg0.win 7).index t 3 = t.val % 8 := by decide +kernel
theorem idx8 : ∀ t : Fin cfg0.N, (cfg0.win 8).index t 0 = t.val / 8 ∧ (cfg0.win 8).index t 1 = t.val % 8 := by decide +kernel
theorem row : ∀ t : Fin cfg0.N, (grid0.coords t 0).val = t.val / 8 := by decide +kernel

/-- The block of the first attention's results. -/
theorem read0 (c : Dev nD) (t : Fin cfg0.N) (i : Fin 1664) (j : Fin 2048) (i' : Fin 16640) (hi : i'.val = 1664 * (t.val / 8) + i.val) :
    (Gen.iblk m c 0 t : Vec Ideal S1664x2048 .bf16) (ix2 i j) = (m ((c.tc : Thread nD τ).loc main_arg0) : FVec Ideal S16640x2048 .bf16) (ix2 i' j) := by
  have e := idx0 t
  show V m c main_arg0 (((cfg0.win 0).blk t).view.emb (ix2 i j)) = _
  rw [V_main_arg0]
  blk_ext [e]

/-- The block of the second attention's results. -/
theorem read1 (c : Dev nD) (t : Fin cfg0.N) (i : Fin 1664) (j : Fin 1024) (i' : Fin 16640) (hi : i'.val = 1664 * (t.val / 8) + i.val) :
    (Gen.iblk m c 1 t : Vec Ideal S1664x1024 .bf16) (ix2 i j) = (m ((c.tc : Thread nD τ).loc main_arg1) : FVec Ideal S16640x1024 .bf16) (ix2 i' j) := by
  have e := idx1 t
  show V m c main_arg1 (((cfg0.win 1).blk t).view.emb (ix2 i j)) = _
  rw [V_main_arg1]
  blk_ext [e]

/-- The block of the third attention's results. -/
theorem read2 (c : Dev nD) (t : Fin cfg0.N) (i : Fin 1664) (j : Fin 1024) (i' : Fin 16640) (hi : i'.val = 1664 * (t.val / 8) + i.val) :
    (Gen.iblk m c 2 t : Vec Ideal S1664x1024 .bf16) (ix2 i j) = (m ((c.tc : Thread nD τ).loc main_arg2) : FVec Ideal S16640x1024 .bf16) (ix2 i' j) := by
  have e := idx2 t
  show V m c main_arg2 (((cfg0.win 2).blk t).view.emb (ix2 i j)) = _
  rw [V_main_arg2]
  blk_ext [e]

/-- The block of the weights of the first part. -/
theorem read3 (c : Dev nD) (t : Fin cfg0.N) (i : Fin 2048) (j : Fin 512) (k : Fin 4096) (hk : k.val = 512 * (t.val % 8) + j.val) :
    (Gen.iblk m c 3 t : Vec Ideal S1x2048x512 .bf16) (ix3 0 i j) = (m ((c.tc : Thread nD τ).loc main_arg3) : FVec Ideal S4x4096x4096 .bf16) (ix3 0 ⟨i.val, by omega⟩ k) := by
  have e := idx3 t
  show V m c main_arg3 (((cfg0.win 3).blk t).view.emb (ix3 0 i j)) = _
  rw [V_main_arg3]
  blk_ext [e]

/-- The block of the weights of the middle part. -/
theorem read4 (c : Dev nD) (t : Fin cfg0.N) (i : Fin 1024) (j : Fin 512) (k : Fin 4096) (hk : k.val = 512 * (t.val % 8) + j.val) :
    (Gen.iblk m c 4 t : Vec Ideal S1x1024x512 .bf16) (ix3 0 i j) = (m ((c.tc : Thread nD τ).loc main_arg3) : FVec Ideal S4x4096x4096 .bf16) (ix3 0 ⟨2048 + i.val, by omega⟩ k) := by
  have e := idx4 t
  show V m c main_arg3 (((cfg0.win 4).blk t).view.emb (ix3 0 i j)) = _
  rw [V_main_arg3]
  blk_ext [e]

/-- The block of the weights of the last part. -/
theorem read5 (c : Dev nD) (t : Fin cfg0.N) (i : Fin 1024) (j : Fin 512) (k : Fin 4096) (hk : k.val = 512 * (t.val % 8) + j.val) :
    (Gen.iblk m c 5 t : Vec Ideal S1x1024x512 .bf16) (ix3 0 i j) = (m ((c.tc : Thread nD τ).loc main_arg3) : FVec Ideal S4x4096x4096 .bf16) (ix3 0 ⟨3072 + i.val, by omega⟩ k) := by
  have e := idx5 t
  show V m c main_arg3 (((cfg0.win 5).blk t).view.emb (ix3 0 i j)) = _
  rw [V_main_arg3]
  blk_ext [e]

/-- The block of the residual stream. -/
theorem read6 (c : Dev nD) (t : Fin cfg0.N) (i : Fin 1664) (j : Fin 512) (i' : Fin 16640) (j' : Fin 4096)
    (hi : i'.val = 1664 * (t.val / 8) + i.val) (hj : j'.val = 512 * (t.val % 8) + j.val) :
    (Gen.iblk m c 6 t : Vec Ideal S1664x512 .f32) (ix2 i j) = (m ((c.tc : Thread nD τ).loc main_arg4) : FVec Ideal S16640x4096 .f32) (ix2 i' j') := by
  have e := idx6 t
  show V m c main_arg4 (((cfg0.win 6).blk t).view.emb (ix2 i j)) = _
  rw [V_main_arg4]
  blk_ext [e]

/-- The block of the modulations. -/
theorem read7 (c : Dev nD) (t : Fin cfg0.N) (i : Fin 8) (j : Fin 512) (k : Fin 4096) (hk : k.val = 512 * (t.val % 8) + j.val) :
    (Gen.iblk m c 7 t : Vec Ideal S1x1x8x512 .f32) (ix4 0 0 i j) = (m ((c.tc : Thread nD τ).loc main_arg5) : FVec Ideal S4x9x8x4096 .f32) (ix4 0 5 i k) := by
  have e := idx7 t
  show V m c main_arg5 (((cfg0.win 7).blk t).view.emb (ix4 0 0 i j)) = _
  rw [V_main_arg5]
  blk_ext [e]

/-- The kernel's output array is the reference's result. -/
theorem arr_eq (c : Dev nD) :
    (Gen.dats m 0 c).arrAt 8 cfg0.N
      = Cert.ReferenceOutIdeal.Out.result (F := Ideal)
          (Cert.ReferenceOutIdeal.Out.prod
            (Cert.ReferenceOutIdeal.Out.joined (m ((c.tc : Thread nD τ).loc main_arg0)) (m ((c.tc : Thread nD τ).loc main_arg1)) (m ((c.tc : Thread nD τ).loc main_arg2)))
            (m ((c.tc : Thread nD τ).loc main_arg3)))
          (m ((c.tc : Thread nD τ).loc main_arg4)) (m ((c.tc : Thread nD τ).loc main_arg5)) := by
  refine (Gen.dats m 0 c).arrAt_eq_of_covers 8 _ (by decide +kernel) fun t hf y => ?_
  blk_simp
  have ht : t.val < 80 := t.isLt
  have e := idx8 t
  obtain ⟨r, l, rfl⟩ : ∃ (r : Fin 1664) (l : Fin 512), y = (ix2 r l : S1664x512.Idx) :=
    ⟨y 0, y 1, by funext a; match a with | 0 => rfl | 1 => rfl⟩
  have hy : (win0_8.blk t).view.emb (ix2 r l : S1664x512.Idx)
      = (ix2 ⟨1664 * (t.val / 8) + r.val, by omega⟩ ⟨512 * (t.val % 8) + l.val, by omega⟩ : S16640x4096.Idx) := by
    blk_ext [e]
  rw [hy, after0_8, out_eq]
  exact tile _ _ _ _ _ _ _ _ _ _ _ _ _ _ _ r l _ _ (by rw [row]; omega) (by rw [row]) (fun k => read0 m c t r k _ rfl) (fun k => read1 m c t r k _ rfl)
    (fun k => read2 m c t r k _ rfl) (fun k => read3 m c t k l _ rfl) (fun k => read4 m c t k l _ rfl) (fun k => read5 m c t k l _ rfl)
    (read6 m c t r l _ _ rfl rfl) (fun k => read7 m c t k l _ rfl)

end Cert.KernelOutIdeal.Out

end
-- ==== Proof.Norm.lean ====
module

public import proofs.«01_k».proof.Proof.Gen.KernelNormIdeal.Value
public import proofs.«01_k».proof.Proof.Gen.ReferenceNormIdeal.Run
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Pipeline.CanonAppend
public import Idealize.ShloMosaic.Lib.Claim

/-! The final norm: every block of the kernel's output holds the reference's result. -/

@[expose] public section

set_option maxRecDepth 16384

noncomputable section

namespace Cert.ReferenceNormIdeal.Norm

open Cert.ReferenceNormIdeal Cert.ReferenceNormIdeal.Gen Cert.ReferenceNormIdeal.Value Idealize.ShloMosaic Idealize.ShloMosaic.Pointwise Idealize.ShloMosaic.TcCoe Idealize.SL.Sem Idealize.ShloMosaic.StableHlo

variable {F : FTy → Type} [FloatOps F]

/-- The sums of the squares of the latent rows. -/
def squares (x : FVec F S16384x4096 .f32) : FVec F S16384 .f32 :=
  Host.reduceAdd (mulf x x) (constant S_ .f32 0x00000000#32) reducesTo_S16384x4096_S16384_d1 h_S_

/-- The rows' scales, from the sums of their squares. -/
def scales (q : FVec F S16384 .f32) : FVec F S16384x1 .f32 :=
  Host.rsqrt (addf (Host.divf (broadcastInDim S16384x1 ![0] bcast_S16384_S16384x1_0 q) (broadcastInDim S16384x1 ![] bcast_S_S16384x1 (constant S_ .f32 0x45800000#32)))
    (broadcastInDim S16384x1 ![] bcast_S_S16384x1 (constant S_ .f32 0x358637BD#32)))

/-- The latent rows times their scales and the weights of the columns. -/
def scaled (x : FVec F S16384x4096 .f32) (s : FVec F S16384x1 .f32) (g : FVec F S4096 .f32) : FVec F S16384x4096 .f32 :=
  mulf (mulf x (broadcastInDim S16384x4096 ![0, 1] bcast_S16384x1_S16384x4096_0_1 s))
    (broadcastInDim S16384x4096 ![0, 1] bcast_S1x4096_S16384x4096_0_1 (broadcastInDim S1x4096 ![1] bcast_S4096_S1x4096_1 g))

/-- The latent rows. -/
def latent (x : FVec F S16640x4096 .f32) : FVec F S16384x4096 .f32 :=
  extractStridedSlice S16384x4096 ![0, 0] x slices_S16640x4096_S16384x4096_0_0

/-- The reference's result. -/
def result (x : FVec F S16640x4096 .f32) (g : FVec F S4096 .f32) : FVec F S16384x4096 .f32 :=
  scaled (latent x) (scales (squares (latent x))) g

/-- A row's sum of squares. -/
theorem squares_apply (x : FVec Ideal S16384x4096 .f32) (i : Fin 16384) :
    squares x (ix1 i) = ∑ k : Fin 4096, x (ix2 i k) * x (ix2 i k) := by
  pointwise [squares]

/-- A row's scale. -/
theorem scales_apply (q : FVec Ideal S16384 .f32) (i : Fin 16384) :
    scales q (ix2 i 0) = Ideal.rsqrt (Ideal.div (q (ix1 i)) (Ideal.ofBits .f32 0x45800000#32) + Ideal.ofBits .f32 0x358637BD#32) := by
  pointwise [scales]

/-- An entry of the scaled rows. -/
theorem scaled_apply (x : FVec Ideal S16384x4096 .f32) (s : FVec Ideal S16384x1 .f32) (g : FVec Ideal S4096 .f32) (i : Fin 16384) (j : Fin 4096) :
    scaled x s g (ix2 i j) = x (ix2 i j) * s (ix2 i 0) * g (ix1 j) := by
  pointwise [scaled]

/-- An entry of the latent rows. -/
theorem latent_apply (x : FVec Ideal S16640x4096 .f32) (i : Fin 16384) (j : Fin 4096) : latent x (ix2 i j) = x (ix2 ⟨i.val, by omega⟩ j) := by
  pointwise [latent]

/-- An entry of the normed row `row`: the entry `a` times the row's scale times the weight `b`. -/
def entry (row : Fin 4096 → EReal) (a b : EReal) : EReal :=
  a * Ideal.rsqrt (Ideal.div (∑ k : Fin 4096, row k * row k) (Ideal.ofBits .f32 0x45800000#32) + Ideal.ofBits .f32 0x358637BD#32) * b

/-- An entry of the result. -/
theorem result_apply (x : FVec Ideal S16640x4096 .f32) (g : FVec Ideal S4096 .f32) (i : Fin 16384) (j : Fin 4096) :
    result x g (ix2 i j) = entry (fun k => x (ix2 ⟨i.val, by omega⟩ k)) (x (ix2 ⟨i.val, by omega⟩ j)) (g (ix1 j)) := by
  unfold result entry
  rw [scaled_apply, scales_apply, squares_apply]
  simp only [latent_apply]

end Cert.ReferenceNormIdeal.Norm

namespace Cert.KernelNormIdeal.Norm

open Cert.KernelNormIdeal Cert.KernelNormIdeal.Gen Idealize.ShloMosaic Idealize.ShloMosaic.Pointwise Idealize.ShloMosaic.TcCoe Idealize.SL.Sem

variable (m : (ℓ : Loc nD τ sig) → Buf (Elt Ideal) ℓ)

/-- An entry of the rows that a step of the body stores. -/
theorem pay1_apply (g : Vec Ideal S1x4096 .f32) (u v : Vec Ideal S16x4096 .f32) (r : Fin 16) (l : Fin 4096) :
    k0_pay1 (F := Ideal) g u v (ix2 r l) = Cert.ReferenceNormIdeal.Norm.entry (fun k => u (ix2 r k)) (v (ix2 r l)) (g (ix2 0 l)) := by
  pointwise [k0_pay1, Cert.ReferenceNormIdeal.Norm.entry]

/-- The block of normed rows. -/
def normed (x : Vec Ideal S256x4096 .f32) (g : Vec Ideal S1x4096 .f32) : Vec Ideal S256x4096 .f32 := fun y =>
  Cert.ReferenceNormIdeal.Norm.entry (fun k => x (ix2 (y 0) k)) (x y) (g (ix2 0 (y 1)))

/-- A step's rows start at the first column. -/
theorem off_col (k : Fin k0_t1_loop.trips) : k0_off1 k 1 = 0 := rfl

/-- What a step stores is a part of the block of normed rows. -/
theorem step_eq (off : Fin 2 → ℕ) (inb : ∀ a, off a + S16x4096.size a ≤ S256x4096.size a) (h : off 1 = 0) (x : Vec Ideal S256x4096 .f32) (g : Vec Ideal S1x4096 .f32)
    (z : S16x4096.Idx) :
    k0_pay1 (F := Ideal) g (View.ld x (Rect.unit (s := S256x4096) off S16x4096.size inb)) (View.ld x (Rect.unit (s := S256x4096) off S16x4096.size inb)) z
      = normed x g ((Rect.unit (s := S256x4096) off S16x4096.size inb).emb z) := by
  obtain ⟨r, l, rfl⟩ : ∃ (r : Fin 16) (l : Fin 4096), z = (ix2 r l : S16x4096.Idx) :=
    ⟨z 0, z 1, by funext a; match a with | 0 => rfl | 1 => rfl⟩
  rw [pay1_apply]
  have hr : off 0 + r.val < 256 := by
    have := inb 0
    simp only [Shape.size] at this
    have h0 : off 0 + 16 ≤ 256 := this
    omega
  have e : ∀ k : Fin 4096, (Rect.unit (s := S256x4096) off S16x4096.size inb).emb (ix2 r k : S16x4096.Idx) = (ix2 ⟨off 0 + r.val, hr⟩ k : S256x4096.Idx) := by
    intro k
    funext a
    refine Fin.ext ((Rect.idx_unit_val (s := S256x4096) off S16x4096.size inb (ix2 r k : S16x4096.Idx) a).trans ?_)
    match a with
    | 0 => rfl
    | 1 => exact (congrArg (· + k.val) h).trans (Nat.zero_add _)
  unfold normed
  rw [e]
  exact congrArg₂ (fun f b => Cert.ReferenceNormIdeal.Norm.entry f b (g (ix2 0 l))) (funext fun k => congrArg x (e k)) (congrArg x (e l))

/-- What one step stores. -/
theorem trip_eq (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (g : Vec Ideal S1x4096 .f32) (x : Vec Ideal S256x4096 .f32) (k : Fin k0_t1_loop.trips) :
    tripL_k0_t1 (F := Ideal) 𝒱 c bd i arg1 harg1 arg2 harg2 arg3 harg3 g (harg1.unread x) k
      = [⟨Rect.unit (s := S256x4096) (k0_off1 k) S16x4096.size (k0_off1_inb k),
          k0_pay1 (F := Ideal) g (View.ld x (Rect.unit (s := S256x4096) (k0_off1 k) S16x4096.size (k0_off1_inb k))) (View.ld x (Rect.unit (s := S256x4096) (k0_off1 k) S16x4096.size (k0_off1_inb k)))⟩] := by
  unfold tripL_k0_t1 trip_k0_t1
  dsimp only
  rw [View.readAt_eq_ld, harg1.read_unread]

/-- What the steps before the `n`-th store are parts of the block of normed rows. -/
theorem pieces (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (g : Vec Ideal S1x4096 .f32) (x : Vec Ideal S256x4096 .f32) :
    ∀ n : ℕ, ∀ p ∈ pb_k0_t1 (F := Ideal) 𝒱 c bd i arg1 harg1 arg2 harg2 arg3 harg3 g (harg1.unread x) n, ∀ z : p.1.shape.Idx, p.2 z = normed x g (p.1.emb z)
  | 0, p, hp => by simp [pb_k0_t1] at hp
  | n + 1, p, hp => by
    by_cases h : n < k0_t1_loop.trips
    · have e := pb_k0_t1_succ (F := Ideal) 𝒱 c bd i arg1 harg1 arg2 harg2 arg3 harg3 g (harg1.unread x) ⟨n, h⟩
      rw [trip_eq] at e
      rw [e] at hp
      rcases List.mem_cons.mp hp with rfl | hp
      · exact step_eq _ _ (off_col _) x g
      · exact pieces 𝒱 c bd i arg1 harg1 arg2 harg2 arg3 harg3 g x n p hp
    · have e : pb_k0_t1 (F := Ideal) 𝒱 c bd i arg1 harg1 arg2 harg2 arg3 harg3 g (harg1.unread x) (n + 1) = pb_k0_t1 (F := Ideal) 𝒱 c bd i arg1 harg1 arg2 harg2 arg3 harg3 g (harg1.unread x) n := by
        rw [pb_k0_t1.eq_2]
        unfold pb_k0_t1Step
        exact dif_neg h
      rw [e] at hp
      exact pieces 𝒱 c bd i arg1 harg1 arg2 harg2 arg3 harg3 g x n p hp

/-- The body leaves the block of normed rows. -/
theorem out_eq (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole)
    (x : Vec Ideal S256x4096 .f32) (g : Vec Ideal S1x4096 .f32) :
    out0_A_2 (F := Ideal) c i arg1 harg1 arg2 harg2 arg3 harg3 x g = normed x g := by
  have hc := cover0_A_2 (F := Ideal) c i arg1 harg1 arg2 harg2 arg3 harg3 x g
  unfold out0_A_2
  rw [View.read_writes_junk_eq_canon]
  funext y
  refine View.canon_apply_of_pieces (normed x g) _ ?_ y (hc y)
  have hg : View.readAt (Elt Ideal) arg2.view (Rect.unit (s := S1x4096) ![0, 0] S1x4096.size inb_S1x4096_S1x4096_0_0).toLoadRect (harg2.unread g) = g := by
    rw [View.readAt_eq_ld, harg2.read_unread, View.ld_unit_zero (by decide)]
  have hp := pieces Variants.none c none i arg1 harg1 arg2 harg2 arg3 harg3 g x (Scf.trips (0#32) (Scalar.addi 0#32 16#32) 1#32)
  unfold kernelRun0_A
  dsimp only
  rw [hg]
  exact hp

/-- Which block each window holds at a point. -/
theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = t.val ∧ (cfg0.win 2).index t 1 = 0 := by decide +kernel

/-- The block of rows. -/
theorem read0 (c : Dev nD) (t : Fin cfg0.N) (i : Fin 256) (j : Fin 4096) (i' : Fin 16640) (hi : i'.val = 256 * t.val + i.val) :
    (Gen.iblk m c 0 t : Vec Ideal S256x4096 .f32) (ix2 i j) = (m ((c.tc : Thread nD τ).loc main_arg0) : FVec Ideal S16640x4096 .f32) (ix2 i' j) := by
  have e := idx0 t
  show V m c main_arg0 (((cfg0.win 0).blk t).view.emb (ix2 i j)) = _
  rw [V_main_arg0]
  blk_ext [e]

/-- The weights of the columns. -/
theorem read1 (c : Dev nD) (t : Fin cfg0.N) (j : Fin 4096) :
    (Gen.iblk m c 1 t : Vec Ideal S1x4096 .f32) (ix2 0 j) = (m ((c.tc : Thread nD τ).loc main_arg1) : FVec Ideal S4096 .f32) (ix1 j) := by
  have e := idx1 t
  have h : ((cfg0.win 1).blk t).view.emb (ix2 0 j) = (ix2 0 j : S1x4096.Idx) := by blk_ext [e]
  show V m c main_v0 (((cfg0.win 1).blk t).view.emb (ix2 0 j)) = _
  rw [h]
  entry_read
  pointwise

/-- The block of normed rows is the block of the reference's result. -/
theorem tile (a0 : FVec Ideal S16640x4096 .f32) (a1 : FVec Ideal S4096 .f32) (x : Vec Ideal S256x4096 .f32) (g : Vec Ideal S1x4096 .f32)
    (r : Fin 256) (l : Fin 4096) (i : Fin 16384) (hx : ∀ k : Fin 4096, x (ix2 r k) = a0 (ix2 ⟨i.val, by omega⟩ k)) (hg : g (ix2 0 l) = a1 (ix1 l)) :
    normed x g (ix2 r l) = Cert.ReferenceNormIdeal.Norm.result (F := Ideal) a0 a1 (ix2 i l) := by
  rw [Cert.ReferenceNormIdeal.Norm.result_apply, ← hg, ← hx]
  simp only [← hx]
  rfl

/-- The kernel's output array is the reference's result. -/
theorem arr_eq (c : Dev nD) :
    (Gen.dats m 0 c).arrAt 2 cfg0.N
      = Cert.ReferenceNormIdeal.Norm.result (F := Ideal) (m ((c.tc : Thread nD τ).loc main_arg0)) (m ((c.tc : Thread nD τ).loc main_arg1)) := by
  refine (Gen.dats m 0 c).arrAt_eq_of_covers 2 _ (by decide +kernel) fun t hf y => ?_
  blk_simp
  have ht : t.val < 64 := t.isLt
  have e := idx2 t
  obtain ⟨r, l, rfl⟩ : ∃ (r : Fin 256) (l : Fin 4096), y = (ix2 r l : S256x4096.Idx) :=
    ⟨y 0, y 1, by funext a; match a with | 0 => rfl | 1 => rfl⟩
  have hy : (win0_2.blk t).view.emb (ix2 r l : S256x4096.Idx) = (ix2 ⟨256 * t.val + r.val, by omega⟩ l : S16384x4096.Idx) := by
    blk_ext [e]
  rw [hy, after0_2]
  unfold outsAt0
  rw [out_eq]
  exact tile _ _ _ _ r l _ (fun k => read0 m c t r k _ rfl) (read1 m c t l)

end Cert.KernelNormIdeal.Norm

end
-- ==== Proof.Scale.lean ====
module

public import proofs.«01_k».proof.Proof.Online
public import Idealize.ShloMosaic.Lib.Pointwise

/-! The queries' scale: the product with the inverse roots' product is the two divisions. -/

@[expose] public section

noncomputable section

namespace Cert.Scale

open Idealize.ShloMosaic

/-- Times `1/√128 · 1/log 2` is over `√128` and then over `log 2`, for every extended real. -/
theorem mul_eq_div (x : EReal) :
    x * (((Real.sqrt 128)⁻¹ * (Real.log 2)⁻¹ : ℝ) : EReal)
      = Ideal.div (Ideal.div x (Ideal.sqrt (Ideal.ofBits .f32 0x43000000#32))) (Ideal.log (Ideal.ofBits .f32 0x40000000#32)) := by
  have hs : Real.sqrt 128 ≠ 0 := by positivity
  have hl : Real.log 2 ≠ 0 := (Real.log_pos (by norm_num)).ne'
  rw [Online.sqrt_128, Online.log_2, Ideal.div_coe hs, Ideal.div_coe hl, mul_assoc, ← EReal.coe_mul, one_div, one_div]

end Cert.Scale

end
-- ==== Proof.ProjB.lean ====
module

public import proofs.«01_k».proof.Proof.Gen.KernelProjBIdeal.Value
public import proofs.«01_k».proof.Proof.Gen.ReferenceProjBIdeal.Run
public import proofs.«01_k».proof.Proof.Scale
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim

/-! The projection to the neighbourhood attention's queries, keys and values: every block of the kernel's output
    holds the reference's result. -/

@[expose] public section

set_option maxRecDepth 16384

noncomputable section

namespace Cert.ReferenceProjBIdeal.ProjB

open Cert.ReferenceProjBIdeal Cert.ReferenceProjBIdeal.Gen Cert.ReferenceProjBIdeal.Value Idealize.ShloMosaic Idealize.ShloMosaic.Pointwise Idealize.ShloMosaic.TcCoe Idealize.SL.Sem Idealize.ShloMosaic.StableHlo

variable {F : FTy → Type} [FloatOps F]

/-- The product of the rows with the neighbourhood attention's columns of the first layer's weights. -/
def prod (h : FVec F S16640x4096 .bf16) (w : FVec F S4x4096x8192 .bf16) : FVec F S16640x3072 .f32 :=
  Host.dotGeneral dot_S16640x4096_S4096x3072_S16640x3072_1_0_0_1_n_n none (extf .f32 h bitsLt_bf16_f32)
    (extractStridedSlice S4096x3072 ![0, 3072] (extf .f32 (shapeCast S4096x8192 (extractStridedSlice S1x4096x8192 ![0, 0, 0] w slices_S4x4096x8192_S1x4096x8192_0_0_0) shapeCasts_S1x4096x8192_S4096x8192) bitsLt_bf16_f32) slices_S4096x8192_S4096x3072_0_3072)

/-- The queries: the first third of the columns, over the root of the head's width and over the logarithm of two. -/
def queries (p : FVec F S16640x3072 .f32) : FVec F S16640x1024 .f32 :=
  Host.divf (Host.divf (extractStridedSlice S16640x1024 ![0, 0] p slices_S16640x3072_S16640x1024_0_0)
    (broadcastInDim S16640x1024 ![] bcast_S_S16640x1024 (Host.sqrt (constant S_ .f32 0x43000000#32))))
    (broadcastInDim S16640x1024 ![] bcast_S_S16640x1024 (Host.log (constant S_ .f32 0x40000000#32)))

/-- The keys and values: the other columns. -/
def others (p : FVec F S16640x3072 .f32) : FVec F S16640x2048 .f32 :=
  extractStridedSlice S16640x2048 ![0, 1024] p slices_S16640x3072_S16640x2048_0_1024

/-- The reference's result. -/
def result (p : FVec F S16640x3072 .f32) : FVec F S16640x3072 .bf16 :=
  truncf .bf16 (concatenate S16640x3072 1 [⟨S16640x1024, queries p⟩, ⟨S16640x2048, others p⟩] concatenates_S16640x1024_S16640x2048_S16640x3072_d1) bitsLt_bf16_f32

/-- A product's entry. -/
theorem prod_apply (h : FVec Ideal S16640x4096 .bf16) (w : FVec Ideal S4x4096x8192 .bf16) (i : Fin 16640) (j : Fin 3072) :
    prod h w (ix2 i j) = ∑ x : Fin 4096, h (ix2 i x) * w (ix3 0 x ⟨3072 + j.val, by omega⟩) := by
  pointwise [prod]

/-- An entry of the queries. -/
theorem queries_apply (p : FVec Ideal S16640x3072 .f32) (i : Fin 16640) (j : Fin 1024) :
    queries p (ix2 i j) = p (ix2 i ⟨j.val, by omega⟩) * (((Real.sqrt 128)⁻¹ * (Real.log 2)⁻¹ : ℝ) : EReal) := by
  rw [Cert.Scale.mul_eq_div]
  pointwise [queries]

/-- An entry of the keys and values. -/
theorem others_apply (p : FVec Ideal S16640x3072 .f32) (i : Fin 16640) (j : Fin 2048) :
    others p (ix2 i j) = p (ix2 i ⟨1024 + j.val, by omega⟩) := by
  pointwise [others]

/-- An entry of the result: the first third of the columns carries the queries' scale. -/
theorem result_apply (p : FVec Ideal S16640x3072 .f32) (i : Fin 16640) (j : Fin 3072) :
    result p (ix2 i j) = p (ix2 i j) * (if j.val < 1024 then (((Real.sqrt 128)⁻¹ * (Real.log 2)⁻¹ : ℝ) : EReal) else 1) := by
  have h : result p (ix2 i j) = if h : j.val < 1024 then queries p (ix2 i ⟨j.val, h⟩) else others p (ix2 i ⟨j.val - 1024, by omega⟩) := by
    unfold result
    generalize queries p = u
    generalize others p = v
    pointwise
  rw [h]
  by_cases hj : j.val < 1024
  · rw [dif_pos hj, queries_apply, if_pos hj]
  · have e : (⟨1024 + (j.val - 1024), by omega⟩ : Fin 3072) = j := Fin.ext (by show 1024 + (j.val - 1024) = j.val; omega)
    rw [dif_neg hj, others_apply, if_neg hj, mul_one]
    simp only [e]

end Cert.ReferenceProjBIdeal.ProjB

namespace Cert.KernelProjBIdeal.ProjB

open Cert.KernelProjBIdeal Cert.KernelProjBIdeal.Gen Idealize.ShloMosaic Idealize.ShloMosaic.Pointwise Idealize.ShloMosaic.TcCoe Idealize.SL.Sem

variable (m : (ℓ : Loc nD τ sig) → Buf (Elt Ideal) ℓ)

/-- The block's product with a block of the weights. -/
def part (x : Vec Ideal S1040x4096 .bf16) (w : Vec Ideal S1x4096x1024 .bf16) (r : Fin 1040) (l : Fin 1024) : EReal :=
  ∑ k : Fin 4096, x (ix2 r k) * w (ix3 0 k l)

/-- An entry of the block that the body stores. -/
theorem pay1_apply (i : grid0.Coords) (x : Vec Ideal S1040x4096 .bf16) (w : Vec Ideal S1x4096x1024 .bf16) (r : Fin 1040) (l : Fin 1024) :
    k0_pay1 (F := Ideal) i x w (ix2 r l) = part x w r l
      * Scalar.select (Scalar.cmpi .eq (BitVec.ofNat 32 (i 1).val) 0#32) (((Real.sqrt 128)⁻¹ * (Real.log 2)⁻¹ : ℝ) : EReal) 1 := by
  rw [← IdealRules.named_const.ideal_named_scalar κ "query_scale" (φ := .f32) 0x3E0293EE#32 (((Real.sqrt 128)⁻¹ * (Real.log 2)⁻¹ : ℝ) : EReal) rfl]
  pointwise [k0_pay1, part]

/-- The first block of columns alone is scaled. -/
theorem choose (a : Fin 3) (u v : EReal) :
    Scalar.select (Scalar.cmpi .eq (BitVec.ofNat 32 a.val) 0#32) u v = if a.val = 0 then u else v := by
  match a with
  | 0 => rfl
  | 1 => rfl
  | 2 => rfl

/-- The body's block is what it stores. -/
theorem out_eq (i : grid0.Coords) (x : Vec Ideal S1040x4096 .bf16) (w : Vec Ideal S1x4096x1024 .bf16) : out0_2 (F := Ideal) i x w = k0_pay1 (F := Ideal) i x w := by
  unfold out0_2
  rw [View.canon_unit_zero (by decide) _ _, View.ld_unit_zero (by decide), View.ld_unit_zero (by decide)]

/-- Which block each window holds at a point. -/
theorem idx0 : ∀ t : Fin cfg0.N, (cfg0.win 0).index t 0 = t.val / 3 ∧ (cfg0.win 0).index t 1 = 0 := by decide +kernel
theorem idx1 : ∀ t : Fin cfg0.N, (cfg0.win 1).index t 0 = 0 ∧ (cfg0.win 1).index t 1 = 0 ∧ (cfg0.win 1).index t 2 = 3 + t.val % 3 := by decide +kernel
theorem idx2 : ∀ t : Fin cfg0.N, (cfg0.win 2).index t 0 = t.val / 3 ∧ (cfg0.win 2).index t 1 = t.val % 3 := by decide +kernel
theorem col_eq : ∀ t : Fin cfg0.N, ((grid0.coords t) 1).val = t.val % 3 := by decide +kernel

/-- The block of inputs is a range of rows. -/
theorem read0 (c : Dev nD) (t : Fin cfg0.N) (i : Fin 1040) (j : Fin 4096) (i' : Fin 16640) (hi : i'.val = 1040 * (t.val / 3) + i.val) :
    (Gen.iblk m c 0 t : Vec Ideal S1040x4096 .bf16) (ix2 i j) = (m ((c.tc : Thread nD τ).loc main_arg0) : FVec Ideal S16640x4096 .bf16) (ix2 i' j) := by
  have e := idx0 t
  show V m c main_arg0 (((cfg0.win 0).blk t).view.emb (ix2 i j)) = _
  rw [V_main_arg0]
  blk_ext [e]

/-- The block of weights is a range of columns. -/
theorem read1 (c : Dev nD) (t : Fin cfg0.N) (i : Fin 4096) (j : Fin 1024) (k : Fin 8192) (hk : k.val = 3072 + (1024 * (t.val % 3) + j.val)) :
    (Gen.iblk m c 1 t : Vec Ideal S1x4096x1024 .bf16) (ix3 0 i j) = (m ((c.tc : Thread nD τ).loc main_arg1) : FVec Ideal S4x4096x8192 .bf16) (ix3 0 i k) := by
  have e := idx1 t
  show V m c main_arg1 (((cfg0.win 1).blk t).view.emb (ix3 0 i j)) = _
  rw [V_main_arg1]
  blk_ext [e]

/-- A block of inputs and a block of weights give the block of the reference's result. -/
theorem tile (a0 : FVec Ideal S16640x4096 .bf16) (a1 : FVec Ideal S4x4096x8192 .bf16) (t : grid0.Coords)
    (x : Vec Ideal S1040x4096 .bf16) (w : Vec Ideal S1x4096x1024 .bf16) (r : Fin 1040) (l : Fin 1024) (i : Fin 16640) (j : Fin 3072)
    (hj : j.val = 1024 * (t 1).val + l.val)
    (hx : ∀ k : Fin 4096, x (ix2 r k) = a0 (ix2 i k)) (hw : ∀ k : Fin 4096, w (ix3 0 k l) = a1 (ix3 0 k ⟨3072 + j.val, by omega⟩)) :
    k0_pay1 (F := Ideal) t x w (ix2 r l) = Cert.ReferenceProjBIdeal.ProjB.result (F := Ideal) (Cert.ReferenceProjBIdeal.ProjB.prod a0 a1) (ix2 i j) := by
  rw [pay1_apply, Cert.ReferenceProjBIdeal.ProjB.result_apply, Cert.ReferenceProjBIdeal.ProjB.prod_apply]
  have ha : part x w r l = ∑ k : Fin 4096, a0 (ix2 i k) * a1 (ix3 0 k ⟨3072 + j.val, by omega⟩) :=
    Finset.sum_congr rfl fun k _ => congrArg₂ HMul.hMul (hx k) (hw k)
  rw [ha]
  refine congrArg _ ((choose (t 1) _ _).trans (if_congr ?_ rfl rfl))
  have := l.isLt
  omega

/-- The kernel's output array is the reference's result. -/
theorem arr_eq (c : Dev nD) :
    (Gen.dats m 0 c).arrAt 2 cfg0.N
      = Cert.ReferenceProjBIdeal.ProjB.result (F := Ideal) (Cert.ReferenceProjBIdeal.ProjB.prod (m ((c.tc : Thread nD τ).loc main_arg0)) (m ((c.tc : Thread nD τ).loc main_arg1))) := by
  refine (Gen.dats m 0 c).arrAt_eq_of_covers 2 _ (by decide +kernel) fun t hf y => ?_
  blk_simp
  have ht : t.val < 48 := t.isLt
  have e := idx2 t
  have hc := col_eq t
  obtain ⟨r, l, rfl⟩ : ∃ (r : Fin 1040) (l : Fin 1024), y = (ix2 r l : S1040x1024.Idx) :=
    ⟨y 0, y 1, by funext a; match a with | 0 => rfl | 1 => rfl⟩
  have hy : (win0_2.blk t).view.emb (ix2 r l : S1040x1024.Idx)
      = (ix2 ⟨1040 * (t.val / 3) + r.val, by omega⟩ ⟨1024 * (t.val % 3) + l.val, by omega⟩ : S16640x3072.Idx) := by
    blk_ext [e]
  rw [hy, after0_2, out_eq]
  exact tile _ _ _ _ _ r l _ _ (by rw [hc]) (fun k => read0 m c t r k _ rfl) (fun k => read1 m c t k l _ rfl)

end Cert.KernelProjBIdeal.ProjB

end
-- ==== Proof.Gelu.lean ====
module

public import Idealize.ShloMosaic.PureOps.Ideal

/-! The gelu in its two spellings. -/

@[expose] public section

noncomputable section

namespace Cert.Gelu

open Idealize.ShloMosaic

/-- The gelu's gate, by the hyperbolic tangent. -/
def gate (p : EReal) : EReal :=
  1 + Ideal.tanh (Ideal.ofBits .f32 0x3F4C422A#32 * (p + Ideal.ofBits .f32 0x3D372713#32 * (p * p * p)))

/-- The gelu: half the argument times the gate. -/
def gelu (p : EReal) : EReal := Ideal.ofBits .f32 0x3F000000#32 * p * gate p

/-- The argument times half the gate is the same. -/
theorem gelu_eq (p : EReal) : p * (Ideal.ofBits .f32 0x3F000000#32 * gate p) = gelu p := by
  unfold gelu
  rw [← mul_assoc, mul_comm p]

end Cert.Gelu

end
-- ==== Proof.ProjU.lean ====
module

public import proofs.«01_k».proof.Proof.Gen.KernelProjUIdeal.Value
public import proofs.«01_k».proof.Proof.Gen.ReferenceProjUIdeal.Run
public import proofs.«01_k».proof.Proof.Gelu
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim

/-! The projection to the gating unit's first half, with its gelu: every block of the kernel's output holds the
    reference's result. -/

@[expose] public section

set_option maxRecDepth 16384

noncomputable section

namespace Cert.ReferenceProjUIdeal.ProjU

open Cert.ReferenceProjUIdeal Cert.ReferenceProjUIdeal.Gen Cert.ReferenceProjUIdeal.Value Idealize.ShloMosaic Idealize.ShloMosaic.Pointwise Idealize.ShloMosaic.TcCoe Idealize.SL.Sem Idealize.ShloMosaic.StableHlo

variable {F : FTy → Type} [FloatOps F]

/-- The product of the rows with the gate columns of the first layer's weights. -/
def prod (h : FVec F S16640x4096 .bf16) (w : FVec F S4x4096x8192 .bf16) : FVec F S16640x1024 .f32 :=
  Host.dotGeneral dot_S16640x4096_S4096x1024_S16640x1024_1_0_0_1_n_n none (extf .f32 h bitsLt_bf16_f32)
    (extractStridedSlice S4096x1024 ![0, 6144] (extf .f32 (shapeCast S4096x8192 (extractStridedSlice S1x4096x8192 ![0, 0, 0] w slices_S4x4096x8192_S1x4096x8192_0_0_0) shapeCasts_S1x4096x8192_S4096x8192) bitsLt_bf16_f32) slices_S4096x8192_S4096x1024_0_6144)

/-- The reference's result: the gelu of the product. -/
def result (p : FVec F S16640x1024 .f32) : FVec F S16640x1024 .f32 :=
  mulf p (mulf (broadcastInDim S16640x1024 ![] bcast_S_S16640x1024 (constant S_ .f32 0x3F000000#32))
    (addf (broadcastInDim S16640x1024 ![] bcast_S_S16640x1024 (constant S_ .f32 0x3F800000#32))
      (Host.tanh (mulf (broadcastInDim S16640x1024 ![] bcast_S_S16640x1024 (constant S_ .f32 0x3F4C422A#32))
        (addf p (mulf (broadcastInDim S16640x1024 ![] bcast_S_S16640x1024 (constant S_ .f32 0x3D372713#32)) (mulf (mulf p p) p)))))))

/-- A product's entry. -/
theorem prod_apply (h : FVec Ideal S16640x4096 .bf16) (w : FVec Ideal S4x4096x8192 .bf16) (i : Fin 16640) (j : Fin 1024) :
    prod h w (ix2 i j) = ∑ x : Fin 4096, h (ix2 i x) * w (ix3 0 x ⟨6144 + j.val, by omega⟩) := by
  pointwise [prod]

/-- An entry of the result. -/
theorem result_apply (p : FVec Ideal S16640x1024 .f32) (i : Fin 16640) (j : Fin 1024) : result p (ix2 i j) = Gelu.gelu (p (ix2 i j)) := by
  rw [← Gelu.gelu_eq]
  pointwise [result, Gelu.gate]

end Cert.ReferenceProjUIdeal.ProjU

namespace Cert.KernelProjUIdeal.ProjU

open Cert.KernelProjUIdeal Cert.KernelProjUIdeal.Gen Idealize.ShloMosaic Idealize.ShloMosaic.Pointwise Idealize.ShloMosaic.TcCoe Idealize.SL.Sem

variable (m : (ℓ : Loc nD τ sig) → Buf (Elt Ideal) ℓ)

/-- The block's product with some columns of the weights. -/
def part (x : Vec Ideal S1040x4096 .bf16) (w : Vec Ideal S1x4096x256 .bf16) (r : Fin 1040) (l : Fin 256) : EReal :=
  ∑ k : Fin 4096, x (ix2 r k) * w (ix3 0 k l)

/-- An entry of what a step of the body stores. -/
theorem pay1_apply (x : Vec Ideal S1040x4096 .bf16) (w : Vec Ideal S1x4096x256 .bf16) (r : Fin 1040) (l : Fin 256) :
    k0_pay1 (F := Ideal) x w (ix2 r l) = Gelu.gelu (part x w r l) := by
  pointwise [k0_pay1, part, Gelu.gelu, Gelu.gate]

/-- The block of gelus. -/
def block (x : Vec Ideal S1040x4096 .bf16) (w : Vec Ideal S1x4096x1024 .bf16) : Vec Ideal S1040x1024 .f32 := fun y =>
  Gelu.gelu (∑ k : Fin 4096, x (ix2 (y 0) k) * w (ix3 0 k (y 1)))

/-- What a step stores is a part of the block of gelus. -/
theorem step_eq (o : ℕ) (inbw : ∀ a, (![0, 0, o] : Fin 3 → ℕ) a + S1x4096x256.size a ≤ S1x4096x1024.size a)
    (inb : ∀ a, (![0, o] : Fin 2 → ℕ) a + S1040x256.size a ≤ S1040x1024.size a) (x : Vec Ideal S1040x4096 .bf16) (w : Vec Ideal S1x4096x1024 .bf16) (z : S1040x256.Idx) :
    k0_pay1 (F := Ideal) (View.ld x r0_0) (View.ld w (Rect.unit (s := S1x4096x1024) ![0, 0, o] S1x4096x256.size inbw)) z
      = block x w ((Rect.unit (s := S1040x1024) ![0, o] S1040x256.size inb).emb z) := by
  obtain ⟨r, l, rfl⟩ : ∃ (r : Fin 1040) (l : Fin 256), z = (ix2 r l : S1040x256.Idx) :=
    ⟨z 0, z 1, by funext a; match a with | 0 => rfl | 1 => rfl⟩
  have ho : o + l.val < 1024 := by
    have h1 : o + 256 ≤ 1024 := inb 1
    omega
  have e : (Rect.unit (s := S1040x1024) ![0, o] S1040x256.size inb).emb (ix2 r l : S1040x256.Idx) = (ix2 r ⟨o + l.val, ho⟩ : S1040x1024.Idx) := by
    funext a
    refine Fin.ext ((Rect.idx_unit_val (s := S1040x1024) ![0, o] S1040x256.size inb (ix2 r l : S1040x256.Idx) a).trans ?_)
    match a with
    | 0 => exact Nat.zero_add _
    | 1 => rfl
  have hw : ∀ k : Fin 4096, View.ld w (Rect.unit (s := S1x4096x1024) ![0, 0, o] S1x4096x256.size inbw) (ix3 0 k l : S1x4096x256.Idx) = w (ix3 0 k ⟨o + l.val, ho⟩) := by
    intro k
    refine congrArg w (funext fun a => Fin.ext ((Rect.idx_unit_val (s := S1x4096x1024) ![0, 0, o] S1x4096x256.size inbw (ix3 0 k l : S1x4096x256.Idx) a).trans ?_))
    match a with
    | 0 => rfl
    | 1 => exact Nat.zero_add _
    | 2 => rfl
  rw [View.ld_unit_zero (by decide), pay1_apply, e]
  exact congrArg Gelu.gelu (Finset.sum_congr rfl fun k _ => congrArg (x (ix2 r k) * ·) (hw k))

/-- The body leaves the block of gelus. -/
theorem out_eq (x : Vec Ideal S1040x4096 .bf16) (w : Vec Ideal S1x4096x1024 .bf16) : out0_2 (F := Ideal) x w = block x w := by
  funext y
  refine View.canon_apply_of_pieces (block x w) _ (fun p hp => ?_) y (cover0_2 _ _ _ _ y)
  simp only [List.mem_cons, List.not_mem_nil, or_false] at hp
  rcases hp with rfl | rfl | rfl | rfl
  · exact step_eq 768 (by decide) (by decide) x w
  · exact step_eq 512 (by decide) (by decide) x w
  · exact step_eq 256 (by decide) (by decide) x w
  · exact step_eq 0 (by decide) (by decide) x w

/-- Which block each window holds at a point. -/
theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 ∧ (cfg0.win 1).index t 2 = 6 := by decide +kernel
theorem idx2 : ∀ t : Fin cfg0.N, (cfg0.win 2).index t 0 = t.val ∧ (cfg0.win 2).index t 1 = 0 := by decide +kernel

/-- The block of inputs is a range of rows. -/
theorem read0 (c : Dev nD) (t : Fin cfg0.N) (i : Fin 1040) (j : Fin 4096) (i' : Fin 16640) (hi : i'.val = 1040 * t.val + i.val) :
    (Gen.iblk m c 0 t : Vec Ideal S1040x4096 .bf16) (ix2 i j) = (m ((c.tc : Thread nD τ).loc main_arg0) : FVec Ideal S16640x4096 .bf16) (ix2 i' j) := by
  have e := idx0 t
  show V m c main_arg0 (((cfg0.win 0).blk t).view.emb (ix2 i j)) = _
  rw [V_main_arg0]
  blk_ext [e]

/-- The block of weights is a range of columns. -/
theorem read1 (c : Dev nD) (t : Fin cfg0.N) (i : Fin 4096) (j : Fin 1024) (k : Fin 8192) (hk : k.val = 6144 + j.val) :
    (Gen.iblk m c 1 t : Vec Ideal S1x4096x1024 .bf16) (ix3 0 i j) = (m ((c.tc : Thread nD τ).loc main_arg1) : FVec Ideal S4x4096x8192 .bf16) (ix3 0 i k) := by
  have e := idx1 t
  show V m c main_arg1 (((cfg0.win 1).blk t).view.emb (ix3 0 i j)) = _
  rw [V_main_arg1]
  blk_ext [e]

/-- A block of inputs and a block of weights give the block of the reference's result. -/
theorem tile (a0 : FVec Ideal S16640x4096 .bf16) (a1 : FVec Ideal S4x4096x8192 .bf16)
    (x : Vec Ideal S1040x4096 .bf16) (w : Vec Ideal S1x4096x1024 .bf16) (r : Fin 1040) (l : Fin 1024) (i : Fin 16640)
    (hx : ∀ k : Fin 4096, x (ix2 r k) = a0 (ix2 i k)) (hw : ∀ k : Fin 4096, w (ix3 0 k l) = a1 (ix3 0 k ⟨6144 + l.val, by omega⟩)) :
    block x w (ix2 r l) = Cert.ReferenceProjUIdeal.ProjU.result (F := Ideal) (Cert.ReferenceProjUIdeal.ProjU.prod a0 a1) (ix2 i l) := by
  rw [Cert.ReferenceProjUIdeal.ProjU.result_apply, Cert.ReferenceProjUIdeal.ProjU.prod_apply]
  exact congrArg Gelu.gelu (Finset.sum_congr rfl fun k _ => congrArg₂ HMul.hMul (hx k) (hw k))

/-- The kernel's output array is the reference's result. -/
theorem arr_eq (c : Dev nD) :
    (Gen.dats m 0 c).arrAt 2 cfg0.N
      = Cert.ReferenceProjUIdeal.ProjU.result (F := Ideal) (Cert.ReferenceProjUIdeal.ProjU.prod (m ((c.tc : Thread nD τ).loc main_arg0)) (m ((c.tc : Thread nD τ).loc main_arg1))) := by
  refine (Gen.dats m 0 c).arrAt_eq_of_covers 2 _ (by decide +kernel) fun t hf y => ?_
  blk_simp
  have ht : t.val < 16 := t.isLt
  have e := idx2 t
  obtain ⟨r, l, rfl⟩ : ∃ (r : Fin 1040) (l : Fin 1024), y = (ix2 r l : S1040x1024.Idx) :=
    ⟨y 0, y 1, by funext a; match a with | 0 => rfl | 1 => rfl⟩
  have hy : (win0_2.blk t).view.emb (ix2 r l : S1040x1024.Idx)
      = (ix2 ⟨1040 * t.val + r.val, by omega⟩ l : S16640x1024.Idx) := by
    blk_ext [e]
  rw [hy, after0_2, out_eq]
  exact tile _ _ _ _ r l _ (fun k => read0 m c t r k _ rfl) (fun k => read1 m c t k l _ rfl)

end Cert.KernelProjUIdeal.ProjU

end
-- ==== Proof.Head.lean ====
module

public import Idealize.ShloMosaic.PureOps.Ideal

/-! A head's norm. -/

@[expose] public section

noncomputable section

namespace Cert.Head

open Idealize.ShloMosaic

/-- An entry of the normed head `row`: the entry `a` times the head's scale times the weight `b`. -/
def entry (row : Fin 128 → EReal) (a b : EReal) : EReal :=
  a * Ideal.rsqrt (Ideal.div (∑ k : Fin 128, row k * row k) (Ideal.ofBits .f32 0x43000000#32) + Ideal.ofBits .f32 0x358637BD#32) * b

end Cert.Head

end
-- ==== Proof.ProjV.lean ====
module

public import proofs.«01_k».proof.Proof.Gen.KernelProjVIdeal.Value
public import proofs.«01_k».proof.Proof.Gen.ReferenceProjVIdeal.Run
public import proofs.«01_k».proof.Proof.Gelu
public import proofs.«01_k».proof.Proof.Head
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim

/-! The projection to the gating unit's second half, with its gelu and its heads' norm: every block of the kernel's
    output holds the reference's result. -/

@[expose] public section

set_option maxRecDepth 16384

noncomputable section

namespace Cert.ReferenceProjVIdeal.ProjV

open Cert.ReferenceProjVIdeal Cert.ReferenceProjVIdeal.Gen Cert.ReferenceProjVIdeal.Value Idealize.ShloMosaic Idealize.ShloMosaic.Pointwise Idealize.ShloMosaic.TcCoe Idealize.SL.Sem Idealize.ShloMosaic.StableHlo

variable {F : FTy → Type} [FloatOps F]

/-- The product of the rows with the second half of the gating unit's columns of the first layer's weights. -/
def prod (h : FVec F S16640x4096 .bf16) (w : FVec F S4x4096x8192 .bf16) : FVec F S16640x1024 .f32 :=
  Host.dotGeneral dot_S16640x4096_S4096x1024_S16640x1024_1_0_0_1_n_n none (extf .f32 h bitsLt_bf16_f32)
    (extractStridedSlice S4096x1024 ![0, 7168] (extf .f32 (shapeCast S4096x8192 (extractStridedSlice S1x4096x8192 ![0, 0, 0] w slices_S4x4096x8192_S1x4096x8192_0_0_0) shapeCasts_S1x4096x8192_S4096x8192) bitsLt_bf16_f32) slices_S4096x8192_S4096x1024_0_7168)

/-- The gelu of the product. -/
def act (p : FVec F S16640x1024 .f32) : FVec F S16640x1024 .f32 :=
  mulf p (mulf (broadcastInDim S16640x1024 ![] bcast_S_S16640x1024 (constant S_ .f32 0x3F000000#32))
    (addf (broadcastInDim S16640x1024 ![] bcast_S_S16640x1024 (constant S_ .f32 0x3F800000#32))
      (Host.tanh (mulf (broadcastInDim S16640x1024 ![] bcast_S_S16640x1024 (constant S_ .f32 0x3F4C422A#32))
        (addf p (mulf (broadcastInDim S16640x1024 ![] bcast_S_S16640x1024 (constant S_ .f32 0x3D372713#32)) (mulf (mulf p p) p)))))))

/-- The columns by heads. -/
def heads (a : FVec F S16640x1024 .f32) : FVec F S16640x8x128 .f32 := shapeCast S16640x8x128 a shapeCasts_S16640x1024_S16640x8x128

/-- The sums of the heads' squares. -/
def squares (h : FVec F S16640x8x128 .f32) : FVec F S16640x8 .f32 :=
  Host.reduceAdd (mulf h h) (constant S_ .f32 0x00000000#32) reducesTo_S16640x8x128_S16640x8_d2 h_S_

/-- The heads' scales, from the sums of their squares. -/
def scales (q : FVec F S16640x8 .f32) : FVec F S16640x8x1 .f32 :=
  Host.rsqrt (addf (Host.divf (broadcastInDim S16640x8x1 ![0, 1] bcast_S16640x8_S16640x8x1_0_1 q) (broadcastInDim S16640x8x1 ![] bcast_S_S16640x8x1 (constant S_ .f32 0x43000000#32)))
    (broadcastInDim S16640x8x1 ![] bcast_S_S16640x8x1 (constant S_ .f32 0x358637BD#32)))

/-- The first layer's weights of the norm, by heads. -/
def weights (g : FVec F S4x1024 .f32) : FVec F S8x128 .f32 :=
  shapeCast S8x128 (shapeCast S1024 (extractStridedSlice S1x1024 ![0, 0] g slices_S4x1024_S1x1024_0_0) shapeCasts_S1x1024_S1024) shapeCasts_S1024_S8x128

/-- The heads times their scales and the weights. -/
def scaled (h : FVec F S16640x8x128 .f32) (s : FVec F S16640x8x1 .f32) (g : FVec F S8x128 .f32) : FVec F S16640x8x128 .f32 :=
  mulf (mulf h (broadcastInDim S16640x8x128 ![0, 1, 2] bcast_S16640x8x1_S16640x8x128_0_1_2 s))
    (broadcastInDim S16640x8x128 ![0, 1, 2] bcast_S1x8x128_S16640x8x128_0_1_2 (broadcastInDim S1x8x128 ![1, 2] bcast_S8x128_S1x8x128_1_2 g))

/-- The reference's result from the normed heads. -/
def flat (h : FVec F S16640x8x128 .f32) : FVec F S16640x1024 .bf16 :=
  truncf .bf16 (shapeCast S16640x1024 h shapeCasts_S16640x8x128_S16640x1024) bitsLt_bf16_f32

/-- The reference's result. -/
def result (p : FVec F S16640x1024 .f32) (g : FVec F S4x1024 .f32) : FVec F S16640x1024 .bf16 :=
  flat (scaled (heads (act p)) (scales (squares (heads (act p)))) (weights g))

/-- A product's entry. -/
theorem prod_apply (h : FVec Ideal S16640x4096 .bf16) (w : FVec Ideal S4x4096x8192 .bf16) (i : Fin 16640) (j : Fin 1024) :
    prod h w (ix2 i j) = ∑ x : Fin 4096, h (ix2 i x) * w (ix3 0 x ⟨7168 + j.val, by omega⟩) := by
  pointwise [prod]

/-- An entry of the gelus. -/
theorem act_apply (p : FVec Ideal S16640x1024 .f32) (i : Fin 16640) (j : Fin 1024) : act p (ix2 i j) = Gelu.gelu (p (ix2 i j)) := by
  rw [← Gelu.gelu_eq]
  pointwise [act, Gelu.gate]

/-- An entry of a head. -/
theorem heads_apply (a : FVec Ideal S16640x1024 .f32) (i : Fin 16640) (n : Fin 8) (d : Fin 128) :
    heads a (ix3 i n d) = a (ix2 i ⟨n.val * 128 + d.val, by omega⟩) := by
  pointwise [heads]

/-- A head's sum of squares. -/
theorem squares_apply (h : FVec Ideal S16640x8x128 .f32) (i : Fin 16640) (n : Fin 8) :
    squares h (ix2 i n) = ∑ k : Fin 128, h (ix3 i n k) * h (ix3 i n k) := by
  pointwise [squares]

/-- A head's scale. -/
theorem scales_apply (q : FVec Ideal S16640x8 .f32) (i : Fin 16640) (n : Fin 8) :
    scales q (ix3 i n 0) = Ideal.rsqrt (Ideal.div (q (ix2 i n)) (Ideal.ofBits .f32 0x43000000#32) + Ideal.ofBits .f32 0x358637BD#32) := by
  pointwise [scales]

/-- A weight of the norm. -/
theorem weights_apply (g : FVec Ideal S4x1024 .f32) (n : Fin 8) (d : Fin 128) :
    weights g (ix2 n d) = g (ix2 0 ⟨n.val * 128 + d.val, by omega⟩) := by
  pointwise [weights]

/-- An entry of the scaled heads. -/
theorem scaled_apply (h : FVec Ideal S16640x8x128 .f32) (s : FVec Ideal S16640x8x1 .f32) (g : FVec Ideal S8x128 .f32) (i : Fin 16640) (n : Fin 8) (d : Fin 128) :
    scaled h s g (ix3 i n d) = h (ix3 i n d) * s (ix3 i n 0) * g (ix2 n d) := by
  pointwise [scaled]

/-- An entry of the heads side by side. -/
theorem flat_apply (h : FVec Ideal S16640x8x128 .f32) (i : Fin 16640) (j : Fin 1024) :
    flat h (ix2 i j) = h (ix3 i ⟨j.val / 128, by omega⟩ ⟨j.val % 128, by omega⟩) := by
  pointwise [flat]

/-- An entry of the result: that of the normed head. -/
theorem result_apply (p : FVec Ideal S16640x1024 .f32) (g : FVec Ideal S4x1024 .f32) (i : Fin 16640) (j : Fin 1024) :
    result p g (ix2 i j) = Head.entry (fun k => Gelu.gelu (p (ix2 i ⟨j.val / 128 * 128 + k.val, by omega⟩))) (Gelu.gelu (p (ix2 i j))) (g (ix2 0 j)) := by
  have e : (⟨j.val / 128 * 128 + j.val % 128, by omega⟩ : Fin 1024) = j := Fin.ext (by show j.val / 128 * 128 + j.val % 128 = j.val; omega)
  unfold result Head.entry
  rw [flat_apply, scaled_apply, scales_apply, squares_apply, weights_apply]
  simp only [heads_apply, act_apply, e]

end Cert.ReferenceProjVIdeal.ProjV

namespace Cert.KernelProjVIdeal.ProjV

open Cert.KernelProjVIdeal Cert.KernelProjVIdeal.Gen Idealize.ShloMosaic Idealize.ShloMosaic.Pointwise Idealize.ShloMosaic.TcCoe Idealize.SL.Sem

variable (m : (ℓ : Loc nD τ sig) → Buf (Elt Ideal) ℓ)

/-- A head times its scale and its weights. -/
def normed (u : FVec Ideal S1040x128 .f32) (w : FVec Ideal S1x128 .f32) : FVec Ideal S1040x128 .f32 :=
  mulf (mulf u (broadcastTo S1040x128 (rsqrt (addf (divf (shapeCast S1040x1 (multiReduction .add [1] S1040 (mulf u u) 0x00000000#32 reduces_S1040x128_S1040 (.inl rfl) rfl) shapeCasts_S1040_S1040x1)
    (broadcast S1040x1 (Scalar.ofBits (F := Ideal) .f32 0x43000000#32))) (broadcast S1040x1 (Scalar.ofBits (F := Ideal) .f32 0x358637BD#32)))) broadcasts_S1040x1_S1040x128))
    (broadcastTo S1040x128 w broadcasts_S1x128_S1040x128)

/-- An entry of a normed head. -/
theorem normed_apply (u : FVec Ideal S1040x128 .f32) (w : FVec Ideal S1x128 .f32) (r : Fin 1040) (l : Fin 128) :
    normed u w (ix2 r l) = Head.entry (fun k => u (ix2 r k)) (u (ix2 r l)) (w (ix2 0 l)) := by
  pointwise [normed, Head.entry]

/-- The two heads of a step's columns. -/
def low (v : FVec Ideal S1040x256 .f32) : FVec Ideal S1040x128 .f32 := extractStridedSlice S1040x128 ![0, 0] v slices_S1040x256_o0_0_S1040x128
def high (v : FVec Ideal S1040x256 .f32) : FVec Ideal S1040x128 .f32 := extractStridedSlice S1040x128 ![0, 128] v slices_S1040x256_o0_128_S1040x128
def lowW (g : Vec Ideal S1x1x256 .f32) : FVec Ideal S1x128 .f32 := extractStridedSlice S1x128 ![0, 0] (shapeCast S1x256 g shapeCasts_S1x1x256_S1x256) slices_S1x256_o0_0_S1x128
def highW (g : Vec Ideal S1x1x256 .f32) : FVec Ideal S1x128 .f32 := extractStridedSlice S1x128 ![0, 128] (shapeCast S1x256 g shapeCasts_S1x1x256_S1x256) slices_S1x256_o0_128_S1x128

theorem low_apply (v : FVec Ideal S1040x256 .f32) (r : Fin 1040) (l : Fin 128) : low v (ix2 r l) = v (ix2 r ⟨l.val, by omega⟩) := by
  pointwise [low]
theorem high_apply (v : FVec Ideal S1040x256 .f32) (r : Fin 1040) (l : Fin 128) : high v (ix2 r l) = v (ix2 r ⟨128 + l.val, by omega⟩) := by
  pointwise [high]
theorem lowW_apply (g : Vec Ideal S1x1x256 .f32) (l : Fin 128) : lowW g (ix2 0 l) = g (ix3 0 0 ⟨l.val, by omega⟩) := by
  pointwise [lowW]
theorem highW_apply (g : Vec Ideal S1x1x256 .f32) (l : Fin 128) : highW g (ix2 0 l) = g (ix3 0 0 ⟨128 + l.val, by omega⟩) := by
  pointwise [highW]

/-- Two heads side by side. -/
def pair (a b : FVec Ideal S1040x128 .f32) : FVec Ideal S1040x256 .bf16 :=
  truncf .bf16 (concatenate S1040x256 1 [⟨S1040x128, a⟩, ⟨S1040x128, b⟩] concatenates_S1040x128_S1040x128_S1040x256_d1) bitsLt_bf16_f32

theorem pair_apply (a b : FVec Ideal S1040x128 .f32) (r : Fin 1040) (l : Fin 256) :
    pair a b (ix2 r l) = if h : l.val < 128 then a (ix2 r ⟨l.val, h⟩) else b (ix2 r ⟨l.val - 128, by omega⟩) := by
  pointwise [pair]

/-- An entry of what a step of the body stores, from its columns' gelus. -/
theorem pay1_apply (v : FVec Ideal S1040x256 .f32) (g : Vec Ideal S1x1x256 .f32) (r : Fin 1040) (l : Fin 256) :
    k0_pay1 (F := Ideal) v g (ix2 r l) = Head.entry (fun k => v (ix2 r ⟨l.val / 128 * 128 + k.val, by omega⟩)) (v (ix2 r l)) (g (ix3 0 0 l)) := by
  have h : k0_pay1 (F := Ideal) v g = pair (normed (low v) (lowW g)) (normed (high v) (highW g)) := rfl
  rw [h, pair_apply]
  by_cases hl : l.val < 128
  · have e : ∀ k : Fin 128, (⟨l.val / 128 * 128 + k.val, by omega⟩ : Fin 256) = ⟨k.val, by omega⟩ := fun k => Fin.ext (by show l.val / 128 * 128 + k.val = k.val; omega)
    rw [dif_pos hl, normed_apply]
    simp only [low_apply, lowW_apply, e]
  · have e : ∀ k : Fin 128, (⟨l.val / 128 * 128 + k.val, by omega⟩ : Fin 256) = ⟨128 + k.val, by omega⟩ := fun k => Fin.ext (by show l.val / 128 * 128 + k.val = 128 + k.val; omega)
    have e' : (⟨128 + (l.val - 128), by omega⟩ : Fin 256) = l := Fin.ext (by show 128 + (l.val - 128) = l.val; omega)
    rw [dif_neg hl, normed_apply]
    simp only [high_apply, highW_apply, e, e']

/-- The gelus of a step's columns. -/
theorem pay2_apply (x : Vec Ideal S1040x4096 .bf16) (w : Vec Ideal S1x4096x256 .bf16) (r : Fin 1040) (l : Fin 256) :
    k0_pay2 (F := Ideal) x w (ix2 r l) = Gelu.gelu (∑ k : Fin 4096, x (ix2 r k) * w (ix3 0 k l)) := by
  pointwise [k0_pay2, Gelu.gelu, Gelu.gate]

/-- The gelu at a row and a column of the block. -/
def cell (x : Vec Ideal S1040x4096 .bf16) (w : Vec Ideal S1x4096x1024 .bf16) (r : Fin 1040) (l : Fin 1024) : EReal :=
  Gelu.gelu (∑ k : Fin 4096, x (ix2 r k) * w (ix3 0 k l))

/-- The block of normed gelus. -/
def block (x : Vec Ideal S1040x4096 .bf16) (w : Vec Ideal S1x4096x1024 .bf16) (g : Vec Ideal S1x1x1024 .f32) : Vec Ideal S1040x1024 .bf16 := fun y =>
  Head.entry (fun k => cell x w (y 0) ⟨(y 1).val / 128 * 128 + k.val, by have := (y 1).isLt; simp only [Shape.size] at this; have h : (y 1).val < 1024 := this; omega⟩)
    (cell x w (y 0) (y 1)) (g (ix3 0 0 (y 1)))

/-- What a step stores is a part of the block. -/
theorem step_eq (o : ℕ) (ho : 128 ∣ o) (inbw : ∀ a, (![0, 0, o] : Fin 3 → ℕ) a + S1x4096x256.size a ≤ S1x4096x1024.size a)
    (inbg : ∀ a, (![0, 0, o] : Fin 3 → ℕ) a + S1x1x256.size a ≤ S1x1x1024.size a)
    (inb : ∀ a, (![0, o] : Fin 2 → ℕ) a + S1040x256.size a ≤ S1040x1024.size a) (x : Vec Ideal S1040x4096 .bf16) (w : Vec Ideal S1x4096x1024 .bf16)
    (g : Vec Ideal S1x1x1024 .f32) (z : S1040x256.Idx) :
    k0_pay1 (F := Ideal) (k0_pay2 (F := Ideal) (View.ld x r0_0) (View.ld w (Rect.unit (s := S1x4096x1024) ![0, 0, o] S1x4096x256.size inbw)))
        (View.ld g (Rect.unit (s := S1x1x1024) ![0, 0, o] S1x1x256.size inbg)) z
      = block x w g ((Rect.unit (s := S1040x1024) ![0, o] S1040x256.size inb).emb z) := by
  obtain ⟨r, l, rfl⟩ : ∃ (r : Fin 1040) (l : Fin 256), z = (ix2 r l : S1040x256.Idx) :=
    ⟨z 0, z 1, by funext a; match a with | 0 => rfl | 1 => rfl⟩
  have ho' : o + 256 ≤ 1024 := inb 1
  have e : (Rect.unit (s := S1040x1024) ![0, o] S1040x256.size inb).emb (ix2 r l : S1040x256.Idx) = (ix2 r ⟨o + l.val, by omega⟩ : S1040x1024.Idx) := by
    funext a
    refine Fin.ext ((Rect.idx_unit_val (s := S1040x1024) ![0, o] S1040x256.size inb (ix2 r l : S1040x256.Idx) a).trans ?_)
    match a with
    | 0 => exact Nat.zero_add _
    | 1 => rfl
  have hw : ∀ (j : Fin 256) (k : Fin 4096), View.ld w (Rect.unit (s := S1x4096x1024) ![0, 0, o] S1x4096x256.size inbw) (ix3 0 k j : S1x4096x256.Idx) = w (ix3 0 k ⟨o + j.val, by omega⟩) := by
    intro j k
    refine congrArg w (funext fun a => Fin.ext ((Rect.idx_unit_val (s := S1x4096x1024) ![0, 0, o] S1x4096x256.size inbw (ix3 0 k j : S1x4096x256.Idx) a).trans ?_))
    match a with
    | 0 => rfl
    | 1 => exact Nat.zero_add _
    | 2 => rfl
  have hg : View.ld g (Rect.unit (s := S1x1x1024) ![0, 0, o] S1x1x256.size inbg) (ix3 0 0 l : S1x1x256.Idx) = g (ix3 0 0 ⟨o + l.val, by omega⟩) := by
    refine congrArg g (funext fun a => Fin.ext ((Rect.idx_unit_val (s := S1x1x1024) ![0, 0, o] S1x1x256.size inbg (ix3 0 0 l : S1x1x256.Idx) a).trans ?_))
    match a with
    | 0 => rfl
    | 1 => rfl
    | 2 => rfl
  have hc : ∀ j : Fin 256, k0_pay2 (F := Ideal) (View.ld x r0_0) (View.ld w (Rect.unit (s := S1x4096x1024) ![0, 0, o] S1x4096x256.size inbw)) (ix2 r j) = cell x w r ⟨o + j.val, by omega⟩ := by
    intro j
    rw [View.ld_unit_zero (by decide), pay2_apply]
    exact congrArg Gelu.gelu (Finset.sum_congr rfl fun k _ => congrArg (x (ix2 r k) * ·) (hw j k))
  rw [pay1_apply, e, hg]
  simp only [hc]
  have hk : ∀ k : Fin 128, (⟨o + (l.val / 128 * 128 + k.val), by omega⟩ : Fin 1024) = ⟨(o + l.val) / 128 * 128 + k.val, by omega⟩ :=
    fun k => Fin.ext (by show o + (l.val / 128 * 128 + k.val) = (o + l.val) / 128 * 128 + k.val; omega)
  simp only [hk]
  rfl

/-- The body leaves the block. -/
theorem out_eq (x : Vec Ideal S1040x4096 .bf16) (w : Vec Ideal S1x4096x1024 .bf16) (g : Vec Ideal S1x1x1024 .f32) : out0_3 (F := Ideal) x w g = block x w g := by
  funext y
  refine View.canon_apply_of_pieces (block x w g) _ (fun p hp => ?_) y (cover0_3 _ _ _ _ y)
  simp only [List.mem_cons, List.not_mem_nil, or_false] at hp
  rcases hp with rfl | rfl | rfl | rfl
  · exact step_eq 768 (by decide) (by decide) (by decide) (by decide) x w g
  · exact step_eq 512 (by decide) (by decide) (by decide) (by decide) x w g
  · exact step_eq 256 (by decide) (by decide) (by decide) (by decide) x w g
  · exact step_eq 0 (by decide) (by decide) (by decide) (by decide) x w g

/-- Which block each window holds at a point. -/
theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 ∧ (cfg0.win 1).index t 2 = 7 := by decide +kernel
theorem idx2 : ∀ t : Fin cfg0.N, (cfg0.win 2).index t 0 = 0 ∧ (cfg0.win 2).index t 1 = 0 ∧ (cfg0.win 2).index t 2 = 0 := by decide +kernel
theorem idx3 : ∀ t : Fin cfg0.N, (cfg0.win 3).index t 0 = t.val ∧ (cfg0.win 3).index t 1 = 0 := by decide +kernel

/-- The block of inputs is a range of rows. -/
theorem read0 (c : Dev nD) (t : Fin cfg0.N) (i : Fin 1040) (j : Fin 4096) (i' : Fin 16640) (hi : i'.val = 1040 * t.val + i.val) :
    (Gen.iblk m c 0 t : Vec Ideal S1040x4096 .bf16) (ix2 i j) = (m ((c.tc : Thread nD τ).loc main_arg0) : FVec Ideal S16640x4096 .bf16) (ix2 i' j) := by
  have e := idx0 t
  show V m c main_arg0 (((cfg0.win 0).blk t).view.emb (ix2 i j)) = _
  rw [V_main_arg0]
  blk_ext [e]

/-- The block of weights is a range of columns. -/
theorem read1 (c : Dev nD) (t : Fin cfg0.N) (i : Fin 4096) (j : Fin 1024) (k : Fin 8192) (hk : k.val = 7168 + j.val) :
    (Gen.iblk m c 1 t : Vec Ideal S1x4096x1024 .bf16) (ix3 0 i j) = (m ((c.tc : Thread nD τ).loc main_arg1) : FVec Ideal S4x4096x8192 .bf16) (ix3 0 i k) := by
  have e := idx1 t
  show V m c main_arg1 (((cfg0.win 1).blk t).view.emb (ix3 0 i j)) = _
  rw [V_main_arg1]
  blk_ext [e]

/-- The weights of the norm. -/
theorem read2 (c : Dev nD) (t : Fin cfg0.N) (j : Fin 1024) :
    (Gen.iblk m c 2 t : Vec Ideal S1x1x1024 .f32) (ix3 0 0 j) = (m ((c.tc : Thread nD τ).loc main_arg2) : FVec Ideal S4x1024 .f32) (ix2 0 j) := by
  have e := idx2 t
  have h : ((cfg0.win 2).blk t).view.emb (ix3 0 0 j) = (ix3 0 0 j : S4x1x1024.Idx) := by blk_ext [e]
  show V m c main_v0 (((cfg0.win 2).blk t).view.emb (ix3 0 0 j)) = _
  rw [h]
  entry_read
  pointwise

/-- The blocks give the block of the reference's result. -/
theorem tile (a0 : FVec Ideal S16640x4096 .bf16) (a1 : FVec Ideal S4x4096x8192 .bf16) (a2 : FVec Ideal S4x1024 .f32)
    (x : Vec Ideal S1040x4096 .bf16) (w : Vec Ideal S1x4096x1024 .bf16) (g : Vec Ideal S1x1x1024 .f32) (r : Fin 1040) (l : Fin 1024) (i : Fin 16640)
    (hx : ∀ k : Fin 4096, x (ix2 r k) = a0 (ix2 i k)) (hw : ∀ (k : Fin 4096) (l : Fin 1024), w (ix3 0 k l) = a1 (ix3 0 k ⟨7168 + l.val, by omega⟩))
    (hg : ∀ l : Fin 1024, g (ix3 0 0 l) = a2 (ix2 0 l)) :
    block x w g (ix2 r l) = Cert.ReferenceProjVIdeal.ProjV.result (F := Ideal) (Cert.ReferenceProjVIdeal.ProjV.prod a0 a1) a2 (ix2 i l) := by
  have hc : ∀ l : Fin 1024, cell x w r l = Gelu.gelu (Cert.ReferenceProjVIdeal.ProjV.prod (F := Ideal) a0 a1 (ix2 i l)) := by
    intro l
    rw [Cert.ReferenceProjVIdeal.ProjV.prod_apply]
    exact congrArg Gelu.gelu (Finset.sum_congr rfl fun k _ => congrArg₂ HMul.hMul (hx k) (hw k l))
  rw [Cert.ReferenceProjVIdeal.ProjV.result_apply, ← hg]
  simp only [← hc]
  rfl

/-- The kernel's output array is the reference's result. -/
theorem arr_eq (c : Dev nD) :
    (Gen.dats m 0 c).arrAt 3 cfg0.N
      = Cert.ReferenceProjVIdeal.ProjV.result (F := Ideal) (Cert.ReferenceProjVIdeal.ProjV.prod (m ((c.tc : Thread nD τ).loc main_arg0)) (m ((c.tc : Thread nD τ).loc main_arg1))) (m ((c.tc : Thread nD τ).loc main_arg2)) := by
  refine (Gen.dats m 0 c).arrAt_eq_of_covers 3 _ (by decide +kernel) fun t hf y => ?_
  blk_simp
  have ht : t.val < 16 := t.isLt
  have e := idx3 t
  obtain ⟨r, l, rfl⟩ : ∃ (r : Fin 1040) (l : Fin 1024), y = (ix2 r l : S1040x1024.Idx) :=
    ⟨y 0, y 1, by funext a; match a with | 0 => rfl | 1 => rfl⟩
  have hy : (win0_3.blk t).view.emb (ix2 r l : S1040x1024.Idx)
      = (ix2 ⟨1040 * t.val + r.val, by omega⟩ l : S16640x1024.Idx) := by
    blk_ext [e]
  rw [hy, after0_3, out_eq]
  exact tile _ _ _ _ _ _ r l _ (fun k => read0 m c t r k _ rfl) (fun k l => read1 m c t k l _ rfl) (fun l => read2 m c t l)

end Cert.KernelProjVIdeal.ProjV

end
-- ==== Proof.Rope.lean ====
module

public import proofs.«01_k».proof.Proof.Head

/-! The rotation of a head by its tables of cosines and sines. -/

@[expose] public section

noncomputable section

namespace Cert.Rope

open Idealize.ShloMosaic

/-- The normed head. -/
def row (f g : Fin 128 → EReal) : Fin 128 → EReal := fun d => Head.entry f (f d) (g d)

/-- The lane that a lane is rotated with: the other quarter of its half. -/
def partner (d : Fin 128) : Fin 128 :=
  if d.val % 64 < 32 then ⟨(d.val + 128 - 96) % 128, Nat.mod_lt _ (by decide)⟩ else ⟨(d.val + 128 - 32) % 128, Nat.mod_lt _ (by decide)⟩

/-- The rotation's sign. -/
def sign (d : Fin 128) : EReal := if d.val % 64 < 32 then -1 else 1

/-- A lane of the rotated head, from its cosine and its signed sine. -/
def spin (n : Fin 128 → EReal) (c s : EReal) (d : Fin 128) : EReal := n d * c + n (partner d) * s

/-- A lane's partner with the rotation's sign. -/
def turned (n : Fin 128 → EReal) (d : Fin 128) : EReal := if d.val % 64 < 32 then -n (partner d) else n (partner d)

/-- The sign may stand at the sine or at the partner. -/
theorem spin_sign (n : Fin 128 → EReal) (c s : EReal) (d : Fin 128) : spin n c (s * sign d) d = n d * c + turned n d * s := by
  unfold spin turned sign
  by_cases h : d.val % 64 < 32
  · rw [if_pos h, if_pos h, mul_neg, mul_one, mul_neg, neg_mul]
  · rw [if_neg h, if_neg h, mul_one]

/-- With cosine one and sine zero nothing turns. -/
theorem spin_still (n : Fin 128 → EReal) (d : Fin 128) : spin n 1 0 d = n d := by
  unfold spin
  rw [mul_one, mul_zero, add_zero]

/-- The other order of the quarters, one lane at a time: the second quarter of a half negated in the first's place, the
    first in the second's. -/
theorem turned_of (n : Fin 128 → EReal) (d : Fin 128) :
    (if d.val / 32 % 2 < 1 then -n ⟨d.val / 64 * 64 + 32 + d.val % 32, by omega⟩ else n ⟨d.val / 64 * 64 + d.val % 32, by omega⟩) = turned n d := by
  unfold turned partner
  by_cases h : d.val / 32 % 2 < 1
  · have e : (⟨d.val / 64 * 64 + 32 + d.val % 32, by omega⟩ : Fin 128) = ⟨(d.val + 128 - 96) % 128, Nat.mod_lt _ (by decide)⟩ :=
      Fin.ext (by show d.val / 64 * 64 + 32 + d.val % 32 = (d.val + 128 - 96) % 128; omega)
    have hd : d.val % 64 < 32 := by omega
    rw [if_pos h, if_pos hd, if_pos hd, e]
  · have e : (⟨d.val / 64 * 64 + d.val % 32, by omega⟩ : Fin 128) = ⟨(d.val + 128 - 32) % 128, Nat.mod_lt _ (by decide)⟩ :=
      Fin.ext (by show d.val / 64 * 64 + d.val % 32 = (d.val + 128 - 32) % 128; omega)
    have hd : ¬d.val % 64 < 32 := by omega
    rw [if_neg h, if_neg hd, if_neg hd, e]

end Cert.Rope

end
-- ==== Proof.ProjKV.lean ====
module

public import proofs.«01_k».proof.Proof.Gen.KernelProjKVIdeal.Value
public import proofs.«01_k».proof.Proof.Gen.ReferenceProjKVIdeal.Run
public import proofs.«01_k».proof.Proof.Rope
public import proofs.«01_k».proof.Proof.ProjV
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim

/-! The projection to the global attention's keys and values: every block of the kernel's output holds the
    reference's result. -/

@[expose] public section

set_option maxRecDepth 16384

noncomputable section

namespace Cert.ReferenceProjKVIdeal.ProjKV

open Cert.ReferenceProjKVIdeal Cert.ReferenceProjKVIdeal.Gen Cert.ReferenceProjKVIdeal.Value Idealize.ShloMosaic Idealize.ShloMosaic.Pointwise Idealize.ShloMosaic.TcCoe Idealize.SL.Sem Idealize.ShloMosaic.StableHlo

variable {F : FTy → Type} [FloatOps F]

/-- The product of the rows with the keys' and values' columns of the first layer's weights. -/
def prod (h : FVec F S16640x4096 .bf16) (w : FVec F S4x4096x8192 .bf16) : FVec F S16640x1024 .f32 :=
  Host.dotGeneral dot_S16640x4096_S4096x1024_S16640x1024_1_0_0_1_n_n none (extf .f32 h bitsLt_bf16_f32)
    (extractStridedSlice S4096x1024 ![0, 2048] (extf .f32 (shapeCast S4096x8192 (extractStridedSlice S1x4096x8192 ![0, 0, 0] w slices_S4x4096x8192_S1x4096x8192_0_0_0) shapeCasts_S1x4096x8192_S4096x8192) bitsLt_bf16_f32) slices_S4096x8192_S4096x1024_0_2048)

/-- The heads' part of the product, by heads. -/
def heads (p : FVec F S16640x1024 .f32) : FVec F S16640x4x128 .f32 :=
  shapeCast S16640x4x128 (extractStridedSlice S16640x512 ![0, 0] p slices_S16640x1024_S16640x512_0_0) shapeCasts_S16640x512_S16640x4x128

/-- The values. -/
def values (p : FVec F S16640x1024 .f32) : FVec F S16640x512 .f32 := extractStridedSlice S16640x512 ![0, 512] p slices_S16640x1024_S16640x512_0_512

/-- The sums of the heads' squares. -/
def squares (h : FVec F S16640x4x128 .f32) : FVec F S16640x4 .f32 :=
  Host.reduceAdd (mulf h h) (constant S_ .f32 0x00000000#32) reducesTo_S16640x4x128_S16640x4_d2 h_S_

/-- The heads' scales, from the sums of their squares. -/
def scales (q : FVec F S16640x4 .f32) : FVec F S16640x4x1 .f32 :=
  Host.rsqrt (addf (Host.divf (broadcastInDim S16640x4x1 ![0, 1] bcast_S16640x4_S16640x4x1_0_1 q) (broadcastInDim S16640x4x1 ![] bcast_S_S16640x4x1 (constant S_ .f32 0x43000000#32)))
    (broadcastInDim S16640x4x1 ![] bcast_S_S16640x4x1 (constant S_ .f32 0x358637BD#32)))

/-- The first layer's weights of the keys' norm. -/
def weights (g : FVec F S4x2x128 .f32) : FVec F S128 .f32 :=
  shapeCast S128 (extractStridedSlice S1x1x128 ![0, 1, 0] g slices_S4x2x128_S1x1x128_0_1_0) shapeCasts_S1x1x128_S128

/-- The heads times their scales and the weights. -/
def scaled (h : FVec F S16640x4x128 .f32) (s : FVec F S16640x4x1 .f32) (g : FVec F S128 .f32) : FVec F S16640x4x128 .f32 :=
  mulf (mulf h (broadcastInDim S16640x4x128 ![0, 1, 2] bcast_S16640x4x1_S16640x4x128_0_1_2 s))
    (broadcastInDim S16640x4x128 ![0, 1, 2] bcast_S1x1x128_S16640x4x128_0_1_2 (broadcastInDim S1x1x128 ![2] bcast_S128_S1x1x128_2 g))

/-- The normed heads. -/
def normed (h : FVec F S16640x4x128 .f32) (g : FVec F S4x2x128 .f32) : FVec F S16640x4x128 .f32 := scaled h (scales (squares h)) (weights g)

/-- The latent tokens' heads, and the context tokens'. -/
def latent (n : FVec F S16640x4x128 .f32) : FVec F S16384x4x128 .f32 := extractStridedSlice S16384x4x128 ![0, 0, 0] n slices_S16640x4x128_S16384x4x128_0_0_0
def context (n : FVec F S16640x4x128 .f32) : FVec F S256x4x128 .f32 := extractStridedSlice S256x4x128 ![16384, 0, 0] n slices_S16640x4x128_S256x4x128_16384_0_0

/-- The second quarters of the halves, negated, and the first. -/
def second (n : FVec F S16384x4x128 .f32) : FVec F S16384x4x2x1x32 .f32 :=
  broadcastInDim S16384x4x2x1x32 ![0, 1, 2, 4] bcast_S16384x4x2x32_S16384x4x2x1x32_0_1_2_4 (Host.negf (shapeCast S16384x4x2x32 (extractStridedSlice S16384x4x2x1x32 ![0, 0, 0, 1, 0] (shapeCast S16384x4x2x2x32 n shapeCasts_S16384x4x128_S16384x4x2x2x32) slices_S16384x4x2x2x32_S16384x4x2x1x32_0_0_0_1_0) shapeCasts_S16384x4x2x1x32_S16384x4x2x32))
def first (n : FVec F S16384x4x128 .f32) : FVec F S16384x4x2x1x32 .f32 :=
  broadcastInDim S16384x4x2x1x32 ![0, 1, 2, 4] bcast_S16384x4x2x32_S16384x4x2x1x32_0_1_2_4 (shapeCast S16384x4x2x32 (extractStridedSlice S16384x4x2x1x32 ![0, 0, 0, 0, 0] (shapeCast S16384x4x2x2x32 n shapeCasts_S16384x4x128_S16384x4x2x2x32) slices_S16384x4x2x2x32_S16384x4x2x1x32_0_0_0_0_0) shapeCasts_S16384x4x2x1x32_S16384x4x2x32)

/-- The two in the other order. -/
def turned (a b : FVec F S16384x4x2x1x32 .f32) : FVec F S16384x4x128 .f32 :=
  shapeCast S16384x4x128 (concatenate S16384x4x2x2x32 3 [⟨S16384x4x2x1x32, a⟩, ⟨S16384x4x2x1x32, b⟩] concatenates_S16384x4x2x1x32_S16384x4x2x1x32_S16384x4x2x2x32_d3) shapeCasts_S16384x4x2x2x32_S16384x4x128

/-- The latent heads times the cosines plus the turned ones times the sines. -/
def rotated (n t : FVec F S16384x4x128 .f32) (c s : FVec F S16384x128 .f32) : FVec F S16384x4x128 .f32 :=
  addf (mulf n (broadcastInDim S16384x4x128 ![0, 1, 2] bcast_S16384x1x128_S16384x4x128_0_1_2 (broadcastInDim S16384x1x128 ![0, 2] bcast_S16384x128_S16384x1x128_0_2 c)))
    (mulf t (broadcastInDim S16384x4x128 ![0, 1, 2] bcast_S16384x1x128_S16384x4x128_0_1_2 (broadcastInDim S16384x1x128 ![0, 2] bcast_S16384x128_S16384x1x128_0_2 s)))

/-- The latent tokens' heads above the context tokens'. -/
def tokens (a : FVec F S16384x4x128 .f32) (b : FVec F S256x4x128 .f32) : FVec F S16640x4x128 .f32 :=
  concatenate S16640x4x128 0 [⟨S16384x4x128, a⟩, ⟨S256x4x128, b⟩] concatenates_S16384x4x128_S256x4x128_S16640x4x128_d0

/-- The heads of all tokens, rotated where latent. -/
def roped (n : FVec F S16640x4x128 .f32) (c s : FVec F S16384x128 .f32) : FVec F S16640x4x128 .f32 :=
  tokens (rotated (latent n) (turned (second (latent n)) (first (latent n))) c s) (context n)

/-- The reference's result from the keys and the values. -/
def join (k : FVec F S16640x4x128 .f32) (v : FVec F S16640x512 .f32) : FVec F S16640x1024 .bf16 :=
  truncf .bf16 (concatenate S16640x1024 1 [⟨S16640x512, shapeCast S16640x512 k shapeCasts_S16640x4x128_S16640x512⟩, ⟨S16640x512, v⟩] concatenates_S16640x512_S16640x512_S16640x1024_d1) bitsLt_bf16_f32

/-- The reference's result. -/
def result (p : FVec F S16640x1024 .f32) (g : FVec F S4x2x128 .f32) (c s : FVec F S16384x128 .f32) : FVec F S16640x1024 .bf16 :=
  join (roped (normed (heads p) g) c s) (values p)

/-- A product's entry. -/
theorem prod_apply (h : FVec Ideal S16640x4096 .bf16) (w : FVec Ideal S4x4096x8192 .bf16) (i : Fin 16640) (j : Fin 1024) :
    prod h w (ix2 i j) = ∑ x : Fin 4096, h (ix2 i x) * w (ix3 0 x ⟨2048 + j.val, by omega⟩) := by
  pointwise [prod]

/-- An entry of a head. -/
theorem heads_apply (p : FVec Ideal S16640x1024 .f32) (i : Fin 16640) (n : Fin 4) (d : Fin 128) :
    heads p (ix3 i n d) = p (ix2 i ⟨n.val * 128 + d.val, by omega⟩) := by
  pointwise [heads]

/-- An entry of the values. -/
theorem values_apply (p : FVec Ideal S16640x1024 .f32) (i : Fin 16640) (j : Fin 512) : values p (ix2 i j) = p (ix2 i ⟨512 + j.val, by omega⟩) := by
  pointwise [values]

/-- A head's sum of squares. -/
theorem squares_apply (h : FVec Ideal S16640x4x128 .f32) (i : Fin 16640) (n : Fin 4) :
    squares h (ix2 i n) = ∑ k : Fin 128, h (ix3 i n k) * h (ix3 i n k) := by
  pointwise [squares]

/-- A head's scale. -/
theorem scales_apply (q : FVec Ideal S16640x4 .f32) (i : Fin 16640) (n : Fin 4) :
    scales q (ix3 i n 0) = Ideal.rsqrt (Ideal.div (q (ix2 i n)) (Ideal.ofBits .f32 0x43000000#32) + Ideal.ofBits .f32 0x358637BD#32) := by
  pointwise [scales]

/-- A weight of the norm. -/
theorem weights_apply (g : FVec Ideal S4x2x128 .f32) (d : Fin 128) : weights g (ix1 d) = g (ix3 0 1 d) := by
  pointwise [weights]

/-- An entry of the scaled heads. -/
theorem scaled_apply (h : FVec Ideal S16640x4x128 .f32) (s : FVec Ideal S16640x4x1 .f32) (g : FVec Ideal S128 .f32) (i : Fin 16640) (n : Fin 4) (d : Fin 128) :
    scaled h s g (ix3 i n d) = h (ix3 i n d) * s (ix3 i n 0) * g (ix1 d) := by
  pointwise [scaled]

/-- A normed head. -/
theorem normed_apply (h : FVec Ideal S16640x4x128 .f32) (g : FVec Ideal S4x2x128 .f32) (i : Fin 16640) (n : Fin 4) (d : Fin 128) :
    normed h g (ix3 i n d) = Rope.row (fun k => h (ix3 i n k)) (fun k => g (ix3 0 1 k)) d := by
  unfold normed Rope.row Head.entry
  rw [scaled_apply, scales_apply, squares_apply, weights_apply]

theorem latent_apply (n : FVec Ideal S16640x4x128 .f32) (i : Fin 16384) (a : Fin 4) (d : Fin 128) : latent n (ix3 i a d) = n (ix3 ⟨i.val, by omega⟩ a d) := by
  pointwise [latent]
theorem context_apply (n : FVec Ideal S16640x4x128 .f32) (i : Fin 256) (a : Fin 4) (d : Fin 128) : context n (ix3 i a d) = n (ix3 ⟨16384 + i.val, by omega⟩ a d) := by
  pointwise [context]
theorem second_apply (n : FVec Ideal S16384x4x128 .f32) (i : Fin 16384) (a : Fin 4) (h : Fin 2) (e : Fin 32) :
    second n (ix5 i a h 0 e) = -n (ix3 i a ⟨h.val * 64 + 32 + e.val, by omega⟩) := by
  pointwise [second]
theorem first_apply (n : FVec Ideal S16384x4x128 .f32) (i : Fin 16384) (a : Fin 4) (h : Fin 2) (e : Fin 32) :
    first n (ix5 i a h 0 e) = n (ix3 i a ⟨h.val * 64 + e.val, by omega⟩) := by
  pointwise [first]
theorem turned_apply (a b : FVec Ideal S16384x4x2x1x32 .f32) (i : Fin 16384) (n : Fin 4) (d : Fin 128) :
    turned a b (ix3 i n d) = if h : d.val / 32 % 2 < 1 then a (ix5 i n ⟨d.val / 64, by omega⟩ ⟨d.val / 32 % 2, h⟩ ⟨d.val % 32, by omega⟩)
      else b (ix5 i n ⟨d.val / 64, by omega⟩ ⟨d.val / 32 % 2 - 1, by omega⟩ ⟨d.val % 32, by omega⟩) := by
  pointwise [turned]

/-- An entry of the rotated heads. -/
theorem rotated_apply (n t : FVec Ideal S16384x4x128 .f32) (c s : FVec Ideal S16384x128 .f32) (i : Fin 16384) (a : Fin 4) (d : Fin 128) :
    rotated n t c s (ix3 i a d) = n (ix3 i a d) * c (ix2 i d) + t (ix3 i a d) * s (ix2 i d) := by
  pointwise [rotated]

theorem tokens_apply (a : FVec Ideal S16384x4x128 .f32) (b : FVec Ideal S256x4x128 .f32) (i : Fin 16640) (n : Fin 4) (d : Fin 128) :
    tokens a b (ix3 i n d) = if h : i.val < 16384 then a (ix3 ⟨i.val, h⟩ n d) else b (ix3 ⟨i.val - 16384, by omega⟩ n d) := by
  pointwise [tokens]

theorem join_apply (k : FVec Ideal S16640x4x128 .f32) (v : FVec Ideal S16640x512 .f32) (i : Fin 16640) (j : Fin 1024) :
    join k v (ix2 i j) = if h : j.val < 512 then k (ix3 i ⟨j.val / 128, by omega⟩ ⟨j.val % 128, by omega⟩) else v (ix2 i ⟨j.val - 512, by omega⟩) := by
  pointwise [join]

/-- The heads in the other order: each lane's partner, with the sign. -/
theorem turned_eq (n : FVec Ideal S16384x4x128 .f32) (i : Fin 16384) (a : Fin 4) (d : Fin 128) :
    turned (second n) (first n) (ix3 i a d) = Rope.turned (fun k => n (ix3 i a k)) d := by
  rw [turned_apply, ← Rope.turned_of]
  by_cases h : d.val / 32 % 2 < 1
  · rw [dif_pos h, if_pos h, Subsingleton.elim (⟨d.val / 32 % 2, h⟩ : Fin 1) 0, second_apply]
  · rw [dif_neg h, if_neg h, Subsingleton.elim (⟨d.val / 32 % 2 - 1, by omega⟩ : Fin 1) 0, first_apply]

/-- The table of a token: the latent tokens' own, then a constant. -/
def tab (c : FVec Ideal S16384x128 .f32) (o : EReal) (i : Fin 16640) (d : Fin 128) : EReal := if h : i.val < 16384 then c (ix2 ⟨i.val, h⟩ d) else o

/-- The signed sines of a token: the latent tokens' own, then zero. -/
def signed (s : FVec Ideal S16384x128 .f32) (i : Fin 16640) (d : Fin 128) : EReal := if h : i.val < 16384 then s (ix2 ⟨i.val, h⟩ d) * Rope.sign d else 0

/-- A lane of a head, rotated where latent. -/
theorem roped_apply (n : FVec Ideal S16640x4x128 .f32) (c s : FVec Ideal S16384x128 .f32) (i : Fin 16640) (a : Fin 4) (d : Fin 128) :
    roped n c s (ix3 i a d) = Rope.spin (fun k => n (ix3 i a k)) (tab c 1 i d) (signed s i d) d := by
  unfold roped tab signed
  rw [tokens_apply]
  by_cases h : i.val < 16384
  · rw [dif_pos h, dif_pos h, dif_pos h, rotated_apply, turned_eq, Rope.spin_sign]
    simp only [latent_apply]
  · have e : (⟨16384 + (i.val - 16384), by omega⟩ : Fin 16640) = i := Fin.ext (by show 16384 + (i.val - 16384) = i.val; omega)
    rw [dif_neg h, dif_neg h, dif_neg h, context_apply, Rope.spin_still, e]

/-- An entry of the result. -/
theorem result_apply (p : FVec Ideal S16640x1024 .f32) (g : FVec Ideal S4x2x128 .f32) (c s : FVec Ideal S16384x128 .f32) (i : Fin 16640) (j : Fin 1024) :
    result p g c s (ix2 i j) = if h : j.val < 512 then
      Rope.spin (Rope.row (fun k => p (ix2 i ⟨j.val / 128 * 128 + k.val, by omega⟩)) (fun k => g (ix3 0 1 k))) (tab c 1 i ⟨j.val % 128, by omega⟩)
        (signed s i ⟨j.val % 128, by omega⟩) ⟨j.val % 128, by omega⟩
      else p (ix2 i j) := by
  unfold result
  rw [join_apply]
  by_cases h : j.val < 512
  · rw [dif_pos h, dif_pos h, roped_apply]
    simp only [normed_apply, heads_apply]
  · have e : (⟨512 + (j.val - 512), by omega⟩ : Fin 1024) = j := Fin.ext (by show 512 + (j.val - 512) = j.val; omega)
    rw [dif_neg h, dif_neg h, values_apply, e]

end Cert.ReferenceProjKVIdeal.ProjKV

namespace Cert.KernelProjKVIdeal.ProjKV

open Cert.KernelProjKVIdeal Cert.KernelProjKVIdeal.Gen Idealize.ShloMosaic Idealize.ShloMosaic.Pointwise Idealize.ShloMosaic.TcCoe Idealize.SL.Sem

open Cert.KernelProjVIdeal

variable (m : (ℓ : Loc nD τ sig) → Buf (Elt Ideal) ℓ)

/-- Which lanes of the first half of their half. -/
def low : IVec S128 1 :=
  let d : IVec S_ 32 := select (cmpi .eq (constantI S_ 32 64#32) (constantI S_ 32 0#32)) (constantI S_ 32 1#32) (constantI S_ 32 64#32)
  let r : IVec S128 32 := Host.remsi (iotaInDim S128 32 0) (broadcastInDim S128 ![] bcast_S_S128 d)
  let z : IVec S128 32 := broadcastInDim S128 ![] bcast_S_S128 (constantI S_ 32 0#32)
  cmpi .slt (select (andi (cmpi .ne (cmpi .slt r z) (broadcastInDim S128 ![] bcast_S_S128 (cmpi .slt d (constantI S_ 32 0#32)))) (cmpi .ne r z))
      (addi r (broadcastInDim S128 ![] bcast_S_S128 d)) r) (broadcastInDim S128 ![] bcast_S_S128 (constantI S_ 32 32#32))

theorem low_apply : ∀ j : Fin 128, low (ix1 j) = if j.val % 64 < 32 then 1#1 else 0#1 := by decide +kernel

/-- The signs of the lanes. -/
def signs : FVec Ideal S128 .f32 :=
  select low (broadcastInDim S128 ![] bcast_S_S128 (constant S_ .f32 0xBF800000#32)) (broadcastInDim S128 ![] bcast_S_S128 (constant S_ .f32 0x3F800000#32))

/-- The word of minus one. -/
theorem minus_one : Ideal.ofBits .f32 0xBF800000#32 = -1 := by
  simp [Ideal.ofBits, Ideal.ieee, -EReal.coe_mul]
  norm_num

theorem signs_apply (j : Fin 128) : signs (ix1 j) = Rope.sign j := by
  pointwise [signs]
  rw [low_apply]
  unfold Rope.sign
  by_cases h : j.val % 64 < 32
  · rw [if_pos h, if_pos h]
    exact (if_pos rfl).trans minus_one
  · rw [if_neg h, if_neg h]
    exact if_neg (by decide)

/-- The signed sines of a token, by the kernel's signs. -/
def sine (s : FVec Ideal S16384x128 .f32) (i : Fin 16640) (d : Fin 128) : EReal := if h : i.val < 16384 then s (ix2 ⟨i.val, h⟩ d) * signs (ix1 d) else 0

/-- The table of signed sines. -/
theorem sines (c : Dev nD) (i : Fin 16640) (j : Fin 128) :
    V m c main_v12 (ix2 i j) = Cert.ReferenceProjKVIdeal.ProjKV.signed (m ((c.tc : Thread nD τ).loc main_arg4)) i j := by
  have h : V m c main_v12 (ix2 i j) = sine (m ((c.tc : Thread nD τ).loc main_arg4)) i j := by
    unfold V
    simp only [hostOps0, hostOps0_1, hostOps0_2, hostOps0_3, hostOps0_4, List.flatten_cons, List.flatten_nil, List.append_nil, List.cons_append, List.nil_append]
    after_results_simp
    pointwise
    rfl
  rw [h]
  unfold sine Cert.ReferenceProjKVIdeal.ProjKV.signed
  rw [signs_apply]

/-- The table of cosines. -/
theorem cosines (c : Dev nD) (i : Fin 16640) (j : Fin 128) :
    V m c main_v7 (ix2 i j) = Cert.ReferenceProjKVIdeal.ProjKV.tab (m ((c.tc : Thread nD τ).loc main_arg3)) 1 i j := by
  unfold V
  simp only [hostOps0, hostOps0_1, hostOps0_2, hostOps0_3, hostOps0_4, List.flatten_cons, List.flatten_nil, List.append_nil, List.cons_append, List.nil_append]
  after_results_simp
  pointwise
  rfl

/-- The norm's weights. -/
theorem gains (c : Dev nD) (j : Fin 128) : V m c main_v13 (ix4 0 1 0 j) = (m ((c.tc : Thread nD τ).loc main_arg2) : FVec Ideal S4x2x128 .f32) (ix3 0 1 j) := by
  unfold V
  simp only [hostOps0, hostOps0_1, hostOps0_2, hostOps0_3, hostOps0_4, List.flatten_cons, List.flatten_nil, List.append_nil, List.cons_append, List.nil_append]
  after_results_simp
  pointwise

/-- Which lanes of the heads are in the first quarter of their half. -/
def mask : IVec S1040x128 1 :=
  cmpi .slt (andi (iota .tc S1040x128 32 [1] iota_S1040x128_d1_w32) (broadcast S1040x128 63#32)) (broadcast S1040x128 32#32)

theorem mask_apply (r : Fin 1040) (l : Fin 128) : mask (ix2 r l) = if l.val % 64 < 32 then 1#1 else 0#1 := by
  have h : ∀ l : Fin 128, mask (ix2 (0 : Fin 1040) l) = if l.val % 64 < 32 then 1#1 else 0#1 := by decide +kernel
  exact (show mask (ix2 r l) = mask (ix2 (0 : Fin 1040) l) by pointwise [mask]).trans (h l)

/-- The lanes moved to their partners. -/
def turn (v : FVec Ideal S1040x128 .f32) : FVec Ideal S1040x128 .f32 :=
  select mask (dynamicRotate 1 96#32 none v rotates_S1040x128_d1) (dynamicRotate 1 32#32 none v rotates_S1040x128_d1)

theorem turn_apply (v : FVec Ideal S1040x128 .f32) (r : Fin 1040) (l : Fin 128) : turn v (ix2 r l) = v (ix2 r (Rope.partner l)) := by
  pointwise [turn]
  rw [mask_apply]
  unfold Rope.partner
  by_cases h : l.val % 64 < 32
  · rw [if_pos h, if_pos h]
    exact if_pos rfl
  · rw [if_neg h, if_neg h]
    exact if_neg (by decide)

/-- A head rotated by its tables, times a number. -/
def spun (n c s : FVec Ideal S1040x128 .f32) (o : EReal) : FVec Ideal S1040x128 .f32 :=
  mulf (addf (mulf n c) (mulf (turn n) s)) (broadcast S1040x128 (o : Ideal .f32))

theorem spun_apply (n c s : FVec Ideal S1040x128 .f32) (o : EReal) (r : Fin 1040) (l : Fin 128) :
    spun n c s o (ix2 r l) = Rope.spin (fun k => n (ix2 r k)) (c (ix2 r l)) (s (ix2 r l)) l * o := by
  show _ = (n (ix2 r l) * c (ix2 r l) + n (ix2 r (Rope.partner l)) * s (ix2 r l)) * o
  rw [← turn_apply n]
  pointwise [spun]

/-- The weights of the norm as a row, and a table of the block's rows. -/
def gain (g : Vec Ideal S1x1x1x128 .f32) : FVec Ideal S1x128 .f32 := shapeCast S1x128 g shapeCasts_S1x1x1x128_S1x128
def rows (c : Vec Ideal S1040x128 .f32) : FVec Ideal S1040x128 .f32 := shapeCast S1040x128 c shapeCasts_S1040x128_S1040x128

theorem gain_apply (g : Vec Ideal S1x1x1x128 .f32) (l : Fin 128) : gain g (ix2 0 l) = g (ix4 0 0 0 l) := by
  pointwise [gain]
theorem rows_apply (c : Vec Ideal S1040x128 .f32) (r : Fin 1040) (l : Fin 128) : rows c (ix2 r l) = c (ix2 r l) := by
  pointwise [rows]

/-- Two heads of a step's columns, normed, rotated and scaled. -/
def heads (v : FVec Ideal S1040x256 .f32) (g : Vec Ideal S1x1x1x128 .f32) (c s : Vec Ideal S1040x128 .f32) (o : EReal) : FVec Ideal S1040x256 .bf16 :=
  ProjV.pair (spun (ProjV.normed (ProjV.low v) (gain g)) (rows c) (rows s) o) (spun (ProjV.normed (ProjV.high v) (gain g)) (rows c) (rows s) o)

/-- An entry of two heads: that of the head it lies in. -/
theorem heads_apply (v : FVec Ideal S1040x256 .f32) (g : Vec Ideal S1x1x1x128 .f32) (c s : Vec Ideal S1040x128 .f32) (o : EReal) (r : Fin 1040) (l : Fin 256) :
    heads v g c s o (ix2 r l) = Rope.spin (Rope.row (fun k => v (ix2 r ⟨l.val / 128 * 128 + k.val, by omega⟩)) (fun k => g (ix4 0 0 0 k)))
      (c (ix2 r ⟨l.val % 128, by omega⟩)) (s (ix2 r ⟨l.val % 128, by omega⟩)) ⟨l.val % 128, by omega⟩ * o := by
  unfold heads
  rw [ProjV.pair_apply]
  by_cases hl : l.val < 128
  · have e : ∀ k : Fin 128, (⟨l.val / 128 * 128 + k.val, by omega⟩ : Fin 256) = ⟨k.val, by omega⟩ := fun k => Fin.ext (by show l.val / 128 * 128 + k.val = k.val; omega)
    have e' : (⟨l.val % 128, by omega⟩ : Fin 128) = ⟨l.val, hl⟩ := Fin.ext (by show l.val % 128 = l.val; omega)
    rw [dif_pos hl, spun_apply, rows_apply, rows_apply, e']
    simp only [ProjV.normed_apply, ProjV.low_apply, gain_apply, e]
    rfl
  · have e : ∀ k : Fin 128, (⟨l.val / 128 * 128 + k.val, by omega⟩ : Fin 256) = ⟨128 + k.val, by omega⟩ := fun k => Fin.ext (by show l.val / 128 * 128 + k.val = 128 + k.val; omega)
    have e' : (⟨l.val % 128, by omega⟩ : Fin 128) = ⟨l.val - 128, by omega⟩ := Fin.ext (by show l.val % 128 = l.val - 128; omega)
    rw [dif_neg hl, spun_apply, rows_apply, rows_apply, e']
    simp only [ProjV.normed_apply, ProjV.high_apply, gain_apply, e]
    rfl

/-- The product of a step's columns. -/
def cols (x : Vec Ideal S1040x4096 .bf16) (w : Vec Ideal S1x4096x256 .bf16) : FVec Ideal S1040x256 .f32 := k0_pay4 (F := Ideal) x w

theorem cols_apply (x : Vec Ideal S1040x4096 .bf16) (w : Vec Ideal S1x4096x256 .bf16) (r : Fin 1040) (l : Fin 256) :
    cols x w (ix2 r l) = ∑ k : Fin 4096, x (ix2 r k) * w (ix3 0 k l) := by
  pointwise [cols, k0_pay4]

/-- The product at a row and a column of the block. -/
def cell (x : Vec Ideal S1040x4096 .bf16) (w : Vec Ideal S1x4096x1024 .bf16) (r : Fin 1040) (l : Fin 1024) : EReal :=
  ∑ k : Fin 4096, x (ix2 r k) * w (ix3 0 k l)

/-- The normed, rotated and scaled head's entry at a row and a column of the block. -/
def lane (x : Vec Ideal S1040x4096 .bf16) (w : Vec Ideal S1x4096x1024 .bf16) (g : Vec Ideal S1x1x1x128 .f32) (c s : Vec Ideal S1040x128 .f32) (o : EReal)
    (r : Fin 1040) (l : Fin 1024) : EReal :=
  Rope.spin (Rope.row (fun k => cell x w r ⟨l.val / 128 * 128 + k.val, by omega⟩) (fun k => g (ix4 0 0 0 k)))
    (c (ix2 r ⟨l.val % 128, by omega⟩)) (s (ix2 r ⟨l.val % 128, by omega⟩)) ⟨l.val % 128, by omega⟩ * o

/-- Where a step's columns lie in the block. -/
theorem place (o : ℕ) (inb : ∀ a, (![0, o] : Fin 2 → ℕ) a + S1040x256.size a ≤ S1040x1024.size a) (r : Fin 1040) (l : Fin 256) (h : o + l.val < 1024) :
    (Rect.unit (s := S1040x1024) ![0, o] S1040x256.size inb).emb (ix2 r l : S1040x256.Idx) = (ix2 r ⟨o + l.val, h⟩ : S1040x1024.Idx) := by
  funext a
  refine Fin.ext ((Rect.idx_unit_val (s := S1040x1024) ![0, o] S1040x256.size inb (ix2 r l : S1040x256.Idx) a).trans ?_)
  match a with
  | 0 => exact Nat.zero_add _
  | 1 => rfl

/-- A step's product is the block's. -/
theorem cols_eq (o : ℕ) (ho : o + 256 ≤ 1024) (inbw : ∀ a, (![0, 0, o] : Fin 3 → ℕ) a + S1x4096x256.size a ≤ S1x4096x1024.size a)
    (x : Vec Ideal S1040x4096 .bf16) (w : Vec Ideal S1x4096x1024 .bf16) (r : Fin 1040) (l : Fin 256) :
    cols x (View.ld w (Rect.unit (s := S1x4096x1024) ![0, 0, o] S1x4096x256.size inbw)) (ix2 r l) = cell x w r ⟨o + l.val, by omega⟩ := by
  rw [cols_apply]
  refine Finset.sum_congr rfl fun k _ => congrArg (x (ix2 r k) * ·) (congrArg w (funext fun a => Fin.ext
    ((Rect.idx_unit_val (s := S1x4096x1024) ![0, 0, o] S1x4096x256.size inbw (ix3 0 k l : S1x4096x256.Idx) a).trans ?_)))
  match a with
  | 0 => rfl
  | 1 => exact Nat.zero_add _
  | 2 => rfl

/-- What a step of values stores. -/
def plain (x : Vec Ideal S1040x4096 .bf16) (w : Vec Ideal S1x4096x256 .bf16) : FVec Ideal S1040x256 .bf16 := truncf .bf16 (cols x w) bitsLt_bf16_f32

theorem plain_eq (o : ℕ) (ho : o + 256 ≤ 1024) (inbw : ∀ a, (![0, 0, o] : Fin 3 → ℕ) a + S1x4096x256.size a ≤ S1x4096x1024.size a)
    (x : Vec Ideal S1040x4096 .bf16) (w : Vec Ideal S1x4096x1024 .bf16) (r : Fin 1040) (l : Fin 256) :
    plain (View.ld x r0_0) (View.ld w (Rect.unit (s := S1x4096x1024) ![0, 0, o] S1x4096x256.size inbw)) (ix2 r l) = cell x w r ⟨o + l.val, by omega⟩ := by
  have h : ∀ v, plain v (View.ld w (Rect.unit (s := S1x4096x1024) ![0, 0, o] S1x4096x256.size inbw)) (ix2 r l) = cols v (View.ld w (Rect.unit (s := S1x4096x1024) ![0, 0, o] S1x4096x256.size inbw)) (ix2 r l) := fun v => by pointwise [plain]
  rw [h, View.ld_unit_zero (by decide), cols_eq o ho]

/-- What a step of heads stores. -/
theorem heads_eq (o : ℕ) (ho : 128 ∣ o) (inbw : ∀ a, (![0, 0, o] : Fin 3 → ℕ) a + S1x4096x256.size a ≤ S1x4096x1024.size a)
    (x : Vec Ideal S1040x4096 .bf16) (w : Vec Ideal S1x4096x1024 .bf16) (g : Vec Ideal S1x1x1x128 .f32) (c s : Vec Ideal S1040x128 .f32) (q : EReal)
    (r : Fin 1040) (l : Fin 256) (h : o + l.val < 1024) :
    heads (cols (View.ld x r0_0) (View.ld w (Rect.unit (s := S1x4096x1024) ![0, 0, o] S1x4096x256.size inbw)))
        (View.ld g r0_2) (View.ld c r0_3) (View.ld s r0_3) q (ix2 r l)
      = lane x w g c s q r ⟨o + l.val, h⟩ := by
  have ho' : o + 256 ≤ 1024 := inbw 2
  have hk : ∀ k : Fin 128, (⟨o + (l.val / 128 * 128 + k.val), by omega⟩ : Fin 1024) = ⟨(o + l.val) / 128 * 128 + k.val, by omega⟩ :=
    fun k => Fin.ext (by show o + (l.val / 128 * 128 + k.val) = (o + l.val) / 128 * 128 + k.val; omega)
  have hl : (⟨l.val % 128, by omega⟩ : Fin 128) = ⟨(o + l.val) % 128, by omega⟩ := Fin.ext (by show l.val % 128 = (o + l.val) % 128; omega)
  rw [heads_apply, View.ld_unit_zero (by decide), View.ld_unit_zero (by decide), View.ld_unit_zero (by decide), View.ld_unit_zero (by decide), hl]
  simp only [cols_eq o ho', hk]
  rfl

/-- The block of keys and values: heads on the left, products on the right. -/
def block (x : Vec Ideal S1040x4096 .bf16) (w : Vec Ideal S1x4096x1024 .bf16) (g : Vec Ideal S1x1x1x128 .f32) (c s : Vec Ideal S1040x128 .f32) : Vec Ideal S1040x1024 .bf16 :=
  fun y => if (y 1).val < 512 then lane x w g c s (Ideal.ofBits .f32 0x3F800000#32) (y 0) (y 1) else cell x w (y 0) (y 1)

/-- The four steps' stores. -/
theorem head_eq (x : Vec Ideal S1040x4096 .bf16) (w : Vec Ideal S1x4096x256 .bf16) (g : Vec Ideal S1x1x1x128 .f32) (c s : Vec Ideal S1040x128 .f32) :
    k0_pay8 (F := Ideal) x w g c s = spun (ProjV.normed (ProjV.low (cols x w)) (gain g)) (rows c) (rows s) (Ideal.ofBits .f32 0x3F800000#32) := rfl
theorem step0_eq (x : Vec Ideal S1040x4096 .bf16) (w : Vec Ideal S1x4096x256 .bf16) (g : Vec Ideal S1x1x1x128 .f32) (c s : Vec Ideal S1040x128 .f32) :
    k0_pay9 (F := Ideal) (k0_pay4 x w) (k0_pay5 g) (k0_pay6 c) (k0_pay7 s) (k0_pay8 x w g c s) = heads (cols x w) g c s (Ideal.ofBits .f32 0x3F800000#32) := by
  rw [head_eq]
  rfl
theorem head'_eq (v : FVec Ideal S1040x256 .f32) (g : Vec Ideal S1x1x1x128 .f32) (c s : Vec Ideal S1040x128 .f32) :
    k0_pay14 (F := Ideal) v (k0_pay11 g) (k0_pay12 c) s = spun (ProjV.normed (ProjV.low v) (gain g)) (rows c) (rows s) (Ideal.ofBits .f32 0x3F800000#32) := rfl
theorem norm_eq (v : FVec Ideal S1040x256 .f32) (g : Vec Ideal S1x1x1x128 .f32) : k0_pay15 (F := Ideal) v (k0_pay11 g) = ProjV.normed (ProjV.high v) (gain g) := rfl
theorem step1_eq (x : Vec Ideal S1040x4096 .bf16) (w : Vec Ideal S1x4096x256 .bf16) (g : Vec Ideal S1x1x1x128 .f32) (c s : Vec Ideal S1040x128 .f32) :
    k0_pay1 (F := Ideal) (k0_pay12 c) (k0_pay13 s) (k0_pay14 (k0_pay10 x w) (k0_pay11 g) (k0_pay12 c) s) (k0_pay15 (k0_pay10 x w) (k0_pay11 g)) k0_pay16 (k0_pay17 (k0_pay10 x w) (k0_pay11 g))
      = heads (cols x w) g c s (Ideal.ofBits .f32 0x3F800000#32) := by
  unfold k0_pay17
  rw [head'_eq, norm_eq]
  rfl
theorem step2_eq (x : Vec Ideal S1040x4096 .bf16) (w : Vec Ideal S1x4096x256 .bf16) : k0_pay2 (F := Ideal) x w = plain x w := rfl
theorem step3_eq (x : Vec Ideal S1040x4096 .bf16) (w : Vec Ideal S1x4096x256 .bf16) : k0_pay3 (F := Ideal) x w = plain x w := rfl

/-- The body leaves the block. -/
theorem out_eq (x : Vec Ideal S1040x4096 .bf16) (w : Vec Ideal S1x4096x1024 .bf16) (g : Vec Ideal S1x1x1x128 .f32) (c s : Vec Ideal S1040x128 .f32) :
    out0_5 (F := Ideal) x w g c s = block x w g c s := by
  unfold_out out0_5
  rw [step0_eq, step1_eq, step2_eq, step3_eq]
  funext y
  refine View.canon_apply_of_pieces (block x w g c s) _ (fun p hp => ?_) y (cover0_5 _ _ _ _ y)
  have hi : ∀ z : S1040x256.Idx, ∃ (r : Fin 1040) (l : Fin 256), z = (ix2 r l : S1040x256.Idx) := fun z =>
    ⟨z 0, z 1, by funext a; match a with | 0 => rfl | 1 => rfl⟩
  simp only [List.mem_cons, List.not_mem_nil, or_false] at hp
  rcases hp with rfl | rfl | rfl | rfl <;> intro z <;> obtain ⟨r, l, rfl⟩ := hi z
  · refine (plain_eq 768 (by decide) (by decide) x w r l).trans ?_
    exact ((congrArg (block x w g c s) (place 768 (by decide) r l (by omega))).trans (if_neg (by show ¬768 + l.val < 512; omega))).symm
  · refine (plain_eq 512 (by decide) (by decide) x w r l).trans ?_
    exact ((congrArg (block x w g c s) (place 512 (by decide) r l (by omega))).trans (if_neg (by show ¬512 + l.val < 512; omega))).symm
  · refine (heads_eq 256 (by decide) (by decide) x w g c s _ r l (by omega)).trans ?_
    exact ((congrArg (block x w g c s) (place 256 (by decide) r l (by omega))).trans (if_pos (by show 256 + l.val < 512; omega))).symm
  · refine (heads_eq 0 (by decide) (by decide) x w g c s _ r l (by omega)).trans ?_
    exact ((congrArg (block x w g c s) (place 0 (by decide) r l (by omega))).trans (if_pos (by show 0 + l.val < 512; omega))).symm

/-- Which block each window holds at a point. -/
theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 ∧ (cfg0.win 1).index t 2 = 2 := by decide +kernel
theorem idx2 : ∀ t : Fin cfg0.N, (cfg0.win 2).index t 0 = 0 ∧ (cfg0.win 2).index t 1 = 1 ∧ (cfg0.win 2).index t 2 = 0 ∧ (cfg0.win 2).index t 3 = 0 := by decide +kernel
theorem idx3 : ∀ t : Fin cfg0.N, (cfg0.win 3).index t 0 = t.val ∧ (cfg0.win 3).index t 1 = 0 := by decide +kernel
theorem idx4 : ∀ t : Fin cfg0.N, (cfg0.win 4).index t 0 = t.val ∧ (cfg0.win 4).index t 1 = 0 := by decide +kernel
theorem idx5 : ∀ t : Fin cfg0.N, (cfg0.win 5).index t 0 = t.val ∧ (cfg0.win 5).index t 1 = 0 := by decide +kernel

/-- The block of inputs is a range of rows. -/
theorem read0 (c : Dev nD) (t : Fin cfg0.N) (i : Fin 1040) (j : Fin 4096) (i' : Fin 16640) (hi : i'.val = 1040 * t.val + i.val) :
    (Gen.iblk m c 0 t : Vec Ideal S1040x4096 .bf16) (ix2 i j) = (m ((c.tc : Thread nD τ).loc main_arg0) : FVec Ideal S16640x4096 .bf16) (ix2 i' j) := by
  have e := idx0 t
  show V m c main_arg0 (((cfg0.win 0).blk t).view.emb (ix2 i j)) = _
  rw [V_main_arg0]
  blk_ext [e]

/-- The block of weights is a range of columns. -/
theorem read1 (c : Dev nD) (t : Fin cfg0.N) (i : Fin 4096) (j : Fin 1024) (k : Fin 8192) (hk : k.val = 2048 + j.val) :
    (Gen.iblk m c 1 t : Vec Ideal S1x4096x1024 .bf16) (ix3 0 i j) = (m ((c.tc : Thread nD τ).loc main_arg1) : FVec Ideal S4x4096x8192 .bf16) (ix3 0 i k) := by
  have e := idx1 t
  show V m c main_arg1 (((cfg0.win 1).blk t).view.emb (ix3 0 i j)) = _
  rw [V_main_arg1]
  blk_ext [e]

/-- The weights of the norm. -/
theorem read2 (c : Dev nD) (t : Fin cfg0.N) (j : Fin 128) :
    (Gen.iblk m c 2 t : Vec Ideal S1x1x1x128 .f32) (ix4 0 0 0 j) = (m ((c.tc : Thread nD τ).loc main_arg2) : FVec Ideal S4x2x128 .f32) (ix3 0 1 j) := by
  have e := idx2 t
  have h : ((cfg0.win 2).blk t).view.emb (ix4 0 0 0 j) = (ix4 0 1 0 j : S4x2x1x128.Idx) := by blk_ext [e]
  show V m c main_v13 (((cfg0.win 2).blk t).view.emb (ix4 0 0 0 j)) = _
  rw [h]
  exact gains m c j

/-- The block of cosines. -/
theorem read3 (c : Dev nD) (t : Fin cfg0.N) (i : Fin 1040) (j : Fin 128) (i' : Fin 16640) (hi : i'.val = 1040 * t.val + i.val) :
    (Gen.iblk m c 3 t : Vec Ideal S1040x128 .f32) (ix2 i j) = Cert.ReferenceProjKVIdeal.ProjKV.tab (m ((c.tc : Thread nD τ).loc main_arg3)) 1 i' j := by
  have e := idx3 t
  have h : ((cfg0.win 3).blk t).view.emb (ix2 i j) = (ix2 i' j : S16640x128.Idx) := by blk_ext [e]
  show V m c main_v7 (((cfg0.win 3).blk t).view.emb (ix2 i j)) = _
  rw [h]
  exact cosines m c i' j

/-- The block of signed sines. -/
theorem read4 (c : Dev nD) (t : Fin cfg0.N) (i : Fin 1040) (j : Fin 128) (i' : Fin 16640) (hi : i'.val = 1040 * t.val + i.val) :
    (Gen.iblk m c 4 t : Vec Ideal S1040x128 .f32) (ix2 i j) = Cert.ReferenceProjKVIdeal.ProjKV.signed (m ((c.tc : Thread nD τ).loc main_arg4)) i' j := by
  have e := idx4 t
  have h : ((cfg0.win 4).blk t).view.emb (ix2 i j) = (ix2 i' j : S16640x128.Idx) := by blk_ext [e]
  show V m c main_v12 (((cfg0.win 4).blk t).view.emb (ix2 i j)) = _
  rw [h]
  exact sines m c i' j

/-- The word of one. -/
theorem one : Ideal.ofBits .f32 0x3F800000#32 = 1 := by
  simp [Ideal.ofBits, Ideal.ieee, -EReal.coe_mul]
  norm_num

/-- The blocks give the block of the reference's result. -/
theorem tile (a0 : FVec Ideal S16640x4096 .bf16) (a1 : FVec Ideal S4x4096x8192 .bf16) (a2 : FVec Ideal S4x2x128 .f32) (a3 a4 : FVec Ideal S16384x128 .f32)
    (x : Vec Ideal S1040x4096 .bf16) (w : Vec Ideal S1x4096x1024 .bf16) (g : Vec Ideal S1x1x1x128 .f32) (c s : Vec Ideal S1040x128 .f32)
    (r : Fin 1040) (l : Fin 1024) (i : Fin 16640)
    (hx : ∀ k : Fin 4096, x (ix2 r k) = a0 (ix2 i k)) (hw : ∀ (k : Fin 4096) (l : Fin 1024), w (ix3 0 k l) = a1 (ix3 0 k ⟨2048 + l.val, by omega⟩))
    (hg : ∀ l : Fin 128, g (ix4 0 0 0 l) = a2 (ix3 0 1 l)) (hc : ∀ l : Fin 128, c (ix2 r l) = Cert.ReferenceProjKVIdeal.ProjKV.tab a3 1 i l)
    (hs : ∀ l : Fin 128, s (ix2 r l) = Cert.ReferenceProjKVIdeal.ProjKV.signed a4 i l) :
    block x w g c s (ix2 r l) = Cert.ReferenceProjKVIdeal.ProjKV.result (F := Ideal) (Cert.ReferenceProjKVIdeal.ProjKV.prod a0 a1) a2 a3 a4 (ix2 i l) := by
  have hp : ∀ l : Fin 1024, Cert.ReferenceProjKVIdeal.ProjKV.prod (F := Ideal) a0 a1 (ix2 i l) = cell x w r l := by
    intro l
    rw [Cert.ReferenceProjKVIdeal.ProjKV.prod_apply]
    exact (Finset.sum_congr rfl fun k _ => congrArg₂ HMul.hMul (hx k) (hw k l)).symm
  rw [Cert.ReferenceProjKVIdeal.ProjKV.result_apply, ← hc, ← hs]
  simp only [← hg, hp]
  show (if l.val < 512 then lane x w g c s (Ideal.ofBits .f32 0x3F800000#32) r l else cell x w r l) = _
  unfold lane
  rw [one, mul_one]
  rfl

/-- The kernel's output array is the reference's result. -/
theorem arr_eq (c : Dev nD) :
    (Gen.dats m 0 c).arrAt 5 cfg0.N
      = Cert.ReferenceProjKVIdeal.ProjKV.result (F := Ideal) (Cert.ReferenceProjKVIdeal.ProjKV.prod (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  refine (Gen.dats m 0 c).arrAt_eq_of_covers 5 _ (by decide +kernel) fun t hf y => ?_
  blk_simp
  have ht : t.val < 16 := t.isLt
  have e := idx5 t
  obtain ⟨r, l, rfl⟩ : ∃ (r : Fin 1040) (l : Fin 1024), y = (ix2 r l : S1040x1024.Idx) :=
    ⟨y 0, y 1, by funext a; match a with | 0 => rfl | 1 => rfl⟩
  have hy : (win0_5.blk t).view.emb (ix2 r l : S1040x1024.Idx)
      = (ix2 ⟨1040 * t.val + r.val, by omega⟩ l : S16640x1024.Idx) := by
    blk_ext [e]
  rw [hy, after0_5, out_eq]
  exact tile _ _ _ _ _ _ _ _ _ _ r l _ (fun k => read0 m c t r k _ rfl) (fun k l => read1 m c t k l _ rfl) (fun l => read2 m c t l)
    (fun l => read3 m c t r l _ rfl) (fun l => read4 m c t r l _ rfl)

end Cert.KernelProjKVIdeal.ProjKV

end
-- ==== Proof.ProjQ.lean ====
module

public import proofs.«01_k».proof.Proof.Gen.KernelProjQIdeal.Value
public import proofs.«01_k».proof.Proof.Gen.ReferenceProjQIdeal.Run
public import proofs.«01_k».proof.Proof.Scale
public import proofs.«01_k».proof.Proof.ProjKV
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Claim

/-! The projection to the global attention's queries: every block of the kernel's output holds the reference's result. -/

@[expose] public section

set_option maxRecDepth 16384

noncomputable section

namespace Cert.ReferenceProjQIdeal.ProjQ

open Cert.ReferenceProjQIdeal Cert.ReferenceProjQIdeal.Gen Cert.ReferenceProjQIdeal.Value Idealize.ShloMosaic Idealize.ShloMosaic.Pointwise Idealize.ShloMosaic.TcCoe Idealize.SL.Sem Idealize.ShloMosaic.StableHlo

open Cert.ReferenceProjKVIdeal

variable {F : FTy → Type} [FloatOps F]

/-- The product of the rows with the queries' columns of the first layer's weights. -/
def prod (h : FVec F S16640x4096 .bf16) (w : FVec F S4x4096x8192 .bf16) : FVec F S16640x2048 .f32 :=
  Host.dotGeneral dot_S16640x4096_S4096x2048_S16640x2048_1_0_0_1_n_n none (extf .f32 h bitsLt_bf16_f32)
    (extractStridedSlice S4096x2048 ![0, 0] (extf .f32 (shapeCast S4096x8192 (extractStridedSlice S1x4096x8192 ![0, 0, 0] w slices_S4x4096x8192_S1x4096x8192_0_0_0) shapeCasts_S1x4096x8192_S4096x8192) bitsLt_bf16_f32) slices_S4096x8192_S4096x2048_0_0)

/-- The product's columns by heads. -/
def heads (p : FVec F S16640x2048 .f32) : FVec F S16640x16x128 .f32 :=
  shapeCast S16640x16x128 p shapeCasts_S16640x2048_S16640x16x128

/-- The sums of the heads' squares. -/
def squares (h : FVec F S16640x16x128 .f32) : FVec F S16640x16 .f32 :=
  Host.reduceAdd (mulf h h) (constant S_ .f32 0x00000000#32) reducesTo_S16640x16x128_S16640x16_d2 h_S_

/-- The heads' scales, from the sums of their squares. -/
def scales (q : FVec F S16640x16 .f32) : FVec F S16640x16x1 .f32 :=
  Host.rsqrt (addf (Host.divf (broadcastInDim S16640x16x1 ![0, 1] bcast_S16640x16_S16640x16x1_0_1 q) (broadcastInDim S16640x16x1 ![] bcast_S_S16640x16x1 (constant S_ .f32 0x43000000#32)))
    (broadcastInDim S16640x16x1 ![] bcast_S_S16640x16x1 (constant S_ .f32 0x358637BD#32)))

/-- The first layer's weights of the queries' norm. -/
def weights (g : FVec F S4x2x128 .f32) : FVec F S128 .f32 :=
  shapeCast S128 (extractStridedSlice S1x1x128 ![0, 0, 0] g slices_S4x2x128_S1x1x128_0_0_0) shapeCasts_S1x1x128_S128

/-- The heads times their scales and the weights. -/
def scaled (h : FVec F S16640x16x128 .f32) (s : FVec F S16640x16x1 .f32) (g : FVec F S128 .f32) : FVec F S16640x16x128 .f32 :=
  mulf (mulf h (broadcastInDim S16640x16x128 ![0, 1, 2] bcast_S16640x16x1_S16640x16x128_0_1_2 s))
    (broadcastInDim S16640x16x128 ![0, 1, 2] bcast_S1x1x128_S16640x16x128_0_1_2 (broadcastInDim S1x1x128 ![2] bcast_S128_S1x1x128_2 g))

/-- The normed heads. -/
def normed (h : FVec F S16640x16x128 .f32) (g : FVec F S4x2x128 .f32) : FVec F S16640x16x128 .f32 := scaled h (scales (squares h)) (weights g)

/-- The latent tokens' heads, and the context tokens'. -/
def latent (n : FVec F S16640x16x128 .f32) : FVec F S16384x16x128 .f32 := extractStridedSlice S16384x16x128 ![0, 0, 0] n slices_S16640x16x128_S16384x16x128_0_0_0
def context (n : FVec F S16640x16x128 .f32) : FVec F S256x16x128 .f32 := extractStridedSlice S256x16x128 ![16384, 0, 0] n slices_S16640x16x128_S256x16x128_16384_0_0

/-- The second quarters of the halves, negated, and the first. -/
def second (n : FVec F S16384x16x128 .f32) : FVec F S16384x16x2x1x32 .f32 :=
  broadcastInDim S16384x16x2x1x32 ![0, 1, 2, 4] bcast_S16384x16x2x32_S16384x16x2x1x32_0_1_2_4 (Host.negf (shapeCast S16384x16x2x32 (extractStridedSlice S16384x16x2x1x32 ![0, 0, 0, 1, 0] (shapeCast S16384x16x2x2x32 n shapeCasts_S16384x16x128_S16384x16x2x2x32) slices_S16384x16x2x2x32_S16384x16x2x1x32_0_0_0_1_0) shapeCasts_S16384x16x2x1x32_S16384x16x2x32))
def first (n : FVec F S16384x16x128 .f32) : FVec F S16384x16x2x1x32 .f32 :=
  broadcastInDim S16384x16x2x1x32 ![0, 1, 2, 4] bcast_S16384x16x2x32_S16384x16x2x1x32_0_1_2_4 (shapeCast S16384x16x2x32 (extractStridedSlice S16384x16x2x1x32 ![0, 0, 0, 0, 0] (shapeCast S16384x16x2x2x32 n shapeCasts_S16384x16x128_S16384x16x2x2x32) slices_S16384x16x2x2x32_S16384x16x2x1x32_0_0_0_0_0) shapeCasts_S16384x16x2x1x32_S16384x16x2x32)

/-- The two in the other order. -/
def turned (a b : FVec F S16384x16x2x1x32 .f32) : FVec F S16384x16x128 .f32 :=
  shapeCast S16384x16x128 (concatenate S16384x16x2x2x32 3 [⟨S16384x16x2x1x32, a⟩, ⟨S16384x16x2x1x32, b⟩] concatenates_S16384x16x2x1x32_S16384x16x2x1x32_S16384x16x2x2x32_d3) shapeCasts_S16384x16x2x2x32_S16384x16x128

/-- The latent heads times the cosines plus the turned ones times the sines. -/
def rotated (n t : FVec F S16384x16x128 .f32) (c s : FVec F S16384x128 .f32) : FVec F S16384x16x128 .f32 :=
  addf (mulf n (broadcastInDim S16384x16x128 ![0, 1, 2] bcast_S16384x1x128_S16384x16x128_0_1_2 (broadcastInDim S16384x1x128 ![0, 2] bcast_S16384x128_S16384x1x128_0_2 c)))
    (mulf t (broadcastInDim S16384x16x128 ![0, 1, 2] bcast_S16384x1x128_S16384x16x128_0_1_2 (broadcastInDim S16384x1x128 ![0, 2] bcast_S16384x128_S16384x1x128_0_2 s)))

/-- The latent tokens' heads above the context tokens'. -/
def tokens (a : FVec F S16384x16x128 .f32) (b : FVec F S256x16x128 .f32) : FVec F S16640x16x128 .f32 :=
  concatenate S16640x16x128 0 [⟨S16384x16x128, a⟩, ⟨S256x16x128, b⟩] concatenates_S16384x16x128_S256x16x128_S16640x16x128_d0

/-- The heads of all tokens, rotated where latent. -/
def roped (n : FVec F S16640x16x128 .f32) (c s : FVec F S16384x128 .f32) : FVec F S16640x16x128 .f32 :=
  tokens (rotated (latent n) (turned (second (latent n)) (first (latent n))) c s) (context n)

/-- The reference's result from the rotated heads: over the root of the head's width and over the logarithm of two. -/
def flat (k : FVec F S16640x16x128 .f32) : FVec F S16640x2048 .bf16 :=
  truncf .bf16 (shapeCast S16640x2048 (Host.divf (Host.divf k (broadcastInDim S16640x16x128 ![] bcast_S_S16640x16x128 (Host.sqrt (constant S_ .f32 0x43000000#32))))
    (broadcastInDim S16640x16x128 ![] bcast_S_S16640x16x128 (Host.log (constant S_ .f32 0x40000000#32)))) shapeCasts_S16640x16x128_S16640x2048) bitsLt_bf16_f32

/-- The reference's result. -/
def result (p : FVec F S16640x2048 .f32) (g : FVec F S4x2x128 .f32) (c s : FVec F S16384x128 .f32) : FVec F S16640x2048 .bf16 :=
  flat (roped (normed (heads p) g) c s)

/-- A product's entry. -/
theorem prod_apply (h : FVec Ideal S16640x4096 .bf16) (w : FVec Ideal S4x4096x8192 .bf16) (i : Fin 16640) (j : Fin 2048) :
    prod h w (ix2 i j) = ∑ x : Fin 4096, h (ix2 i x) * w (ix3 0 x ⟨j.val, by omega⟩) := by
  pointwise [prod]

/-- An entry of a head. -/
theorem heads_apply (p : FVec Ideal S16640x2048 .f32) (i : Fin 16640) (n : Fin 16) (d : Fin 128) :
    heads p (ix3 i n d) = p (ix2 i ⟨n.val * 128 + d.val, by omega⟩) := by
  pointwise [heads]

/-- A head's sum of squares. -/
theorem squares_apply (h : FVec Ideal S16640x16x128 .f32) (i : Fin 16640) (n : Fin 16) :
    squares h (ix2 i n) = ∑ k : Fin 128, h (ix3 i n k) * h (ix3 i n k) := by
  pointwise [squares]

/-- A head's scale. -/
theorem scales_apply (q : FVec Ideal S16640x16 .f32) (i : Fin 16640) (n : Fin 16) :
    scales q (ix3 i n 0) = Ideal.rsqrt (Ideal.div (q (ix2 i n)) (Ideal.ofBits .f32 0x43000000#32) + Ideal.ofBits .f32 0x358637BD#32) := by
  pointwise [scales]

/-- A weight of the norm. -/
theorem weights_apply (g : FVec Ideal S4x2x128 .f32) (d : Fin 128) : weights g (ix1 d) = g (ix3 0 0 d) := by
  pointwise [weights]

/-- An entry of the scaled heads. -/
theorem scaled_apply (h : FVec Ideal S16640x16x128 .f32) (s : FVec Ideal S16640x16x1 .f32) (g : FVec Ideal S128 .f32) (i : Fin 16640) (n : Fin 16) (d : Fin 128) :
    scaled h s g (ix3 i n d) = h (ix3 i n d) * s (ix3 i n 0) * g (ix1 d) := by
  pointwise [scaled]

/-- A normed head. -/
theorem normed_apply (h : FVec Ideal S16640x16x128 .f32) (g : FVec Ideal S4x2x128 .f32) (i : Fin 16640) (n : Fin 16) (d : Fin 128) :
    normed h g (ix3 i n d) = Rope.row (fun k => h (ix3 i n k)) (fun k => g (ix3 0 0 k)) d := by
  unfold normed Rope.row Head.entry
  rw [scaled_apply, scales_apply, squares_apply, weights_apply]

theorem latent_apply (n : FVec Ideal S16640x16x128 .f32) (i : Fin 16384) (a : Fin 16) (d : Fin 128) : latent n (ix3 i a d) = n (ix3 ⟨i.val, by omega⟩ a d) := by
  pointwise [latent]
theorem context_apply (n : FVec Ideal S16640x16x128 .f32) (i : Fin 256) (a : Fin 16) (d : Fin 128) : context n (ix3 i a d) = n (ix3 ⟨16384 + i.val, by omega⟩ a d) := by
  pointwise [context]
theorem second_apply (n : FVec Ideal S16384x16x128 .f32) (i : Fin 16384) (a : Fin 16) (h : Fin 2) (e : Fin 32) :
    second n (ix5 i a h 0 e) = -n (ix3 i a ⟨h.val * 64 + 32 + e.val, by omega⟩) := by
  pointwise [second]
theorem first_apply (n : FVec Ideal S16384x16x128 .f32) (i : Fin 16384) (a : Fin 16) (h : Fin 2) (e : Fin 32) :
    first n (ix5 i a h 0 e) = n (ix3 i a ⟨h.val * 64 + e.val, by omega⟩) := by
  pointwise [first]
theorem turned_apply (a b : FVec Ideal S16384x16x2x1x32 .f32) (i : Fin 16384) (n : Fin 16) (d : Fin 128) :
    turned a b (ix3 i n d) = if h : d.val / 32 % 2 < 1 then a (ix5 i n ⟨d.val / 64, by omega⟩ ⟨d.val / 32 % 2, h⟩ ⟨d.val % 32, by omega⟩)
      else b (ix5 i n ⟨d.val / 64, by omega⟩ ⟨d.val / 32 % 2 - 1, by omega⟩ ⟨d.val % 32, by omega⟩) := by
  pointwise [turned]

/-- An entry of the rotated heads. -/
theorem rotated_apply (n t : FVec Ideal S16384x16x128 .f32) (c s : FVec Ideal S16384x128 .f32) (i : Fin 16384) (a : Fin 16) (d : Fin 128) :
    rotated n t c s (ix3 i a d) = n (ix3 i a d) * c (ix2 i d) + t (ix3 i a d) * s (ix2 i d) := by
  pointwise [rotated]

theorem tokens_apply (a : FVec Ideal S16384x16x128 .f32) (b : FVec Ideal S256x16x128 .f32) (i : Fin 16640) (n : Fin 16) (d : Fin 128) :
    tokens a b (ix3 i n d) = if h : i.val < 16384 then a (ix3 ⟨i.val, h⟩ n d) else b (ix3 ⟨i.val - 16384, by omega⟩ n d) := by
  pointwise [tokens]

theorem flat_apply (k : FVec Ideal S16640x16x128 .f32) (i : Fin 16640) (j : Fin 2048) :
    flat k (ix2 i j) = k (ix3 i ⟨j.val / 128, by omega⟩ ⟨j.val % 128, by omega⟩) * (((Real.sqrt 128)⁻¹ * (Real.log 2)⁻¹ : ℝ) : EReal) := by
  rw [Cert.Scale.mul_eq_div]
  pointwise [flat]

/-- The heads in the other order: each lane's partner, with the sign. -/
theorem turned_eq (n : FVec Ideal S16384x16x128 .f32) (i : Fin 16384) (a : Fin 16) (d : Fin 128) :
    turned (second n) (first n) (ix3 i a d) = Rope.turned (fun k => n (ix3 i a k)) d := by
  rw [turned_apply, ← Rope.turned_of]
  by_cases h : d.val / 32 % 2 < 1
  · rw [dif_pos h, if_pos h, Subsingleton.elim (⟨d.val / 32 % 2, h⟩ : Fin 1) 0, second_apply]
  · rw [dif_neg h, if_neg h, Subsingleton.elim (⟨d.val / 32 % 2 - 1, by omega⟩ : Fin 1) 0, first_apply]

/-- A lane of a head, rotated where latent. -/
theorem roped_apply (n : FVec Ideal S16640x16x128 .f32) (c s : FVec Ideal S16384x128 .f32) (i : Fin 16640) (a : Fin 16) (d : Fin 128) :
    roped n c s (ix3 i a d) = Rope.spin (fun k => n (ix3 i a k)) (ProjKV.tab c 1 i d) (ProjKV.signed s i d) d := by
  unfold roped ProjKV.tab ProjKV.signed
  rw [tokens_apply]
  by_cases h : i.val < 16384
  · rw [dif_pos h, dif_pos h, dif_pos h, rotated_apply, turned_eq, Rope.spin_sign]
    simp only [latent_apply]
  · have e : (⟨16384 + (i.val - 16384), by omega⟩ : Fin 16640) = i := Fin.ext (by show 16384 + (i.val - 16384) = i.val; omega)
    rw [dif_neg h, dif_neg h, dif_neg h, context_apply, Rope.spin_still, e]

/-- An entry of the result. -/
theorem result_apply (p : FVec Ideal S16640x2048 .f32) (g : FVec Ideal S4x2x128 .f32) (c s : FVec Ideal S16384x128 .f32) (i : Fin 16640) (j : Fin 2048) :
    result p g c s (ix2 i j) = Rope.spin (Rope.row (fun k => p (ix2 i ⟨j.val / 128 * 128 + k.val, by omega⟩)) (fun k => g (ix3 0 0 k)))
      (ProjKV.tab c 1 i ⟨j.val % 128, by omega⟩) (ProjKV.signed s i ⟨j.val % 128, by omega⟩) ⟨j.val % 128, by omega⟩ * (((Real.sqrt 128)⁻¹ * (Real.log 2)⁻¹ : ℝ) : EReal) := by
  unfold result
  rw [flat_apply, roped_apply]
  simp only [normed_apply, heads_apply]

end Cert.ReferenceProjQIdeal.ProjQ

namespace Cert.KernelProjQIdeal.ProjQ

open Cert.KernelProjQIdeal Cert.KernelProjQIdeal.Gen Idealize.ShloMosaic Idealize.ShloMosaic.Pointwise Idealize.ShloMosaic.TcCoe Idealize.SL.Sem

open Cert.KernelProjKVIdeal Cert.KernelProjVIdeal

variable (m : (ℓ : Loc nD τ sig) → Buf (Elt Ideal) ℓ)

/-- The table of signed sines. -/
theorem sines (c : Dev nD) (i : Fin 16640) (j : Fin 128) :
    V m c main_v12 (ix2 i j) = Cert.ReferenceProjKVIdeal.ProjKV.signed (m ((c.tc : Thread nD τ).loc main_arg4)) i j := by
  have h : V m c main_v12 (ix2 i j) = ProjKV.sine (m ((c.tc : Thread nD τ).loc main_arg4)) i j := by
    unfold V
    simp only [hostOps0, hostOps0_1, hostOps0_2, hostOps0_3, hostOps0_4, List.flatten_cons, List.flatten_nil, List.append_nil, List.cons_append, List.nil_append]
    after_results_simp
    pointwise
    rfl
  rw [h]
  unfold ProjKV.sine Cert.ReferenceProjKVIdeal.ProjKV.signed
  rw [ProjKV.signs_apply]

/-- The table of cosines. -/
theorem cosines (c : Dev nD) (i : Fin 16640) (j : Fin 128) :
    V m c main_v7 (ix2 i j) = Cert.ReferenceProjKVIdeal.ProjKV.tab (m ((c.tc : Thread nD τ).loc main_arg3)) 1 i j := by
  unfold V
  simp only [hostOps0, hostOps0_1, hostOps0_2, hostOps0_3, hostOps0_4, List.flatten_cons, List.flatten_nil, List.append_nil, List.cons_append, List.nil_append]
  after_results_simp
  pointwise
  rfl

/-- The norm's weights. -/
theorem gains (c : Dev nD) (j : Fin 128) : V m c main_v13 (ix4 0 0 0 j) = (m ((c.tc : Thread nD τ).loc main_arg2) : FVec Ideal S4x2x128 .f32) (ix3 0 0 j) := by
  unfold V
  simp only [hostOps0, hostOps0_1, hostOps0_2, hostOps0_3, hostOps0_4, List.flatten_cons, List.flatten_nil, List.append_nil, List.cons_append, List.nil_append]
  after_results_simp
  pointwise

/-- The number that the queries carry. -/
def scale : EReal := (((Real.sqrt 128)⁻¹ * (Real.log 2)⁻¹ : ℝ) : EReal)

theorem named_eq : (Named.named (F := Ideal) κ "query_scale" (φ := .f32) 0x3E0293EE#32 : EReal) = scale :=
  IdealRules.named_const.ideal_named_scalar κ "query_scale" (φ := .f32) 0x3E0293EE#32 (((Real.sqrt 128)⁻¹ * (Real.log 2)⁻¹ : ℝ) : EReal) rfl

/-- Two heads of a step's columns, normed, rotated and scaled. -/
def pair (v : FVec Ideal S1040x256 .f32) (g : Vec Ideal S1x1x1x128 .f32) (c s : Vec Ideal S1040x128 .f32) : FVec Ideal S1040x256 .bf16 :=
  ProjKV.heads v g c s (Named.named (F := Ideal) κ "query_scale" (φ := .f32) 0x3E0293EE#32)

/-- The first of them. -/
def left (v : FVec Ideal S1040x256 .f32) (g : Vec Ideal S1x1x1x128 .f32) (c s : Vec Ideal S1040x128 .f32) : FVec Ideal S1040x128 .f32 :=
  ProjKV.spun (ProjV.normed (ProjV.low v) (ProjKV.gain g)) (ProjKV.rows c) (ProjKV.rows s) (Named.named (F := Ideal) κ "query_scale" (φ := .f32) 0x3E0293EE#32)

/-- The four steps' stores. -/
theorem left0_eq (x : Vec Ideal S1040x4096 .bf16) (w : Vec Ideal S1x4096x256 .bf16) (g : Vec Ideal S1x1x1x128 .f32) (c s : Vec Ideal S1040x128 .f32) :
    k0_pay6 (F := Ideal) x w g c s = left (ProjKV.cols x w) g c s := rfl
theorem step0_eq (x : Vec Ideal S1040x4096 .bf16) (w : Vec Ideal S1x4096x256 .bf16) (g : Vec Ideal S1x1x1x128 .f32) (c s : Vec Ideal S1040x128 .f32) :
    k0_pay7 (F := Ideal) (k0_pay2 x w) (k0_pay3 g) (k0_pay4 c) (k0_pay5 s) (k0_pay6 x w g c s) = pair (ProjKV.cols x w) g c s := by
  rw [left0_eq]
  rfl
theorem left1_eq (v : FVec Ideal S1040x256 .f32) (g : Vec Ideal S1x1x1x128 .f32) (c s : Vec Ideal S1040x128 .f32) :
    k0_pay12 (F := Ideal) v (k0_pay9 g) (k0_pay10 c) s = left v g c s := rfl
theorem right1_eq (v : FVec Ideal S1040x256 .f32) (g : Vec Ideal S1x1x1x128 .f32) : k0_pay13 (F := Ideal) v (k0_pay9 g) = ProjV.normed (ProjV.high v) (ProjKV.gain g) := rfl
theorem step1_eq (x : Vec Ideal S1040x4096 .bf16) (w : Vec Ideal S1x4096x256 .bf16) (g : Vec Ideal S1x1x1x128 .f32) (c s : Vec Ideal S1040x128 .f32) :
    k0_pay16 (F := Ideal) (k0_pay10 c) (k0_pay11 s) (k0_pay12 (k0_pay8 x w) (k0_pay9 g) (k0_pay10 c) s) (k0_pay13 (k0_pay8 x w) (k0_pay9 g)) k0_pay14 (k0_pay15 (k0_pay8 x w) (k0_pay9 g))
      = pair (ProjKV.cols x w) g c s := by
  unfold k0_pay15
  rw [left1_eq, right1_eq]
  rfl
theorem left2_eq (x : Vec Ideal S1040x4096 .bf16) (w : Vec Ideal S1x4096x256 .bf16) (g : Vec Ideal S1x1x1x128 .f32) :
    k0_pay21 (F := Ideal) x w g = ProjV.normed (ProjV.low (ProjKV.cols x w)) (ProjKV.gain g) := rfl
theorem step2_eq (x : Vec Ideal S1040x4096 .bf16) (w : Vec Ideal S1x4096x256 .bf16) (g : Vec Ideal S1x1x1x128 .f32) (c s : Vec Ideal S1040x128 .f32) :
    k0_pay23 (F := Ideal) (k0_pay17 x w) (k0_pay18 g) (k0_pay19 c) (k0_pay20 s) (k0_pay21 x w g) k0_pay22 96#32 = pair (ProjKV.cols x w) g c s := by
  rw [left2_eq]
  rfl
theorem left3_eq (v : FVec Ideal S1040x256 .f32) (g : Vec Ideal S1x1x1x128 .f32) (c s : Vec Ideal S1040x128 .f32) :
    k0_pay28 (F := Ideal) v g c s = left v g c s := rfl
theorem step3_eq (x : Vec Ideal S1040x4096 .bf16) (w : Vec Ideal S1x4096x256 .bf16) (g : Vec Ideal S1x1x1x128 .f32) (c s : Vec Ideal S1040x128 .f32) :
    k0_pay1 (F := Ideal) (k0_pay26 c) (k0_pay27 s) (k0_pay28 (k0_pay24 x w) g c s) (k0_pay29 (k0_pay24 x w)) (k0_pay30 g) = pair (ProjKV.cols x w) g c s := by
  rw [left3_eq]
  rfl

/-- The block of queries. -/
def block (x : Vec Ideal S1040x4096 .bf16) (w : Vec Ideal S1x4096x1024 .bf16) (g : Vec Ideal S1x1x1x128 .f32) (c s : Vec Ideal S1040x128 .f32) : Vec Ideal S1040x1024 .bf16 :=
  fun y => ProjKV.lane x w g c s scale (y 0) (y 1)

/-- What a step stores is a part of the block. -/
theorem step_eq (o : ℕ) (ho : 128 ∣ o) (inbw : ∀ a, (![0, 0, o] : Fin 3 → ℕ) a + S1x4096x256.size a ≤ S1x4096x1024.size a)
    (inb : ∀ a, (![0, o] : Fin 2 → ℕ) a + S1040x256.size a ≤ S1040x1024.size a)
    (x : Vec Ideal S1040x4096 .bf16) (w : Vec Ideal S1x4096x1024 .bf16) (g : Vec Ideal S1x1x1x128 .f32) (c s : Vec Ideal S1040x128 .f32) (z : S1040x256.Idx) :
    pair (ProjKV.cols (View.ld x r0_0) (View.ld w (Rect.unit (s := S1x4096x1024) ![0, 0, o] S1x4096x256.size inbw)))
        (View.ld g r0_2) (View.ld c r0_3) (View.ld s r0_3) z
      = block x w g c s ((Rect.unit (s := S1040x1024) ![0, o] S1040x256.size inb).emb z) := by
  obtain ⟨r, l, rfl⟩ : ∃ (r : Fin 1040) (l : Fin 256), z = (ix2 r l : S1040x256.Idx) :=
    ⟨z 0, z 1, by funext a; match a with | 0 => rfl | 1 => rfl⟩
  have ho' : o + 256 ≤ 1024 := inb 1
  have h : o + l.val < 1024 := by omega
  unfold pair
  rw [named_eq]
  exact (ProjKV.heads_eq o ho inbw x w g c s scale r l h).trans (congrArg (block x w g c s) (ProjKV.place o inb r l h)).symm

/-- The body leaves the block. -/
theorem out_eq (x : Vec Ideal S1040x4096 .bf16) (w : Vec Ideal S1x4096x1024 .bf16) (g : Vec Ideal S1x1x1x128 .f32) (c s : Vec Ideal S1040x128 .f32) :
    out0_5 (F := Ideal) x w g c s = block x w g c s := by
  unfold_out out0_5
  rw [step0_eq, step1_eq, step2_eq, step3_eq]
  funext y
  refine View.canon_apply_of_pieces (block x w g c s) _ (fun p hp => ?_) y (cover0_5 _ _ _ _ y)
  simp only [List.mem_cons, List.not_mem_nil, or_false] at hp
  rcases hp with rfl | rfl | rfl | rfl
  · exact step_eq 768 (by decide) (by decide) (by decide) x w g c s
  · exact step_eq 512 (by decide) (by decide) (by decide) x w g c s
  · exact step_eq 256 (by decide) (by decide) (by decide) x w g c s
  · exact step_eq 0 (by decide) (by decide) (by decide) x w g c s

/-- Which block each window holds at a point. -/
theorem idx0 : ∀ t : Fin cfg0.N, (cfg0.win 0).index t 0 = t.val / 2 ∧ (cfg0.win 0).index t 1 = 0 := by decide +kernel
theorem idx1 : ∀ t : Fin cfg0.N, (cfg0.win 1).index t 0 = 0 ∧ (cfg0.win 1).index t 1 = 0 ∧ (cfg0.win 1).index t 2 = t.val % 2 := by decide +kernel
theorem idx2 : ∀ t : Fin cfg0.N, (cfg0.win 2).index t 0 = 0 ∧ (cfg0.win 2).index t 1 = 0 ∧ (cfg0.win 2).index t 2 = 0 ∧ (cfg0.win 2).index t 3 = 0 := by decide +kernel
theorem idx3 : ∀ t : Fin cfg0.N, (cfg0.win 3).index t 0 = t.val / 2 ∧ (cfg0.win 3).index t 1 = 0 := by decide +kernel
theorem idx4 : ∀ t : Fin cfg0.N, (cfg0.win 4).index t 0 = t.val / 2 ∧ (cfg0.win 4).index t 1 = 0 := by decide +kernel
theorem idx5 : ∀ t : Fin cfg0.N, (cfg0.win 5).index t 0 = t.val / 2 ∧ (cfg0.win 5).index t 1 = t.val % 2 := by decide +kernel

/-- The block of inputs is a range of rows. -/
theorem read0 (c : Dev nD) (t : Fin cfg0.N) (i : Fin 1040) (j : Fin 4096) (i' : Fin 16640) (hi : i'.val = 1040 * (t.val / 2) + i.val) :
    (Gen.iblk m c 0 t : Vec Ideal S1040x4096 .bf16) (ix2 i j) = (m ((c.tc : Thread nD τ).loc main_arg0) : FVec Ideal S16640x4096 .bf16) (ix2 i' j) := by
  have e := idx0 t
  show V m c main_arg0 (((cfg0.win 0).blk t).view.emb (ix2 i j)) = _
  rw [V_main_arg0]
  blk_ext [e]

/-- The block of weights is a range of columns. -/
theorem read1 (c : Dev nD) (t : Fin cfg0.N) (i : Fin 4096) (j : Fin 1024) (k : Fin 8192) (hk : k.val = 1024 * (t.val % 2) + j.val) :
    (Gen.iblk m c 1 t : Vec Ideal S1x4096x1024 .bf16) (ix3 0 i j) = (m ((c.tc : Thread nD τ).loc main_arg1) : FVec Ideal S4x4096x8192 .bf16) (ix3 0 i k) := by
  have e := idx1 t
  show V m c main_arg1 (((cfg0.win 1).blk t).view.emb (ix3 0 i j)) = _
  rw [V_main_arg1]
  blk_ext [e]

/-- The weights of the norm. -/
theorem read2 (c : Dev nD) (t : Fin cfg0.N) (j : Fin 128) :
    (Gen.iblk m c 2 t : Vec Ideal S1x1x1x128 .f32) (ix4 0 0 0 j) = (m ((c.tc : Thread nD τ).loc main_arg2) : FVec Ideal S4x2x128 .f32) (ix3 0 0 j) := by
  have e := idx2 t
  have h : ((cfg0.win 2).blk t).view.emb (ix4 0 0 0 j) = (ix4 0 0 0 j : S4x2x1x128.Idx) := by blk_ext [e]
  show V m c main_v13 (((cfg0.win 2).blk t).view.emb (ix4 0 0 0 j)) = _
  rw [h]
  exact gains m c j

/-- The block of cosines. -/
theorem read3 (c : Dev nD) (t : Fin cfg0.N) (i : Fin 1040) (j : Fin 128) (i' : Fin 16640) (hi : i'.val = 1040 * (t.val / 2) + i.val) :
    (Gen.iblk m c 3 t : Vec Ideal S1040x128 .f32) (ix2 i j) = Cert.ReferenceProjKVIdeal.ProjKV.tab (m ((c.tc : Thread nD τ).loc main_arg3)) 1 i' j := by
  have e := idx3 t
  have h : ((cfg0.win 3).blk t).view.emb (ix2 i j) = (ix2 i' j : S16640x128.Idx) := by blk_ext [e]
  show V m c main_v7 (((cfg0.win 3).blk t).view.emb (ix2 i j)) = _
  rw [h]
  exact cosines m c i' j

/-- The block of signed sines. -/
theorem read4 (c : Dev nD) (t : Fin cfg0.N) (i : Fin 1040) (j : Fin 128) (i' : Fin 16640) (hi : i'.val = 1040 * (t.val / 2) + i.val) :
    (Gen.iblk m c 4 t : Vec Ideal S1040x128 .f32) (ix2 i j) = Cert.ReferenceProjKVIdeal.ProjKV.signed (m ((c.tc : Thread nD τ).loc main_arg4)) i' j := by
  have e := idx4 t
  have h : ((cfg0.win 4).blk t).view.emb (ix2 i j) = (ix2 i' j : S16640x128.Idx) := by blk_ext [e]
  show V m c main_v12 (((cfg0.win 4).blk t).view.emb (ix2 i j)) = _
  rw [h]
  exact sines m c i' j

/-- The blocks give the block of the reference's result. -/
theorem tile (a0 : FVec Ideal S16640x4096 .bf16) (a1 : FVec Ideal S4x4096x8192 .bf16) (a2 : FVec Ideal S4x2x128 .f32) (a3 a4 : FVec Ideal S16384x128 .f32)
    (x : Vec Ideal S1040x4096 .bf16) (w : Vec Ideal S1x4096x1024 .bf16) (g : Vec Ideal S1x1x1x128 .f32) (c s : Vec Ideal S1040x128 .f32)
    (r : Fin 1040) (l : Fin 1024) (i : Fin 16640) (q : ℕ) (hq : q < 2)
    (hx : ∀ k : Fin 4096, x (ix2 r k) = a0 (ix2 i k)) (hw : ∀ (k : Fin 4096) (l : Fin 1024), w (ix3 0 k l) = a1 (ix3 0 k ⟨1024 * q + l.val, by omega⟩))
    (hg : ∀ l : Fin 128, g (ix4 0 0 0 l) = a2 (ix3 0 0 l)) (hc : ∀ l : Fin 128, c (ix2 r l) = Cert.ReferenceProjKVIdeal.ProjKV.tab a3 1 i l)
    (hs : ∀ l : Fin 128, s (ix2 r l) = Cert.ReferenceProjKVIdeal.ProjKV.signed a4 i l) :
    block x w g c s (ix2 r l) = Cert.ReferenceProjQIdeal.ProjQ.result (F := Ideal) (Cert.ReferenceProjQIdeal.ProjQ.prod a0 a1) a2 a3 a4 (ix2 i ⟨1024 * q + l.val, by omega⟩) := by
  have hp : ∀ l : Fin 1024, Cert.ReferenceProjQIdeal.ProjQ.prod (F := Ideal) a0 a1 (ix2 i ⟨1024 * q + l.val, by omega⟩) = ProjKV.cell x w r l := by
    intro l
    rw [Cert.ReferenceProjQIdeal.ProjQ.prod_apply]
    exact (Finset.sum_congr rfl fun k _ => congrArg₂ HMul.hMul (hx k) (hw k l)).symm
  have hk : ∀ k : Fin 128, (⟨(1024 * q + l.val) / 128 * 128 + k.val, by omega⟩ : Fin 2048) = ⟨1024 * q + (l.val / 128 * 128 + k.val), by omega⟩ :=
    fun k => Fin.ext (by show (1024 * q + l.val) / 128 * 128 + k.val = 1024 * q + (l.val / 128 * 128 + k.val); omega)
  have hl : (⟨(1024 * q + l.val) % 128, by omega⟩ : Fin 128) = ⟨l.val % 128, by omega⟩ := Fin.ext (by show (1024 * q + l.val) % 128 = l.val % 128; omega)
  have hr : ∀ k : Fin 128, Cert.ReferenceProjQIdeal.ProjQ.prod (F := Ideal) a0 a1 (ix2 i ⟨(1024 * q + l.val) / 128 * 128 + k.val, by omega⟩) = ProjKV.cell x w r ⟨l.val / 128 * 128 + k.val, by omega⟩ := by
    intro k
    rw [hk]
    exact hp ⟨l.val / 128 * 128 + k.val, by omega⟩
  rw [Cert.ReferenceProjQIdeal.ProjQ.result_apply, ← hc, ← hs]
  simp only [← hg, hr, hl]
  rfl

/-- The kernel's output array is the reference's result. -/
theorem arr_eq (c : Dev nD) :
    (Gen.dats m 0 c).arrAt 5 cfg0.N
      = Cert.ReferenceProjQIdeal.ProjQ.result (F := Ideal) (Cert.ReferenceProjQIdeal.ProjQ.prod (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  refine (Gen.dats m 0 c).arrAt_eq_of_covers 5 _ (by decide +kernel) fun t hf y => ?_
  blk_simp
  have ht : t.val < 32 := t.isLt
  have e := idx5 t
  obtain ⟨r, l, rfl⟩ : ∃ (r : Fin 1040) (l : Fin 1024), y = (ix2 r l : S1040x1024.Idx) :=
    ⟨y 0, y 1, by funext a; match a with | 0 => rfl | 1 => rfl⟩
  have hy : (win0_5.blk t).view.emb (ix2 r l : S1040x1024.Idx)
      = (ix2 ⟨1040 * (t.val / 2) + r.val, by omega⟩ ⟨1024 * (t.val % 2) + l.val, by omega⟩ : S16640x2048.Idx) := by
    blk_ext [e]
  rw [hy, after0_5, out_eq]
  exact tile _ _ _ _ _ _ _ _ _ _ r l _ (t.val % 2) (by omega) (fun k => read0 m c t r k _ rfl) (fun k l => read1 m c t k l _ rfl) (fun l => read2 m c t l)
    (fun l => read3 m c t r l _ rfl) (fun l => read4 m c t r l _ rfl)

end Cert.KernelProjQIdeal.ProjQ

end
-- ==== Proof.Finite.lean ====
module

public import proofs.«01_k».proof.Proof.Tiles
public import proofs.«01_k».proof.Pre_finite_qk

/-! The precondition in words: every query and every key is a real number. -/

@[expose] public section

noncomputable section

namespace Cert.Pre_finite_qk

open Idealize.ShloMosaic Idealize.ShloMosaic.Pointwise Facts

/-- An extended real whose absolute value is below infinity is a real number. -/
theorem real_of_abs_lt (a : EReal) (h : FloatOps.cmpf (F := Ideal) (φ := .f32) .olt (max a (-a)) (Ideal.ofBits .f32 0x7F800000#32) = 1#1) :
    ∃ x : ℝ, a = (x : EReal) := by
  have hb : Ideal.ofBits .f32 0x7F800000#32 = (⊤ : EReal) := by simp [Ideal.ofBits, Ideal.ieee]
  rw [hb] at h
  induction a with
  | bot => simp [Ideal.cmpf_def, Ideal.cmp] at h
  | top => simp [Ideal.cmpf_def, Ideal.cmp] at h
  | coe x => exact ⟨x, rfl⟩

variable [Facts]

/-- The precondition's two tables of ones say that queries and keys are real. -/
theorem realQK (a0 : FVec Ideal S16640x2048 .bf16) (a1 : FVec Ideal S16640x1024 .bf16)
    (h : (fn (F := Ideal) a0 a1).1 = fun _ => 1#1) (h' : (fn (F := Ideal) a0 a1).2 = fun _ => 1#1) :
    Cert.KernelIdeal.Attn.RealQK a0 a1 where
  q i j := by
    have e := congrFun h (ix2 i j)
    unfold fn at e
    pointwise at e
    exact real_of_abs_lt _ e
  k i j hj := by
    have e := congrFun h' (ix2 i ⟨j.val, hj⟩)
    unfold fn at e
    pointwise at e
    exact real_of_abs_lt _ e

end Cert.Pre_finite_qk

end
-- ==== Proof.lean ====
/- The proof of the certificate's claim: every program runs and leaves its arguments and every semaphore as they
   were; each kernel's result is its reference's, for the attention with finite queries and keys. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelProjB
public import proofs.«01_k».proof.Proof.Gen.KernelProjB.Skeleton
public import proofs.«01_k».proof.Proof.Gen.KernelProjB.Launch
public import proofs.«01_k».proof.Proof.Gen.KernelProjB.Points
public import proofs.«01_k».proof.Proof.Gen.KernelProjB.Frame
public import proofs.«01_k».proof.Proof.Gen.KernelProjBIdeal
public import proofs.«01_k».proof.Proof.Gen.KernelProjBIdeal.Skeleton
public import proofs.«01_k».proof.Proof.Gen.KernelProjBIdeal.Launch
public import proofs.«01_k».proof.Proof.Gen.KernelProjBIdeal.Points
public import proofs.«01_k».proof.Proof.Gen.KernelProjBIdeal.Frame
public import proofs.«01_k».proof.Proof.Gen.KernelProjBIdeal.Value
public import proofs.«01_k».proof.Proof.Gen.ReferenceProjBIdeal
public import proofs.«01_k».proof.Proof.Gen.ReferenceProjBIdeal.Run
public import proofs.«01_k».proof.Proof.Gen.KernelProjU
public import proofs.«01_k».proof.Proof.Gen.KernelProjU.Skeleton
public import proofs.«01_k».proof.Proof.Gen.KernelProjU.Launch
public import proofs.«01_k».proof.Proof.Gen.KernelProjU.Points
public import proofs.«01_k».proof.Proof.Gen.KernelProjU.Frame
public import proofs.«01_k».proof.Proof.Gen.KernelProjUIdeal
public import proofs.«01_k».proof.Proof.Gen.KernelProjUIdeal.Skeleton
public import proofs.«01_k».proof.Proof.Gen.KernelProjUIdeal.Launch
public import proofs.«01_k».proof.Proof.Gen.KernelProjUIdeal.Points
public import proofs.«01_k».proof.Proof.Gen.KernelProjUIdeal.Frame
public import proofs.«01_k».proof.Proof.Gen.KernelProjUIdeal.Value
public import proofs.«01_k».proof.Proof.Gen.ReferenceProjUIdeal
public import proofs.«01_k».proof.Proof.Gen.ReferenceProjUIdeal.Run
public import proofs.«01_k».proof.Proof.Gen.KernelProjV
public import proofs.«01_k».proof.Proof.Gen.KernelProjV.Skeleton
public import proofs.«01_k».proof.Proof.Gen.KernelProjV.Launch
public import proofs.«01_k».proof.Proof.Gen.KernelProjV.Points
public import proofs.«01_k».proof.Proof.Gen.KernelProjV.Frame
public import proofs.«01_k».proof.Proof.Gen.KernelProjVIdeal
public import proofs.«01_k».proof.Proof.Gen.KernelProjVIdeal.Skeleton
public import proofs.«01_k».proof.Proof.Gen.KernelProjVIdeal.Launch
public import proofs.«01_k».proof.Proof.Gen.KernelProjVIdeal.Points
public import proofs.«01_k».proof.Proof.Gen.KernelProjVIdeal.Frame
public import proofs.«01_k».proof.Proof.Gen.KernelProjVIdeal.Value
public import proofs.«01_k».proof.Proof.Gen.ReferenceProjVIdeal
public import proofs.«01_k».proof.Proof.Gen.ReferenceProjVIdeal.Run
public import proofs.«01_k».proof.Proof.Gen.KernelProjKV
public import proofs.«01_k».proof.Proof.Gen.KernelProjKV.Skeleton
public import proofs.«01_k».proof.Proof.Gen.KernelProjKV.Launch
public import proofs.«01_k».proof.Proof.Gen.KernelProjKV.Points
public import proofs.«01_k».proof.Proof.Gen.KernelProjKV.Frame
public import proofs.«01_k».proof.Proof.Gen.KernelProjKVIdeal
public import proofs.«01_k».proof.Proof.Gen.KernelProjKVIdeal.Skeleton
public import proofs.«01_k».proof.Proof.Gen.KernelProjKVIdeal.Launch
public import proofs.«01_k».proof.Proof.Gen.KernelProjKVIdeal.Points
public import proofs.«01_k».proof.Proof.Gen.KernelProjKVIdeal.Frame
public import proofs.«01_k».proof.Proof.Gen.KernelProjKVIdeal.Value
public import proofs.«01_k».proof.Proof.Gen.ReferenceProjKVIdeal
public import proofs.«01_k».proof.Proof.Gen.ReferenceProjKVIdeal.Run
public import proofs.«01_k».proof.Proof.Gen.KernelProjQ
public import proofs.«01_k».proof.Proof.Gen.KernelProjQ.Skeleton
public import proofs.«01_k».proof.Proof.Gen.KernelProjQ.Launch
public import proofs.«01_k».proof.Proof.Gen.KernelProjQ.Points
public import proofs.«01_k».proof.Proof.Gen.KernelProjQ.Frame
public import proofs.«01_k».proof.Proof.Gen.KernelProjQIdeal
public import proofs.«01_k».proof.Proof.Gen.KernelProjQIdeal.Skeleton
public import proofs.«01_k».proof.Proof.Gen.KernelProjQIdeal.Launch
public import proofs.«01_k».proof.Proof.Gen.KernelProjQIdeal.Points
public import proofs.«01_k».proof.Proof.Gen.KernelProjQIdeal.Frame
public import proofs.«01_k».proof.Proof.Gen.KernelProjQIdeal.Value
public import proofs.«01_k».proof.Proof.Gen.ReferenceProjQIdeal
public import proofs.«01_k».proof.Proof.Gen.ReferenceProjQIdeal.Run
public import proofs.«01_k».proof.Proof.Whole
public import proofs.«01_k».proof.Proof.Up
public import proofs.«01_k».proof.Proof.Down
public import proofs.«01_k».proof.Proof.Outproj
public import proofs.«01_k».proof.Proof.Norm
public import proofs.«01_k».proof.Proof.ProjB
public import proofs.«01_k».proof.Proof.ProjU
public import proofs.«01_k».proof.Proof.ProjV
public import proofs.«01_k».proof.Proof.ProjKV
public import proofs.«01_k».proof.Proof.ProjQ
public import proofs.«01_k».proof.Proof.Finite
public import Idealize.ShloMosaic.Adequacy
public import Idealize.ShloMosaic.Lib.StableHlo.RunHlo
public import Idealize.ShloMosaic.Init
public import Idealize.ShloMosaic.Lib.Quiescent

@[expose] public section

noncomputable section

namespace Cert.Proof

open Idealize.ShloMosaic Idealize.SL.Sem

/-- The side conditions of the precondition's operations. -/
instance preFacts : Cert.Pre_finite_qk.Facts := by
  constructor <;> decide

/-- The reference runs, leaves its arguments and ends with every semaphore at zero. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems rfl r.2⟩) (Cert.ReferenceIdeal.Value.run m g)

/-- The reference of `KernelUp` runs, leaves its arguments and ends with every semaphore at zero. -/
theorem frameUp : Cert.quiescent_ReferenceUpIdeal :=
  fun m g _ => (θ_run _ _ _).mono (fun r h => ⟨fun c => (h c).2, sem_eq_zero_of_no_sems rfl r.2⟩) (Cert.ReferenceUpIdeal.Value.run m g)

/-- The result of `KernelUp` is its reference's. -/
theorem valueUp : Cert.algebraic_KernelUpIdeal_ReferenceUpIdeal :=
  fun m g m' g' _ hagree => by
    refine ⟨fun c => (Cert.KernelUpIdeal.Gen.dats m 0 c).arrAt 3 Cert.KernelUpIdeal.cfg0.N, Cert.KernelUpIdeal.Value.run_blocks m g,
      (θ_run _ _ _).mono (fun r h c => ⟨(h c).1.trans ?_, (h c).2⟩) (Cert.ReferenceUpIdeal.Value.run m' g')⟩
    refine Eq.trans ?_ (Cert.KernelUpIdeal.Up.arr_eq m c).symm
    rw [(hagree c).1, (hagree c).2]
    rfl

/-- The reference of `KernelDown` runs, leaves its arguments and ends with every semaphore at zero. -/
theorem frameDown : Cert.quiescent_ReferenceDownIdeal :=
  fun m g _ => (θ_run _ _ _).mono (fun r h => ⟨fun c => (h c).2, sem_eq_zero_of_no_sems rfl r.2⟩) (Cert.ReferenceDownIdeal.Value.run m g)

/-- The result of `KernelDown` is its reference's. -/
theorem valueDown : Cert.algebraic_KernelDownIdeal_ReferenceDownIdeal :=
  fun m g m' g' _ hagree => by
    refine ⟨fun c => (Cert.KernelDownIdeal.Gen.dats m 0 c).arrAt 4 Cert.KernelDownIdeal.cfg0.N, Cert.KernelDownIdeal.Value.run_blocks m g,
      (θ_run _ _ _).mono (fun r h c => ⟨(h c).1.trans ?_, (h c).2⟩) (Cert.ReferenceDownIdeal.Value.run m' g')⟩
    refine Eq.trans ?_ (Cert.KernelDownIdeal.Down.arr_eq m c).symm
    rw [(hagree c).1, (hagree c).2.1, (hagree c).2.2.1, (hagree c).2.2.2]
    rfl

/-- The reference of `KernelOut` runs, leaves its arguments and ends with every semaphore at zero. -/
theorem frameOut : Cert.quiescent_ReferenceOutIdeal :=
  fun m g _ => (θ_run _ _ _).mono (fun r h => ⟨fun c => (h c).2, sem_eq_zero_of_no_sems rfl r.2⟩) (Cert.ReferenceOutIdeal.Value.run m g)

/-- The result of `KernelOut` is its reference's. -/
theorem valueOut : Cert.algebraic_KernelOutIdeal_ReferenceOutIdeal :=
  fun m g m' g' _ hagree => by
    refine ⟨fun c => (Cert.KernelOutIdeal.Gen.dats m 0 c).arrAt 8 Cert.KernelOutIdeal.cfg0.N, Cert.KernelOutIdeal.Value.run_blocks m g,
      (θ_run _ _ _).mono (fun r h c => ⟨(h c).1.trans ?_, (h c).2⟩) (Cert.ReferenceOutIdeal.Value.run m' g')⟩
    refine Eq.trans ?_ (Cert.KernelOutIdeal.Out.arr_eq m c).symm
    rw [(hagree c).1, (hagree c).2.1, (hagree c).2.2.1, (hagree c).2.2.2.1, (hagree c).2.2.2.2.1, (hagree c).2.2.2.2.2]
    rfl

/-- The reference of `KernelNorm` runs, leaves its arguments and ends with every semaphore at zero. -/
theorem frameNorm : Cert.quiescent_ReferenceNormIdeal :=
  fun m g _ => (θ_run _ _ _).mono (fun r h => ⟨fun c => (h c).2, sem_eq_zero_of_no_sems rfl r.2⟩) (Cert.ReferenceNormIdeal.Value.run m g)

/-- The result of `KernelNorm` is its reference's. -/
theorem valueNorm : Cert.algebraic_KernelNormIdeal_ReferenceNormIdeal :=
  fun m g m' g' _ hagree => by
    refine ⟨fun c => (Cert.KernelNormIdeal.Gen.dats m 0 c).arrAt 2 Cert.KernelNormIdeal.cfg0.N, Cert.KernelNormIdeal.Value.run_blocks m g,
      (θ_run _ _ _).mono (fun r h c => ⟨(h c).1.trans ?_, (h c).2⟩) (Cert.ReferenceNormIdeal.Value.run m' g')⟩
    refine Eq.trans ?_ (Cert.KernelNormIdeal.Norm.arr_eq m c).symm
    rw [(hagree c).1, (hagree c).2]
    rfl

/-- The reference of `KernelProjB` runs, leaves its arguments and ends with every semaphore at zero. -/
theorem frameProjB : Cert.quiescent_ReferenceProjBIdeal :=
  fun m g _ => (θ_run _ _ _).mono (fun r h => ⟨fun c => (h c).2, sem_eq_zero_of_no_sems rfl r.2⟩) (Cert.ReferenceProjBIdeal.Value.run m g)

/-- The result of `KernelProjB` is its reference's. -/
theorem valueProjB : Cert.algebraic_KernelProjBIdeal_ReferenceProjBIdeal :=
  fun m g m' g' _ hagree => by
    refine ⟨fun c => (Cert.KernelProjBIdeal.Gen.dats m 0 c).arrAt 2 Cert.KernelProjBIdeal.cfg0.N, Cert.KernelProjBIdeal.Value.run_blocks m g,
      (θ_run _ _ _).mono (fun r h c => ⟨(h c).1.trans ?_, (h c).2⟩) (Cert.ReferenceProjBIdeal.Value.run m' g')⟩
    refine Eq.trans ?_ (Cert.KernelProjBIdeal.ProjB.arr_eq m c).symm
    rw [← (hagree c).1, ← (hagree c).2]
    rfl

/-- The reference of `KernelProjU` runs, leaves its arguments and ends with every semaphore at zero. -/
theorem frameProjU : Cert.quiescent_ReferenceProjUIdeal :=
  fun m g _ => (θ_run _ _ _).mono (fun r h => ⟨fun c => (h c).2, sem_eq_zero_of_no_sems rfl r.2⟩) (Cert.ReferenceProjUIdeal.Value.run m g)

/-- The result of `KernelProjU` is its reference's. -/
theorem valueProjU : Cert.algebraic_KernelProjUIdeal_ReferenceProjUIdeal :=
  fun m g m' g' _ hagree => by
    refine ⟨fun c => (Cert.KernelProjUIdeal.Gen.dats m 0 c).arrAt 2 Cert.KernelProjUIdeal.cfg0.N, Cert.KernelProjUIdeal.Value.run_blocks m g,
      (θ_run _ _ _).mono (fun r h c => ⟨(h c).1.trans ?_, (h c).2⟩) (Cert.ReferenceProjUIdeal.Value.run m' g')⟩
    refine Eq.trans ?_ (Cert.KernelProjUIdeal.ProjU.arr_eq m c).symm
    rw [← (hagree c).1, ← (hagree c).2]
    rfl

/-- The reference of `KernelProjV` runs, leaves its arguments and ends with every semaphore at zero. -/
theorem frameProjV : Cert.quiescent_ReferenceProjVIdeal :=
  fun m g _ => (θ_run _ _ _).mono (fun r h => ⟨fun c => (h c).2, sem_eq_zero_of_no_sems rfl r.2⟩) (Cert.ReferenceProjVIdeal.Value.run m g)

/-- The result of `KernelProjV` is its reference's. -/
theorem valueProjV : Cert.algebraic_KernelProjVIdeal_ReferenceProjVIdeal :=
  fun m g m' g' _ hagree => by
    refine ⟨fun c => (Cert.KernelProjVIdeal.Gen.dats m 0 c).arrAt 3 Cert.KernelProjVIdeal.cfg0.N, Cert.KernelProjVIdeal.Value.run_blocks m g,
      (θ_run _ _ _).mono (fun r h c => ⟨(h c).1.trans ?_, (h c).2⟩) (Cert.ReferenceProjVIdeal.Value.run m' g')⟩
    refine Eq.trans ?_ (Cert.KernelProjVIdeal.ProjV.arr_eq m c).symm
    rw [← (hagree c).1, ← (hagree c).2.1, ← (hagree c).2.2]
    rfl

/-- The reference of `KernelProjKV` runs, leaves its arguments and ends with every semaphore at zero. -/
theorem frameProjKV : Cert.quiescent_ReferenceProjKVIdeal :=
  fun m g _ => (θ_run _ _ _).mono (fun r h => ⟨fun c => (h c).2, sem_eq_zero_of_no_sems rfl r.2⟩) (Cert.ReferenceProjKVIdeal.Value.run m g)

/-- The result of `KernelProjKV` is its reference's. -/
theorem valueProjKV : Cert.algebraic_KernelProjKVIdeal_ReferenceProjKVIdeal :=
  fun m g m' g' _ hagree => by
    refine ⟨fun c => (Cert.KernelProjKVIdeal.Gen.dats m 0 c).arrAt 5 Cert.KernelProjKVIdeal.cfg0.N, Cert.KernelProjKVIdeal.Value.run_blocks m g,
      (θ_run _ _ _).mono (fun r h c => ⟨(h c).1.trans ?_, (h c).2⟩) (Cert.ReferenceProjKVIdeal.Value.run m' g')⟩
    refine Eq.trans ?_ (Cert.KernelProjKVIdeal.ProjKV.arr_eq m c).symm
    rw [← (hagree c).1, ← (hagree c).2.1, ← (hagree c).2.2.1, ← (hagree c).2.2.2.1, ← (hagree c).2.2.2.2]
    rfl

/-- The reference of `KernelProjQ` runs, leaves its arguments and ends with every semaphore at zero. -/
theorem frameProjQ : Cert.quiescent_ReferenceProjQIdeal :=
  fun m g _ => (θ_run _ _ _).mono (fun r h => ⟨fun c => (h c).2, sem_eq_zero_of_no_sems rfl r.2⟩) (Cert.ReferenceProjQIdeal.Value.run m g)

/-- The result of `KernelProjQ` is its reference's. -/
theorem valueProjQ : Cert.algebraic_KernelProjQIdeal_ReferenceProjQIdeal :=
  fun m g m' g' _ hagree => by
    refine ⟨fun c => (Cert.KernelProjQIdeal.Gen.dats m 0 c).arrAt 5 Cert.KernelProjQIdeal.cfg0.N, Cert.KernelProjQIdeal.Value.run_blocks m g,
      (θ_run _ _ _).mono (fun r h c => ⟨(h c).1.trans ?_, (h c).2⟩) (Cert.ReferenceProjQIdeal.Value.run m' g')⟩
    refine Eq.trans ?_ (Cert.KernelProjQIdeal.ProjQ.arr_eq m c).symm
    rw [← (hagree c).1, ← (hagree c).2.1, ← (hagree c).2.2.1, ← (hagree c).2.2.2.1, ← (hagree c).2.2.2.2]
    rfl

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelOut.Gen.facts, Cert.KernelOutIdeal.Gen.facts, Cert.ReferenceOutIdeal.Gen.facts,
    Cert.KernelNorm.Gen.facts, Cert.KernelNormIdeal.Gen.facts, Cert.ReferenceNormIdeal.Gen.facts,
    Cert.KernelProjB.Gen.facts, Cert.KernelProjBIdeal.Gen.facts, Cert.ReferenceProjBIdeal.Gen.facts,
    Cert.KernelProjU.Gen.facts, Cert.KernelProjUIdeal.Gen.facts, Cert.ReferenceProjUIdeal.Gen.facts,
    Cert.KernelProjV.Gen.facts, Cert.KernelProjVIdeal.Gen.facts, Cert.ReferenceProjVIdeal.Gen.facts,
    Cert.KernelProjKV.Gen.facts, Cert.KernelProjKVIdeal.Gen.facts, Cert.ReferenceProjKVIdeal.Gen.facts,
    Cert.KernelProjQ.Gen.facts, Cert.KernelProjQIdeal.Gen.facts, Cert.ReferenceProjQIdeal.Gen.facts,
    preFacts,
    fun m g _ => Cert.Kernel.Gen.frame m g,
    fun m g _ => Cert.KernelIdeal.Gen.frame m g,
    fun m g _ => Cert.KernelIdeal.Gen.frame m g,
    fun m g _ => refFrame m g,
    fun m g _ => refFrame m g,
    fun m g _ => Cert.KernelUp.Gen.frame m g, fun m g _ => Cert.KernelUpIdeal.Gen.frame m g, frameUp,
    fun m g _ => Cert.KernelDown.Gen.frame m g, fun m g _ => Cert.KernelDownIdeal.Gen.frame m g, frameDown,
    fun m g _ => Cert.KernelOut.Gen.frame m g, fun m g _ => Cert.KernelOutIdeal.Gen.frame m g, frameOut,
    fun m g _ => Cert.KernelNorm.Gen.frame m g, fun m g _ => Cert.KernelNormIdeal.Gen.frame m g, frameNorm,
    fun m g _ => Cert.KernelProjB.Gen.frame m g, fun m g _ => Cert.KernelProjBIdeal.Gen.frame m g, frameProjB,
    fun m g _ => Cert.KernelProjU.Gen.frame m g, fun m g _ => Cert.KernelProjUIdeal.Gen.frame m g, frameProjU,
    fun m g _ => Cert.KernelProjV.Gen.frame m g, fun m g _ => Cert.KernelProjVIdeal.Gen.frame m g, frameProjV,
    fun m g _ => Cert.KernelProjKV.Gen.frame m g, fun m g _ => Cert.KernelProjKVIdeal.Gen.frame m g, frameProjKV,
    fun m g _ => Cert.KernelProjQ.Gen.frame m g, fun m g _ => Cert.KernelProjQIdeal.Gen.frame m g, frameProjQ,
    trivial,
    fun m g m' g' hpre hagree => by
      have H := fun c => Cert.Pre_finite_qk.realQK _ _ (hpre c).1 (hpre c).2
      refine ⟨fun c => (Cert.KernelIdeal.Gen.dats m 0 c).arrAt 3 Cert.KernelIdeal.cfg0.N,
        Cert.KernelIdeal.Value.run_blocks m g,
        (θ_run _ _ _).mono (fun r h c => ⟨(h c).1.trans ?_, (h c).2⟩) (Cert.ReferenceIdeal.Value.run m' g')⟩
      refine ((Cert.ReferenceIdeal.Attn.res_eq m' c).trans ?_).trans (Cert.KernelIdeal.Attn.arr_eq m c (H c)).symm
      rw [(hagree c).1, (hagree c).2],
    trivial, valueUp,
    trivial, valueDown,
    trivial, valueOut,
    trivial, valueNorm,
    IdealRules.named_const.statement Cert.KernelProjBIdeal.κ _ _ _ _ rfl, valueProjB,
    trivial, valueProjU,
    trivial, valueProjV,
    trivial, valueProjKV,
    IdealRules.named_const.statement Cert.KernelProjQIdeal.κ _ _ _ _ rfl, valueProjQ⟩

end Cert.Proof

end
